-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_logit_finite [hPre_top_logit_finite : Cert.Pre_top_logit_finite.Facts] (m : (ℓ : Loc Cert.KernelIdeal.nD Cert.KernelIdeal.τ Cert.KernelIdeal.sig) → Buf (Elt Ideal) ℓ) : Prop :=
  ∀ c : Dev Cert.KernelIdeal.nD,
    (Cert.Pre_top_logit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_logit_finite [hPre_top_logit_finite : Cert.Pre_top_logit_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_logit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_top_logit_finite [hKernelIdeal : Cert.KernelIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_logit_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_logit_finite [hReferenceIdeal : Cert.ReferenceIdeal.Facts] [hPre_top_logit_finite : Cert.Pre_top_logit_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_logit_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_top_logit_finite [hKernelIdeal : Cert.KernelIdeal.Facts] [hReferenceIdeal : Cert.ReferenceIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_logit_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_logit_finite : Cert.Pre_top_logit_finite.Facts),
    quiescent_Kernel (hKernel := hKernel)
    ∧ quiescent_KernelIdeal (hKernelIdeal := hKernelIdeal)
    ∧ quiescent_KernelIdeal_pre_top_logit_finite (hKernelIdeal := hKernelIdeal) (hPre_top_logit_finite := hPre_top_logit_finite)
    ∧ quiescent_ReferenceIdeal (hReferenceIdeal := hReferenceIdeal)
    ∧ quiescent_ReferenceIdeal_pre_top_logit_finite (hReferenceIdeal := hReferenceIdeal) (hPre_top_logit_finite := hPre_top_logit_finite)
    ∧ preserves_Kernel_KernelIdeal
    ∧ algebraic_KernelIdeal_ReferenceIdeal_pre_top_logit_finite (hKernelIdeal := hKernelIdeal) (hReferenceIdeal := hReferenceIdeal) (hPre_top_logit_finite := hPre_top_logit_finite)
-- ==== Pre_top_logit_finite.lean ====
abbrev S8192x4104 : Shape := ⟨2, ![8192, 4104]⟩
abbrev S16384x128 : Shape := ⟨2, ![16384, 128]⟩
abbrev S8192x8 : Shape := ⟨2, ![8192, 8]⟩
abbrev S_ : Shape := ⟨0, ![]⟩
abbrev S8192 : Shape := ⟨1, ![8192]⟩

class Facts : Prop where
  slices_S8192x4104_S8192x8_0_0 : S8192x4104.Slices ![0, 0] S8192x8
  reducesTo_S8192x8_S8192_d1 : S8192x8.ReducesTo [1] S8192
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4104 .f32) (main_arg1 : FVec F S16384x128 .f32) : IVec S_ 1 :=
  let main_v0 : FVec F S8192x8 .f32 := (extractStridedSlice S8192x8 ![0, 0] · slices_S8192x4104_S8192x8_0_0) main_arg0
  let main_cst : FVec F S_ .f32 := constant S_ .f32 0xFF800000#32
  let main_v1 : FVec F S8192 .f32 := (fun x v => Host.reduce FloatOps.maximumf x v reducesTo_S8192x8_S8192_d1 h_S_) main_v0 main_cst
  let main_v2 : FVec F S8192 .f32 := Host.absf main_v1
  let main_cst_0 : FVec F S_ .f32 := constant S_ .f32 0x7F800000#32
  let main_v3 : FVec F S8192 .f32 := broadcastInDim S8192 ![] bcast_S_S8192 main_cst_0
  let main_v4 : IVec S8192 1 := cmpf .olt main_v2 main_v3
  let main_c : IVec S_ 1 := constantI S_ 1 1#1
  let main_v5 : IVec S_ 1 := (fun x v => Host.reduce IntOp.andi x v reducesTo_S8192_S_d0 h_S_) main_v4 main_c
  main_v5
-- ==== Kernel.lean ====
abbrev S8192x4104 : Shape := ⟨2, ![8192, 4104]⟩
abbrev S16384x128 : Shape := ⟨2, ![16384, 128]⟩
abbrev S512x128 : Shape := ⟨2, ![512, 128]⟩
abbrev S8192x512 : Shape := ⟨2, ![8192, 512]⟩
abbrev S8192x256 : Shape := ⟨2, ![8192, 256]⟩
abbrev S16x128 : Shape := ⟨2, ![16, 128]⟩
abbrev S272 : Shape := ⟨1, ![272]⟩
abbrev S8x4104 : Shape := ⟨2, ![8, 4104]⟩
abbrev S8x512 : Shape := ⟨2, ![8, 512]⟩
abbrev S8x256 : Shape := ⟨2, ![8, 256]⟩
abbrev S_ : Shape := ⟨0, ![]⟩
abbrev S16 : Shape := ⟨1, ![16]⟩
abbrev S1x16 : Shape := ⟨2, ![1, 16]⟩
abbrev S8192x8 : Shape := ⟨2, ![8192, 8]⟩

abbrev nBuf : Table → Nat
  | .hbm => 6
  | .local .scVector .vmem => 10
  | _ => 0

abbrev bufTy : (tb : Table) → Fin (nBuf tb) → BufTy
  | .hbm, ⟨0, _⟩ => ⟨S8192x4104, .f32⟩
  | .hbm, ⟨1, _⟩ => ⟨S16384x128, .f32⟩
  | .hbm, ⟨2, _⟩ => ⟨S512x128, .f32⟩
  | .hbm, ⟨3, _⟩ => ⟨S8192x512, .f32⟩
  | .hbm, ⟨4, _⟩ => ⟨S8192x256, .f32⟩
  | .hbm, ⟨5, _⟩ => ⟨S8192x8, .f32⟩
  | .local .scVector .vmem, ⟨0, _⟩ => ⟨S16x128, .f32⟩
  | .local .scVector .vmem, ⟨1, _⟩ => ⟨S272, .i32⟩
  | .local .scVector .vmem, ⟨2, _⟩ => ⟨S8x4104, .f32⟩
  | .local .scVector .vmem, ⟨3, _⟩ => ⟨S8x4104, .f32⟩
  | .local .scVector .vmem, ⟨4, _⟩ => ⟨S8x512, .f32⟩
  | .local .scVector .vmem, ⟨5, _⟩ => ⟨S8x512, .f32⟩
  | .local .scVector .vmem, ⟨6, _⟩ => ⟨S8x256, .f32⟩
  | .local .scVector .vmem, ⟨7, _⟩ => ⟨S8x256, .f32⟩
  | .local .scVector .vmem, ⟨8, _⟩ => ⟨S16x128, .f32⟩
  | .local .scVector .vmem, ⟨9, _⟩ => ⟨S16x128, .f32⟩
  | _, _ => ⟨S8192x4104, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v8 : BitVec 32 := Scalar.addi v2 c0_i32
  let c0_i32_0 : BitVec 32 := 0#32
  ![v8.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v8 : BitVec 32 := Scalar.addi v2 c0_i32
  let c2_i32_2 : BitVec 32 := 2#32
  let v11 : BitVec 32 := Scalar.muli v8 c2_i32_2
  let c0_i32_3 : BitVec 32 := 0#32
  ![v11.toNat, 0]
@[reducible] def k0_t1_loop : Scf.Loop 32 :=
  let c0_i32_6 : BitVec 32 := 0#32
  let c16_i32 : BitVec 32 := 16#32
  let v14 : BitVec 32 := Scalar.addi c0_i32_6 c16_i32
  let c1_i32 : BitVec 32 := 1#32
  ⟨c0_i32_6, v14, c1_i32⟩
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c1_i32_34 : BitVec 32 := 1#32
  let v30 : BitVec 32 := Scalar.addi v25 c1_i32_34
  let c8_i32_35 : BitVec 32 := 8#32
  let v31 : BitVec 32 := Scalar.muli v30 c8_i32_35
  let v32 : BitVec 32 := Scalar.addi v2 v31
  let c0_i32_36 : BitVec 32 := 0#32
  ![v32.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c1_i32_34 : BitVec 32 := 1#32
  let v30 : BitVec 32 := Scalar.addi v25 c1_i32_34
  let c8_i32_35 : BitVec 32 := 8#32
  let v31 : BitVec 32 := Scalar.muli v30 c8_i32_35
  let v32 : BitVec 32 := Scalar.addi v2 v31
  let c2_i32_38 : BitVec 32 := 2#32
  let v35 : BitVec 32 := Scalar.muli v32 c2_i32_38
  let c0_i32_39 : BitVec 32 := 0#32
  ![v35.toNat, 0]

def k0_chk1 (v5 : IVec S16 32) (v41 : IVec S16 32) : Prop :=
  (∀ a x, ((![v5, v41] : Fin 2 → IVec S16 32) a x).toNat < S8x4104.size a)
theorem k0_idx1_inb : ∀ (v5 : IVec S16 32) (v41 : IVec S16 32) (k0_hw1 : k0_chk1 v5 v41), ∀ a x, ((![v5, v41] : Fin 2 → IVec S16 32) a x).toNat < S8x4104.size a := fun v5 v41 k0_hw1 => k0_hw1

def k0_chk2 (v5 : IVec S16 32) (v43 : IVec S16 32) : Prop :=
  (∀ a x, ((![v5, v43] : Fin 2 → IVec S16 32) a x).toNat < S8x4104.size a)
theorem k0_idx2_inb : ∀ (v5 : IVec S16 32) (v43 : IVec S16 32) (k0_hw2 : k0_chk2 v5 v43), ∀ a x, ((![v5, v43] : Fin 2 → IVec S16 32) a x).toNat < S8x4104.size a := fun v5 v43 k0_hw2 => k0_hw2

def k0_chk3 (v5 : IVec S16 32) (v45 : IVec S16 32) : Prop :=
  (∀ a x, ((![v5, v45] : Fin 2 → IVec S16 32) a x).toNat < S8x4104.size a)
theorem k0_idx3_inb : ∀ (v5 : IVec S16 32) (v45 : IVec S16 32) (k0_hw3 : k0_chk3 v5 v45), ∀ a x, ((![v5, v45] : Fin 2 → IVec S16 32) a x).toNat < S8x4104.size a := fun v5 v45 k0_hw3 => k0_hw3

def k0_chk4 (v5 : IVec S16 32) (v47 : IVec S16 32) : Prop :=
  (∀ a x, ((![v5, v47] : Fin 2 → IVec S16 32) a x).toNat < S8x4104.size a)
theorem k0_idx4_inb : ∀ (v5 : IVec S16 32) (v47 : IVec S16 32) (k0_hw4 : k0_chk4 v5 v47), ∀ a x, ((![v5, v47] : Fin 2 → IVec S16 32) a x).toNat < S8x4104.size a := fun v5 v47 k0_hw4 => k0_hw4

def k0_chk5 (v5 : IVec S16 32) (v49 : IVec S16 32) : Prop :=
  (∀ a x, ((![v5, v49] : Fin 2 → IVec S16 32) a x).toNat < S8x4104.size a)
theorem k0_idx5_inb : ∀ (v5 : IVec S16 32) (v49 : IVec S16 32) (k0_hw5 : k0_chk5 v5 v49), ∀ a x, ((![v5, v49] : Fin 2 → IVec S16 32) a x).toNat < S8x4104.size a := fun v5 v49 k0_hw5 => k0_hw5

def k0_chk6 (v5 : IVec S16 32) (v51 : IVec S16 32) : Prop :=
  (∀ a x, ((![v5, v51] : Fin 2 → IVec S16 32) a x).toNat < S8x4104.size a)
theorem k0_idx6_inb : ∀ (v5 : IVec S16 32) (v51 : IVec S16 32) (k0_hw6 : k0_chk6 v5 v51), ∀ a x, ((![v5, v51] : Fin 2 → IVec S16 32) a x).toNat < S8x4104.size a := fun v5 v51 k0_hw6 => k0_hw6

def k0_chk7 (v5 : IVec S16 32) (v53 : IVec S16 32) : Prop :=
  (∀ a x, ((![v5, v53] : Fin 2 → IVec S16 32) a x).toNat < S8x4104.size a)
theorem k0_idx7_inb : ∀ (v5 : IVec S16 32) (v53 : IVec S16 32) (k0_hw7 : k0_chk7 v5 v53), ∀ a x, ((![v5, v53] : Fin 2 → IVec S16 32) a x).toNat < S8x4104.size a := fun v5 v53 k0_hw7 => k0_hw7

def k0_chk8 (v5 : IVec S16 32) (v55 : IVec S16 32) : Prop :=
  (∀ a x, ((![v5, v55] : Fin 2 → IVec S16 32) a x).toNat < S8x4104.size a)
theorem k0_idx8_inb : ∀ (v5 : IVec S16 32) (v55 : IVec S16 32) (k0_hw8 : k0_chk8 v5 v55), ∀ a x, ((![v5, v55] : Fin 2 → IVec S16 32) a x).toNat < S8x4104.size a := fun v5 v55 k0_hw8 => k0_hw8

def k0_chk9 (v119 : IVec S16 32) (v121 : IVec S16 32) : Prop :=
  (∀ a x, ((![v119, v121] : Fin 2 → IVec S16 32) a x).toNat < S16x128.size a)
theorem k0_idx9_inb : ∀ (v119 : IVec S16 32) (v121 : IVec S16 32) (k0_hw9 : k0_chk9 v119 v121), ∀ a x, ((![v119, v121] : Fin 2 → IVec S16 32) a x).toNat < S16x128.size a := fun v119 v121 k0_hw9 => k0_hw9

def k0_chk10 (v131 : IVec S16 32) (v133 : IVec S16 32) : Prop :=
  (∀ a x, ((![v131, v133] : Fin 2 → IVec S16 32) a x).toNat < S16x128.size a)
theorem k0_idx10_inb : ∀ (v131 : IVec S16 32) (v133 : IVec S16 32) (k0_hw10 : k0_chk10 v131 v133), ∀ a x, ((![v131, v133] : Fin 2 → IVec S16 32) a x).toNat < S16x128.size a := fun v131 v133 k0_hw10 => k0_hw10

def k0_chk11 (v143 : IVec S16 32) (v145 : IVec S16 32) : Prop :=
  (∀ a x, ((![v143, v145] : Fin 2 → IVec S16 32) a x).toNat < S16x128.size a)
theorem k0_idx11_inb : ∀ (v143 : IVec S16 32) (v145 : IVec S16 32) (k0_hw11 : k0_chk11 v143 v145), ∀ a x, ((![v143, v145] : Fin 2 → IVec S16 32) a x).toNat < S16x128.size a := fun v143 v145 k0_hw11 => k0_hw11

def k0_chk12 (v155 : IVec S16 32) (v157 : IVec S16 32) : Prop :=
  (∀ a x, ((![v155, v157] : Fin 2 → IVec S16 32) a x).toNat < S16x128.size a)
theorem k0_idx12_inb : ∀ (v155 : IVec S16 32) (v157 : IVec S16 32) (k0_hw12 : k0_chk12 v155 v157), ∀ a x, ((![v155, v157] : Fin 2 → IVec S16 32) a x).toNat < S16x128.size a := fun v155 v157 k0_hw12 => k0_hw12

def k0_chk13 (v167 : IVec S16 32) (v169 : IVec S16 32) : Prop :=
  (∀ a x, ((![v167, v169] : Fin 2 → IVec S16 32) a x).toNat < S16x128.size a)
theorem k0_idx13_inb : ∀ (v167 : IVec S16 32) (v169 : IVec S16 32) (k0_hw13 : k0_chk13 v167 v169), ∀ a x, ((![v167, v169] : Fin 2 → IVec S16 32) a x).toNat < S16x128.size a := fun v167 v169 k0_hw13 => k0_hw13

def k0_chk14 (v179 : IVec S16 32) (v181 : IVec S16 32) : Prop :=
  (∀ a x, ((![v179, v181] : Fin 2 → IVec S16 32) a x).toNat < S16x128.size a)
theorem k0_idx14_inb : ∀ (v179 : IVec S16 32) (v181 : IVec S16 32) (k0_hw14 : k0_chk14 v179 v181), ∀ a x, ((![v179, v181] : Fin 2 → IVec S16 32) a x).toNat < S16x128.size a := fun v179 v181 k0_hw14 => k0_hw14

def k0_chk15 (v191 : IVec S16 32) (v193 : IVec S16 32) : Prop :=
  (∀ a x, ((![v191, v193] : Fin 2 → IVec S16 32) a x).toNat < S16x128.size a)
theorem k0_idx15_inb : ∀ (v191 : IVec S16 32) (v193 : IVec S16 32) (k0_hw15 : k0_chk15 v191 v193), ∀ a x, ((![v191, v193] : Fin 2 → IVec S16 32) a x).toNat < S16x128.size a := fun v191 v193 k0_hw15 => k0_hw15

def k0_chk16 (v203 : IVec S16 32) (v205 : IVec S16 32) : Prop :=
  (∀ a x, ((![v203, v205] : Fin 2 → IVec S16 32) a x).toNat < S16x128.size a)
theorem k0_idx16_inb : ∀ (v203 : IVec S16 32) (v205 : IVec S16 32) (k0_hw16 : k0_chk16 v203 v205), ∀ a x, ((![v203, v205] : Fin 2 → IVec S16 32) a x).toNat < S16x128.size a := fun v203 v205 k0_hw16 => k0_hw16
def k0_off5 (k0_t1 : Fin k0_t1_loop.trips) : Fin 1 → Nat :=
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c8_i32_94 : BitVec 32 := 8#32
  let v207 : BitVec 32 := Scalar.muli v25 c8_i32_94
  let v208 : Index := Scalar.indexCast v207
  ![v208.toNat]
@[reducible] def k0_t2_loop : Scf.Loop 32 :=
  let c0_i32_96 : BitVec 32 := 0#32
  let c8_i32_97 : BitVec 32 := 8#32
  let v210 : BitVec 32 := Scalar.addi c0_i32_96 c8_i32_97
  let c1_i32_98 : BitVec 32 := 1#32
  ⟨c0_i32_96, v210, c1_i32_98⟩

def k0_chk17 (v412 : IVec S16 32) : Prop :=
  (∀ a x, ((![v412] : Fin 1 → IVec S16 32) a x).toNat < S272.size a)
theorem k0_idx17_inb : ∀ (v412 : IVec S16 32) (k0_hw17 : k0_chk17 v412), ∀ a x, ((![v412] : Fin 1 → IVec S16 32) a x).toNat < S272.size a := fun v412 k0_hw17 => k0_hw17

def k0_chk18 (v409 : IVec S16 32) (v420 : IVec S16 32) : Prop :=
  (∀ a x, ((![v409, v420] : Fin 2 → IVec S16 32) a x).toNat < S8x4104.size a)
theorem k0_idx18_inb : ∀ (v409 : IVec S16 32) (v420 : IVec S16 32) (k0_hw18 : k0_chk18 v409 v420), ∀ a x, ((![v409, v420] : Fin 2 → IVec S16 32) a x).toNat < S8x4104.size a := fun v409 v420 k0_hw18 => k0_hw18

def k0_chk19 (v409 : IVec S16 32) (v423 : IVec S16 32) : Prop :=
  (∀ a x, ((![v409, v423] : Fin 2 → IVec S16 32) a x).toNat < S8x4104.size a)
theorem k0_idx19_inb : ∀ (v409 : IVec S16 32) (v423 : IVec S16 32) (k0_hw19 : k0_chk19 v409 v423), ∀ a x, ((![v409, v423] : Fin 2 → IVec S16 32) a x).toNat < S8x4104.size a := fun v409 v423 k0_hw19 => k0_hw19
def k0_off6 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_192 : BitVec 32 := 2#32
  let v425 : BitVec 32 := Scalar.muli arg27 c2_i32_192
  let c0_i32_193 : BitVec 32 := 0#32
  let v426 : BitVec 32 := Scalar.addi v425 c0_i32_193
  let v427 : Index := Scalar.indexCast v426
  let c0 : Index := 0#32
  ![v427.toNat, 0]
def k0_off7 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v434 : Index := Scalar.indexCast arg27
  let c0_195 : Index := 0#32
  ![v434.toNat, 0]
def k0_off8 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v436 : Index := Scalar.indexCast arg27
  let c0_196 : Index := 0#32
  ![v436.toNat, 0]
def k0_off9 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v438 : Index := Scalar.indexCast arg27
  let c256 : Index := 256#32
  ![v438.toNat, 256]

def k0_chk20 (v409 : IVec S16 32) (v442 : IVec S16 32) : Prop :=
  (∀ a x, ((![v409, v442] : Fin 2 → IVec S16 32) a x).toNat < S8x4104.size a)
theorem k0_idx20_inb : ∀ (v409 : IVec S16 32) (v442 : IVec S16 32) (k0_hw20 : k0_chk20 v409 v442), ∀ a x, ((![v409, v442] : Fin 2 → IVec S16 32) a x).toNat < S8x4104.size a := fun v409 v442 k0_hw20 => k0_hw20

def k0_chk21 (v409 : IVec S16 32) (v445 : IVec S16 32) : Prop :=
  (∀ a x, ((![v409, v445] : Fin 2 → IVec S16 32) a x).toNat < S8x4104.size a)
theorem k0_idx21_inb : ∀ (v409 : IVec S16 32) (v445 : IVec S16 32) (k0_hw21 : k0_chk21 v409 v445), ∀ a x, ((![v409, v445] : Fin 2 → IVec S16 32) a x).toNat < S8x4104.size a := fun v409 v445 k0_hw21 => k0_hw21
def k0_off10 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_199 : BitVec 32 := 2#32
  let v447 : BitVec 32 := Scalar.muli arg27 c2_i32_199
  let c0_i32_200 : BitVec 32 := 0#32
  let v448 : BitVec 32 := Scalar.addi v447 c0_i32_200
  let v449 : Index := Scalar.indexCast v448
  let c16 : Index := 16#32
  ![v449.toNat, 16]
def k0_off11 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v456 : Index := Scalar.indexCast arg27
  let c16_202 : Index := 16#32
  ![v456.toNat, 16]
def k0_off12 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v458 : Index := Scalar.indexCast arg27
  let c16_203 : Index := 16#32
  ![v458.toNat, 16]
def k0_off13 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v460 : Index := Scalar.indexCast arg27
  let c272 : Index := 272#32
  ![v460.toNat, 272]

def k0_chk22 (v409 : IVec S16 32) (v464 : IVec S16 32) : Prop :=
  (∀ a x, ((![v409, v464] : Fin 2 → IVec S16 32) a x).toNat < S8x4104.size a)
theorem k0_idx22_inb : ∀ (v409 : IVec S16 32) (v464 : IVec S16 32) (k0_hw22 : k0_chk22 v409 v464), ∀ a x, ((![v409, v464] : Fin 2 → IVec S16 32) a x).toNat < S8x4104.size a := fun v409 v464 k0_hw22 => k0_hw22

def k0_chk23 (v409 : IVec S16 32) (v467 : IVec S16 32) : Prop :=
  (∀ a x, ((![v409, v467] : Fin 2 → IVec S16 32) a x).toNat < S8x4104.size a)
theorem k0_idx23_inb : ∀ (v409 : IVec S16 32) (v467 : IVec S16 32) (k0_hw23 : k0_chk23 v409 v467), ∀ a x, ((![v409, v467] : Fin 2 → IVec S16 32) a x).toNat < S8x4104.size a := fun v409 v467 k0_hw23 => k0_hw23
def k0_off14 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_205 : BitVec 32 := 2#32
  let v469 : BitVec 32 := Scalar.muli arg27 c2_i32_205
  let c0_i32_206 : BitVec 32 := 0#32
  let v470 : BitVec 32 := Scalar.addi v469 c0_i32_206
  let v471 : Index := Scalar.indexCast v470
  let c32 : Index := 32#32
  ![v471.toNat, 32]
def k0_off15 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v478 : Index := Scalar.indexCast arg27
  let c32_208 : Index := 32#32
  ![v478.toNat, 32]
def k0_off16 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v480 : Index := Scalar.indexCast arg27
  let c32_209 : Index := 32#32
  ![v480.toNat, 32]
def k0_off17 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v482 : Index := Scalar.indexCast arg27
  let c288 : Index := 288#32
  ![v482.toNat, 288]

def k0_chk24 (v409 : IVec S16 32) (v486 : IVec S16 32) : Prop :=
  (∀ a x, ((![v409, v486] : Fin 2 → IVec S16 32) a x).toNat < S8x4104.size a)
theorem k0_idx24_inb : ∀ (v409 : IVec S16 32) (v486 : IVec S16 32) (k0_hw24 : k0_chk24 v409 v486), ∀ a x, ((![v409, v486] : Fin 2 → IVec S16 32) a x).toNat < S8x4104.size a := fun v409 v486 k0_hw24 => k0_hw24

def k0_chk25 (v409 : IVec S16 32) (v489 : IVec S16 32) : Prop :=
  (∀ a x, ((![v409, v489] : Fin 2 → IVec S16 32) a x).toNat < S8x4104.size a)
theorem k0_idx25_inb : ∀ (v409 : IVec S16 32) (v489 : IVec S16 32) (k0_hw25 : k0_chk25 v409 v489), ∀ a x, ((![v409, v489] : Fin 2 → IVec S16 32) a x).toNat < S8x4104.size a := fun v409 v489 k0_hw25 => k0_hw25
def k0_off18 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_211 : BitVec 32 := 2#32
  let v491 : BitVec 32 := Scalar.muli arg27 c2_i32_211
  let c0_i32_212 : BitVec 32 := 0#32
  let v492 : BitVec 32 := Scalar.addi v491 c0_i32_212
  let v493 : Index := Scalar.indexCast v492
  let c48 : Index := 48#32
  ![v493.toNat, 48]
def k0_off19 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v500 : Index := Scalar.indexCast arg27
  let c48_214 : Index := 48#32
  ![v500.toNat, 48]
def k0_off20 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v502 : Index := Scalar.indexCast arg27
  let c48_215 : Index := 48#32
  ![v502.toNat, 48]
def k0_off21 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v504 : Index := Scalar.indexCast arg27
  let c304 : Index := 304#32
  ![v504.toNat, 304]

def k0_chk26 (v409 : IVec S16 32) (v508 : IVec S16 32) : Prop :=
  (∀ a x, ((![v409, v508] : Fin 2 → IVec S16 32) a x).toNat < S8x4104.size a)
theorem k0_idx26_inb : ∀ (v409 : IVec S16 32) (v508 : IVec S16 32) (k0_hw26 : k0_chk26 v409 v508), ∀ a x, ((![v409, v508] : Fin 2 → IVec S16 32) a x).toNat < S8x4104.size a := fun v409 v508 k0_hw26 => k0_hw26

def k0_chk27 (v409 : IVec S16 32) (v511 : IVec S16 32) : Prop :=
  (∀ a x, ((![v409, v511] : Fin 2 → IVec S16 32) a x).toNat < S8x4104.size a)
theorem k0_idx27_inb : ∀ (v409 : IVec S16 32) (v511 : IVec S16 32) (k0_hw27 : k0_chk27 v409 v511), ∀ a x, ((![v409, v511] : Fin 2 → IVec S16 32) a x).toNat < S8x4104.size a := fun v409 v511 k0_hw27 => k0_hw27
def k0_off22 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_217 : BitVec 32 := 2#32
  let v513 : BitVec 32 := Scalar.muli arg27 c2_i32_217
  let c0_i32_218 : BitVec 32 := 0#32
  let v514 : BitVec 32 := Scalar.addi v513 c0_i32_218
  let v515 : Index := Scalar.indexCast v514
  let c64 : Index := 64#32
  ![v515.toNat, 64]
def k0_off23 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v522 : Index := Scalar.indexCast arg27
  let c64_220 : Index := 64#32
  ![v522.toNat, 64]
def k0_off24 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v524 : Index := Scalar.indexCast arg27
  let c64_221 : Index := 64#32
  ![v524.toNat, 64]
def k0_off25 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v526 : Index := Scalar.indexCast arg27
  let c320 : Index := 320#32
  ![v526.toNat, 320]

def k0_chk28 (v409 : IVec S16 32) (v530 : IVec S16 32) : Prop :=
  (∀ a x, ((![v409, v530] : Fin 2 → IVec S16 32) a x).toNat < S8x4104.size a)
theorem k0_idx28_inb : ∀ (v409 : IVec S16 32) (v530 : IVec S16 32) (k0_hw28 : k0_chk28 v409 v530), ∀ a x, ((![v409, v530] : Fin 2 → IVec S16 32) a x).toNat < S8x4104.size a := fun v409 v530 k0_hw28 => k0_hw28

def k0_chk29 (v409 : IVec S16 32) (v533 : IVec S16 32) : Prop :=
  (∀ a x, ((![v409, v533] : Fin 2 → IVec S16 32) a x).toNat < S8x4104.size a)
theorem k0_idx29_inb : ∀ (v409 : IVec S16 32) (v533 : IVec S16 32) (k0_hw29 : k0_chk29 v409 v533), ∀ a x, ((![v409, v533] : Fin 2 → IVec S16 32) a x).toNat < S8x4104.size a := fun v409 v533 k0_hw29 => k0_hw29
def k0_off26 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_223 : BitVec 32 := 2#32
  let v535 : BitVec 32 := Scalar.muli arg27 c2_i32_223
  let c0_i32_224 : BitVec 32 := 0#32
  let v536 : BitVec 32 := Scalar.addi v535 c0_i32_224
  let v537 : Index := Scalar.indexCast v536
  let c80 : Index := 80#32
  ![v537.toNat, 80]
def k0_off27 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v544 : Index := Scalar.indexCast arg27
  let c80_226 : Index := 80#32
  ![v544.toNat, 80]
def k0_off28 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v546 : Index := Scalar.indexCast arg27
  let c80_227 : Index := 80#32
  ![v546.toNat, 80]
def k0_off29 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v548 : Index := Scalar.indexCast arg27
  let c336 : Index := 336#32
  ![v548.toNat, 336]

def k0_chk30 (v409 : IVec S16 32) (v552 : IVec S16 32) : Prop :=
  (∀ a x, ((![v409, v552] : Fin 2 → IVec S16 32) a x).toNat < S8x4104.size a)
theorem k0_idx30_inb : ∀ (v409 : IVec S16 32) (v552 : IVec S16 32) (k0_hw30 : k0_chk30 v409 v552), ∀ a x, ((![v409, v552] : Fin 2 → IVec S16 32) a x).toNat < S8x4104.size a := fun v409 v552 k0_hw30 => k0_hw30

def k0_chk31 (v409 : IVec S16 32) (v555 : IVec S16 32) : Prop :=
  (∀ a x, ((![v409, v555] : Fin 2 → IVec S16 32) a x).toNat < S8x4104.size a)
theorem k0_idx31_inb : ∀ (v409 : IVec S16 32) (v555 : IVec S16 32) (k0_hw31 : k0_chk31 v409 v555), ∀ a x, ((![v409, v555] : Fin 2 → IVec S16 32) a x).toNat < S8x4104.size a := fun v409 v555 k0_hw31 => k0_hw31
def k0_off30 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_229 : BitVec 32 := 2#32
  let v557 : BitVec 32 := Scalar.muli arg27 c2_i32_229
  let c0_i32_230 : BitVec 32 := 0#32
  let v558 : BitVec 32 := Scalar.addi v557 c0_i32_230
  let v559 : Index := Scalar.indexCast v558
  let c96 : Index := 96#32
  ![v559.toNat, 96]
def k0_off31 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v566 : Index := Scalar.indexCast arg27
  let c96_232 : Index := 96#32
  ![v566.toNat, 96]
def k0_off32 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v568 : Index := Scalar.indexCast arg27
  let c96_233 : Index := 96#32
  ![v568.toNat, 96]
def k0_off33 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v570 : Index := Scalar.indexCast arg27
  let c352 : Index := 352#32
  ![v570.toNat, 352]

def k0_chk32 (v409 : IVec S16 32) (v574 : IVec S16 32) : Prop :=
  (∀ a x, ((![v409, v574] : Fin 2 → IVec S16 32) a x).toNat < S8x4104.size a)
theorem k0_idx32_inb : ∀ (v409 : IVec S16 32) (v574 : IVec S16 32) (k0_hw32 : k0_chk32 v409 v574), ∀ a x, ((![v409, v574] : Fin 2 → IVec S16 32) a x).toNat < S8x4104.size a := fun v409 v574 k0_hw32 => k0_hw32

def k0_chk33 (v409 : IVec S16 32) (v577 : IVec S16 32) : Prop :=
  (∀ a x, ((![v409, v577] : Fin 2 → IVec S16 32) a x).toNat < S8x4104.size a)
theorem k0_idx33_inb : ∀ (v409 : IVec S16 32) (v577 : IVec S16 32) (k0_hw33 : k0_chk33 v409 v577), ∀ a x, ((![v409, v577] : Fin 2 → IVec S16 32) a x).toNat < S8x4104.size a := fun v409 v577 k0_hw33 => k0_hw33
def k0_off34 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_235 : BitVec 32 := 2#32
  let v579 : BitVec 32 := Scalar.muli arg27 c2_i32_235
  let c0_i32_236 : BitVec 32 := 0#32
  let v580 : BitVec 32 := Scalar.addi v579 c0_i32_236
  let v581 : Index := Scalar.indexCast v580
  let c112 : Index := 112#32
  ![v581.toNat, 112]
def k0_off35 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v588 : Index := Scalar.indexCast arg27
  let c112_238 : Index := 112#32
  ![v588.toNat, 112]
def k0_off36 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v590 : Index := Scalar.indexCast arg27
  let c112_239 : Index := 112#32
  ![v590.toNat, 112]
def k0_off37 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v592 : Index := Scalar.indexCast arg27
  let c368 : Index := 368#32
  ![v592.toNat, 368]

def k0_chk34 (v409 : IVec S16 32) (v596 : IVec S16 32) : Prop :=
  (∀ a x, ((![v409, v596] : Fin 2 → IVec S16 32) a x).toNat < S8x4104.size a)
theorem k0_idx34_inb : ∀ (v409 : IVec S16 32) (v596 : IVec S16 32) (k0_hw34 : k0_chk34 v409 v596), ∀ a x, ((![v409, v596] : Fin 2 → IVec S16 32) a x).toNat < S8x4104.size a := fun v409 v596 k0_hw34 => k0_hw34

def k0_chk35 (v409 : IVec S16 32) (v599 : IVec S16 32) : Prop :=
  (∀ a x, ((![v409, v599] : Fin 2 → IVec S16 32) a x).toNat < S8x4104.size a)
theorem k0_idx35_inb : ∀ (v409 : IVec S16 32) (v599 : IVec S16 32) (k0_hw35 : k0_chk35 v409 v599), ∀ a x, ((![v409, v599] : Fin 2 → IVec S16 32) a x).toNat < S8x4104.size a := fun v409 v599 k0_hw35 => k0_hw35
def k0_off38 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_241 : BitVec 32 := 2#32
  let v601 : BitVec 32 := Scalar.muli arg27 c2_i32_241
  let c1_i32_242 : BitVec 32 := 1#32
  let v602 : BitVec 32 := Scalar.addi v601 c1_i32_242
  let v603 : Index := Scalar.indexCast v602
  let c0_243 : Index := 0#32
  ![v603.toNat, 0]
def k0_off39 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v610 : Index := Scalar.indexCast arg27
  let c128 : Index := 128#32
  ![v610.toNat, 128]
def k0_off40 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v612 : Index := Scalar.indexCast arg27
  let c128_245 : Index := 128#32
  ![v612.toNat, 128]
def k0_off41 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v614 : Index := Scalar.indexCast arg27
  let c384 : Index := 384#32
  ![v614.toNat, 384]

def k0_chk36 (v409 : IVec S16 32) (v618 : IVec S16 32) : Prop :=
  (∀ a x, ((![v409, v618] : Fin 2 → IVec S16 32) a x).toNat < S8x4104.size a)
theorem k0_idx36_inb : ∀ (v409 : IVec S16 32) (v618 : IVec S16 32) (k0_hw36 : k0_chk36 v409 v618), ∀ a x, ((![v409, v618] : Fin 2 → IVec S16 32) a x).toNat < S8x4104.size a := fun v409 v618 k0_hw36 => k0_hw36

def k0_chk37 (v409 : IVec S16 32) (v621 : IVec S16 32) : Prop :=
  (∀ a x, ((![v409, v621] : Fin 2 → IVec S16 32) a x).toNat < S8x4104.size a)
theorem k0_idx37_inb : ∀ (v409 : IVec S16 32) (v621 : IVec S16 32) (k0_hw37 : k0_chk37 v409 v621), ∀ a x, ((![v409, v621] : Fin 2 → IVec S16 32) a x).toNat < S8x4104.size a := fun v409 v621 k0_hw37 => k0_hw37
def k0_off42 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_247 : BitVec 32 := 2#32
  let v623 : BitVec 32 := Scalar.muli arg27 c2_i32_247
  let c1_i32_248 : BitVec 32 := 1#32
  let v624 : BitVec 32 := Scalar.addi v623 c1_i32_248
  let v625 : Index := Scalar.indexCast v624
  let c16_249 : Index := 16#32
  ![v625.toNat, 16]
def k0_off43 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v632 : Index := Scalar.indexCast arg27
  let c144 : Index := 144#32
  ![v632.toNat, 144]
def k0_off44 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v634 : Index := Scalar.indexCast arg27
  let c144_251 : Index := 144#32
  ![v634.toNat, 144]
def k0_off45 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v636 : Index := Scalar.indexCast arg27
  let c400 : Index := 400#32
  ![v636.toNat, 400]

def k0_chk38 (v409 : IVec S16 32) (v640 : IVec S16 32) : Prop :=
  (∀ a x, ((![v409, v640] : Fin 2 → IVec S16 32) a x).toNat < S8x4104.size a)
theorem k0_idx38_inb : ∀ (v409 : IVec S16 32) (v640 : IVec S16 32) (k0_hw38 : k0_chk38 v409 v640), ∀ a x, ((![v409, v640] : Fin 2 → IVec S16 32) a x).toNat < S8x4104.size a := fun v409 v640 k0_hw38 => k0_hw38

def k0_chk39 (v409 : IVec S16 32) (v643 : IVec S16 32) : Prop :=
  (∀ a x, ((![v409, v643] : Fin 2 → IVec S16 32) a x).toNat < S8x4104.size a)
theorem k0_idx39_inb : ∀ (v409 : IVec S16 32) (v643 : IVec S16 32) (k0_hw39 : k0_chk39 v409 v643), ∀ a x, ((![v409, v643] : Fin 2 → IVec S16 32) a x).toNat < S8x4104.size a := fun v409 v643 k0_hw39 => k0_hw39
def k0_off46 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_253 : BitVec 32 := 2#32
  let v645 : BitVec 32 := Scalar.muli arg27 c2_i32_253
  let c1_i32_254 : BitVec 32 := 1#32
  let v646 : BitVec 32 := Scalar.addi v645 c1_i32_254
  let v647 : Index := Scalar.indexCast v646
  let c32_255 : Index := 32#32
  ![v647.toNat, 32]
def k0_off47 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v654 : Index := Scalar.indexCast arg27
  let c160 : Index := 160#32
  ![v654.toNat, 160]
def k0_off48 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v656 : Index := Scalar.indexCast arg27
  let c160_257 : Index := 160#32
  ![v656.toNat, 160]
def k0_off49 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v658 : Index := Scalar.indexCast arg27
  let c416 : Index := 416#32
  ![v658.toNat, 416]

def k0_chk40 (v409 : IVec S16 32) (v662 : IVec S16 32) : Prop :=
  (∀ a x, ((![v409, v662] : Fin 2 → IVec S16 32) a x).toNat < S8x4104.size a)
theorem k0_idx40_inb : ∀ (v409 : IVec S16 32) (v662 : IVec S16 32) (k0_hw40 : k0_chk40 v409 v662), ∀ a x, ((![v409, v662] : Fin 2 → IVec S16 32) a x).toNat < S8x4104.size a := fun v409 v662 k0_hw40 => k0_hw40

def k0_chk41 (v409 : IVec S16 32) (v665 : IVec S16 32) : Prop :=
  (∀ a x, ((![v409, v665] : Fin 2 → IVec S16 32) a x).toNat < S8x4104.size a)
theorem k0_idx41_inb : ∀ (v409 : IVec S16 32) (v665 : IVec S16 32) (k0_hw41 : k0_chk41 v409 v665), ∀ a x, ((![v409, v665] : Fin 2 → IVec S16 32) a x).toNat < S8x4104.size a := fun v409 v665 k0_hw41 => k0_hw41
def k0_off50 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_259 : BitVec 32 := 2#32
  let v667 : BitVec 32 := Scalar.muli arg27 c2_i32_259
  let c1_i32_260 : BitVec 32 := 1#32
  let v668 : BitVec 32 := Scalar.addi v667 c1_i32_260
  let v669 : Index := Scalar.indexCast v668
  let c48_261 : Index := 48#32
  ![v669.toNat, 48]
def k0_off51 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v676 : Index := Scalar.indexCast arg27
  let c176 : Index := 176#32
  ![v676.toNat, 176]
def k0_off52 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v678 : Index := Scalar.indexCast arg27
  let c176_263 : Index := 176#32
  ![v678.toNat, 176]
def k0_off53 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v680 : Index := Scalar.indexCast arg27
  let c432 : Index := 432#32
  ![v680.toNat, 432]

def k0_chk42 (v409 : IVec S16 32) (v684 : IVec S16 32) : Prop :=
  (∀ a x, ((![v409, v684] : Fin 2 → IVec S16 32) a x).toNat < S8x4104.size a)
theorem k0_idx42_inb : ∀ (v409 : IVec S16 32) (v684 : IVec S16 32) (k0_hw42 : k0_chk42 v409 v684), ∀ a x, ((![v409, v684] : Fin 2 → IVec S16 32) a x).toNat < S8x4104.size a := fun v409 v684 k0_hw42 => k0_hw42

def k0_chk43 (v409 : IVec S16 32) (v687 : IVec S16 32) : Prop :=
  (∀ a x, ((![v409, v687] : Fin 2 → IVec S16 32) a x).toNat < S8x4104.size a)
theorem k0_idx43_inb : ∀ (v409 : IVec S16 32) (v687 : IVec S16 32) (k0_hw43 : k0_chk43 v409 v687), ∀ a x, ((![v409, v687] : Fin 2 → IVec S16 32) a x).toNat < S8x4104.size a := fun v409 v687 k0_hw43 => k0_hw43
def k0_off54 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_265 : BitVec 32 := 2#32
  let v689 : BitVec 32 := Scalar.muli arg27 c2_i32_265
  let c1_i32_266 : BitVec 32 := 1#32
  let v690 : BitVec 32 := Scalar.addi v689 c1_i32_266
  let v691 : Index := Scalar.indexCast v690
  let c64_267 : Index := 64#32
  ![v691.toNat, 64]
def k0_off55 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v698 : Index := Scalar.indexCast arg27
  let c192 : Index := 192#32
  ![v698.toNat, 192]
def k0_off56 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v700 : Index := Scalar.indexCast arg27
  let c192_269 : Index := 192#32
  ![v700.toNat, 192]
def k0_off57 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v702 : Index := Scalar.indexCast arg27
  let c448 : Index := 448#32
  ![v702.toNat, 448]

def k0_chk44 (v409 : IVec S16 32) (v706 : IVec S16 32) : Prop :=
  (∀ a x, ((![v409, v706] : Fin 2 → IVec S16 32) a x).toNat < S8x4104.size a)
theorem k0_idx44_inb : ∀ (v409 : IVec S16 32) (v706 : IVec S16 32) (k0_hw44 : k0_chk44 v409 v706), ∀ a x, ((![v409, v706] : Fin 2 → IVec S16 32) a x).toNat < S8x4104.size a := fun v409 v706 k0_hw44 => k0_hw44

def k0_chk45 (v409 : IVec S16 32) (v709 : IVec S16 32) : Prop :=
  (∀ a x, ((![v409, v709] : Fin 2 → IVec S16 32) a x).toNat < S8x4104.size a)
theorem k0_idx45_inb : ∀ (v409 : IVec S16 32) (v709 : IVec S16 32) (k0_hw45 : k0_chk45 v409 v709), ∀ a x, ((![v409, v709] : Fin 2 → IVec S16 32) a x).toNat < S8x4104.size a := fun v409 v709 k0_hw45 => k0_hw45
def k0_off58 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_271 : BitVec 32 := 2#32
  let v711 : BitVec 32 := Scalar.muli arg27 c2_i32_271
  let c1_i32_272 : BitVec 32 := 1#32
  let v712 : BitVec 32 := Scalar.addi v711 c1_i32_272
  let v713 : Index := Scalar.indexCast v712
  let c80_273 : Index := 80#32
  ![v713.toNat, 80]
def k0_off59 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v720 : Index := Scalar.indexCast arg27
  let c208 : Index := 208#32
  ![v720.toNat, 208]
def k0_off60 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v722 : Index := Scalar.indexCast arg27
  let c208_275 : Index := 208#32
  ![v722.toNat, 208]
def k0_off61 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v724 : Index := Scalar.indexCast arg27
  let c464 : Index := 464#32
  ![v724.toNat, 464]

def k0_chk46 (v409 : IVec S16 32) (v728 : IVec S16 32) : Prop :=
  (∀ a x, ((![v409, v728] : Fin 2 → IVec S16 32) a x).toNat < S8x4104.size a)
theorem k0_idx46_inb : ∀ (v409 : IVec S16 32) (v728 : IVec S16 32) (k0_hw46 : k0_chk46 v409 v728), ∀ a x, ((![v409, v728] : Fin 2 → IVec S16 32) a x).toNat < S8x4104.size a := fun v409 v728 k0_hw46 => k0_hw46

def k0_chk47 (v409 : IVec S16 32) (v731 : IVec S16 32) : Prop :=
  (∀ a x, ((![v409, v731] : Fin 2 → IVec S16 32) a x).toNat < S8x4104.size a)
theorem k0_idx47_inb : ∀ (v409 : IVec S16 32) (v731 : IVec S16 32) (k0_hw47 : k0_chk47 v409 v731), ∀ a x, ((![v409, v731] : Fin 2 → IVec S16 32) a x).toNat < S8x4104.size a := fun v409 v731 k0_hw47 => k0_hw47
def k0_off62 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_277 : BitVec 32 := 2#32
  let v733 : BitVec 32 := Scalar.muli arg27 c2_i32_277
  let c1_i32_278 : BitVec 32 := 1#32
  let v734 : BitVec 32 := Scalar.addi v733 c1_i32_278
  let v735 : Index := Scalar.indexCast v734
  let c96_279 : Index := 96#32
  ![v735.toNat, 96]
def k0_off63 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v742 : Index := Scalar.indexCast arg27
  let c224 : Index := 224#32
  ![v742.toNat, 224]
def k0_off64 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v744 : Index := Scalar.indexCast arg27
  let c224_281 : Index := 224#32
  ![v744.toNat, 224]
def k0_off65 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v746 : Index := Scalar.indexCast arg27
  let c480 : Index := 480#32
  ![v746.toNat, 480]

def k0_chk48 (v409 : IVec S16 32) (v750 : IVec S16 32) : Prop :=
  (∀ a x, ((![v409, v750] : Fin 2 → IVec S16 32) a x).toNat < S8x4104.size a)
theorem k0_idx48_inb : ∀ (v409 : IVec S16 32) (v750 : IVec S16 32) (k0_hw48 : k0_chk48 v409 v750), ∀ a x, ((![v409, v750] : Fin 2 → IVec S16 32) a x).toNat < S8x4104.size a := fun v409 v750 k0_hw48 => k0_hw48

def k0_chk49 (v409 : IVec S16 32) (v753 : IVec S16 32) : Prop :=
  (∀ a x, ((![v409, v753] : Fin 2 → IVec S16 32) a x).toNat < S8x4104.size a)
theorem k0_idx49_inb : ∀ (v409 : IVec S16 32) (v753 : IVec S16 32) (k0_hw49 : k0_chk49 v409 v753), ∀ a x, ((![v409, v753] : Fin 2 → IVec S16 32) a x).toNat < S8x4104.size a := fun v409 v753 k0_hw49 => k0_hw49
def k0_off66 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let c2_i32_283 : BitVec 32 := 2#32
  let v755 : BitVec 32 := Scalar.muli arg27 c2_i32_283
  let c1_i32_284 : BitVec 32 := 1#32
  let v756 : BitVec 32 := Scalar.addi v755 c1_i32_284
  let v757 : Index := Scalar.indexCast v756
  let c112_285 : Index := 112#32
  ![v757.toNat, 112]
def k0_off67 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v764 : Index := Scalar.indexCast arg27
  let c240 : Index := 240#32
  ![v764.toNat, 240]
def k0_off68 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v766 : Index := Scalar.indexCast arg27
  let c240_287 : Index := 240#32
  ![v766.toNat, 240]
def k0_off69 (k0_t2 : Fin k0_t2_loop.trips) : Fin 2 → Nat :=
  let c0_i32_96 : BitVec 32 := 0#32
  let c1_i32_98 : BitVec 32 := 1#32
  let arg27 : BitVec 32 := Scf.iv c0_i32_96 c1_i32_98 k0_t2
  let v768 : Index := Scalar.indexCast arg27
  let c496 : Index := 496#32
  ![v768.toNat, 496]
def k0_off70 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c8_i32_100 : BitVec 32 := 8#32
  let v212 : BitVec 32 := Scalar.muli v25 c8_i32_100
  let v213 : BitVec 32 := Scalar.addi v2 v212
  let c0_i32_101 : BitVec 32 := 0#32
  ![v213.toNat, 0]
def k0_off71 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c8_i32_100 : BitVec 32 := 8#32
  let v212 : BitVec 32 := Scalar.muli v25 c8_i32_100
  let v213 : BitVec 32 := Scalar.addi v2 v212
  let c0_i32_103 : BitVec 32 := 0#32
  ![v213.toNat, 0]
def k0_cond2 (k0_t1 : Fin k0_t1_loop.trips) : BitVec 1 :=
  let c0_i32_6 : BitVec 32 := 0#32
  let c1_i32 : BitVec 32 := 1#32
  let arg25 : BitVec 32 := Scf.iv c0_i32_6 c1_i32 k0_t1
  let c15_i32 : BitVec 32 := 15#32
  let v222 : BitVec 1 := Scalar.cmpi .slt arg25 c15_i32
  let v223 : BitVec 32 := Scalar.extui v222
  let c0_i32_113 : BitVec 32 := 0#32
  let v224 : BitVec 1 := Scalar.cmpi .ne v223 c0_i32_113
  v224

def k0_off72 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c2_i32_187 : BitVec 32 := 2#32
  let v407 : BitVec 32 := Scalar.addi v25 c2_i32_187
  let c8_i32_188 : BitVec 32 := 8#32
  let v408 : BitVec 32 := Scalar.muli v407 c8_i32_188
  let v409 : BitVec 32 := Scalar.addi v2 v408
  let c0_i32_189 : BitVec 32 := 0#32
  ![v409.toNat, 0]
def k0_off73 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c2_i32_187 : BitVec 32 := 2#32
  let v407 : BitVec 32 := Scalar.addi v25 c2_i32_187
  let c8_i32_188 : BitVec 32 := 8#32
  let v408 : BitVec 32 := Scalar.muli v407 c8_i32_188
  let v409 : BitVec 32 := Scalar.addi v2 v408
  let c2_i32_191 : BitVec 32 := 2#32
  let v412 : BitVec 32 := Scalar.muli v409 c2_i32_191
  let c0_i32_192 : BitVec 32 := 0#32
  ![v412.toNat, 0]

def k0_chk50 (v5 : IVec S16 32) (v229 : IVec S16 32) : Prop :=
  (∀ a x, ((![v5, v229] : Fin 2 → IVec S16 32) a x).toNat < S8x4104.size a)
theorem k0_idx50_inb : ∀ (v5 : IVec S16 32) (v229 : IVec S16 32) (k0_hw50 : k0_chk50 v5 v229), ∀ a x, ((![v5, v229] : Fin 2 → IVec S16 32) a x).toNat < S8x4104.size a := fun v5 v229 k0_hw50 => k0_hw50

def k0_chk51 (v5 : IVec S16 32) (v231 : IVec S16 32) : Prop :=
  (∀ a x, ((![v5, v231] : Fin 2 → IVec S16 32) a x).toNat < S8x4104.size a)
theorem k0_idx51_inb : ∀ (v5 : IVec S16 32) (v231 : IVec S16 32) (k0_hw51 : k0_chk51 v5 v231), ∀ a x, ((![v5, v231] : Fin 2 → IVec S16 32) a x).toNat < S8x4104.size a := fun v5 v231 k0_hw51 => k0_hw51

def k0_chk52 (v5 : IVec S16 32) (v233 : IVec S16 32) : Prop :=
  (∀ a x, ((![v5, v233] : Fin 2 → IVec S16 32) a x).toNat < S8x4104.size a)
theorem k0_idx52_inb : ∀ (v5 : IVec S16 32) (v233 : IVec S16 32) (k0_hw52 : k0_chk52 v5 v233), ∀ a x, ((![v5, v233] : Fin 2 → IVec S16 32) a x).toNat < S8x4104.size a := fun v5 v233 k0_hw52 => k0_hw52

def k0_chk53 (v5 : IVec S16 32) (v235 : IVec S16 32) : Prop :=
  (∀ a x, ((![v5, v235] : Fin 2 → IVec S16 32) a x).toNat < S8x4104.size a)
theorem k0_idx53_inb : ∀ (v5 : IVec S16 32) (v235 : IVec S16 32) (k0_hw53 : k0_chk53 v5 v235), ∀ a x, ((![v5, v235] : Fin 2 → IVec S16 32) a x).toNat < S8x4104.size a := fun v5 v235 k0_hw53 => k0_hw53

def k0_chk54 (v5 : IVec S16 32) (v237 : IVec S16 32) : Prop :=
  (∀ a x, ((![v5, v237] : Fin 2 → IVec S16 32) a x).toNat < S8x4104.size a)
theorem k0_idx54_inb : ∀ (v5 : IVec S16 32) (v237 : IVec S16 32) (k0_hw54 : k0_chk54 v5 v237), ∀ a x, ((![v5, v237] : Fin 2 → IVec S16 32) a x).toNat < S8x4104.size a := fun v5 v237 k0_hw54 => k0_hw54

def k0_chk55 (v5 : IVec S16 32) (v239 : IVec S16 32) : Prop :=
  (∀ a x, ((![v5, v239] : Fin 2 → IVec S16 32) a x).toNat < S8x4104.size a)
theorem k0_idx55_inb : ∀ (v5 : IVec S16 32) (v239 : IVec S16 32) (k0_hw55 : k0_chk55 v5 v239), ∀ a x, ((![v5, v239] : Fin 2 → IVec S16 32) a x).toNat < S8x4104.size a := fun v5 v239 k0_hw55 => k0_hw55

def k0_chk56 (v5 : IVec S16 32) (v241 : IVec S16 32) : Prop :=
  (∀ a x, ((![v5, v241] : Fin 2 → IVec S16 32) a x).toNat < S8x4104.size a)
theorem k0_idx56_inb : ∀ (v5 : IVec S16 32) (v241 : IVec S16 32) (k0_hw56 : k0_chk56 v5 v241), ∀ a x, ((![v5, v241] : Fin 2 → IVec S16 32) a x).toNat < S8x4104.size a := fun v5 v241 k0_hw56 => k0_hw56

def k0_chk57 (v5 : IVec S16 32) (v243 : IVec S16 32) : Prop :=
  (∀ a x, ((![v5, v243] : Fin 2 → IVec S16 32) a x).toNat < S8x4104.size a)
theorem k0_idx57_inb : ∀ (v5 : IVec S16 32) (v243 : IVec S16 32) (k0_hw57 : k0_chk57 v5 v243), ∀ a x, ((![v5, v243] : Fin 2 → IVec S16 32) a x).toNat < S8x4104.size a := fun v5 v243 k0_hw57 => k0_hw57

def k0_chk58 (v307 : IVec S16 32) (v309 : IVec S16 32) : Prop :=
  (∀ a x, ((![v307, v309] : Fin 2 → IVec S16 32) a x).toNat < S16x128.size a)
theorem k0_idx58_inb : ∀ (v307 : IVec S16 32) (v309 : IVec S16 32) (k0_hw58 : k0_chk58 v307 v309), ∀ a x, ((![v307, v309] : Fin 2 → IVec S16 32) a x).toNat < S16x128.size a := fun v307 v309 k0_hw58 => k0_hw58

def k0_chk59 (v319 : IVec S16 32) (v321 : IVec S16 32) : Prop :=
  (∀ a x, ((![v319, v321] : Fin 2 → IVec S16 32) a x).toNat < S16x128.size a)
theorem k0_idx59_inb : ∀ (v319 : IVec S16 32) (v321 : IVec S16 32) (k0_hw59 : k0_chk59 v319 v321), ∀ a x, ((![v319, v321] : Fin 2 → IVec S16 32) a x).toNat < S16x128.size a := fun v319 v321 k0_hw59 => k0_hw59

def k0_chk60 (v331 : IVec S16 32) (v333 : IVec S16 32) : Prop :=
  (∀ a x, ((![v331, v333] : Fin 2 → IVec S16 32) a x).toNat < S16x128.size a)
theorem k0_idx60_inb : ∀ (v331 : IVec S16 32) (v333 : IVec S16 32) (k0_hw60 : k0_chk60 v331 v333), ∀ a x, ((![v331, v333] : Fin 2 → IVec S16 32) a x).toNat < S16x128.size a := fun v331 v333 k0_hw60 => k0_hw60

def k0_chk61 (v343 : IVec S16 32) (v345 : IVec S16 32) : Prop :=
  (∀ a x, ((![v343, v345] : Fin 2 → IVec S16 32) a x).toNat < S16x128.size a)
theorem k0_idx61_inb : ∀ (v343 : IVec S16 32) (v345 : IVec S16 32) (k0_hw61 : k0_chk61 v343 v345), ∀ a x, ((![v343, v345] : Fin 2 → IVec S16 32) a x).toNat < S16x128.size a := fun v343 v345 k0_hw61 => k0_hw61

def k0_chk62 (v355 : IVec S16 32) (v357 : IVec S16 32) : Prop :=
  (∀ a x, ((![v355, v357] : Fin 2 → IVec S16 32) a x).toNat < S16x128.size a)
theorem k0_idx62_inb : ∀ (v355 : IVec S16 32) (v357 : IVec S16 32) (k0_hw62 : k0_chk62 v355 v357), ∀ a x, ((![v355, v357] : Fin 2 → IVec S16 32) a x).toNat < S16x128.size a := fun v355 v357 k0_hw62 => k0_hw62

def k0_chk63 (v367 : IVec S16 32) (v369 : IVec S16 32) : Prop :=
  (∀ a x, ((![v367, v369] : Fin 2 → IVec S16 32) a x).toNat < S16x128.size a)
theorem k0_idx63_inb : ∀ (v367 : IVec S16 32) (v369 : IVec S16 32) (k0_hw63 : k0_chk63 v367 v369), ∀ a x, ((![v367, v369] : Fin 2 → IVec S16 32) a x).toNat < S16x128.size a := fun v367 v369 k0_hw63 => k0_hw63

def k0_chk64 (v379 : IVec S16 32) (v381 : IVec S16 32) : Prop :=
  (∀ a x, ((![v379, v381] : Fin 2 → IVec S16 32) a x).toNat < S16x128.size a)
theorem k0_idx64_inb : ∀ (v379 : IVec S16 32) (v381 : IVec S16 32) (k0_hw64 : k0_chk64 v379 v381), ∀ a x, ((![v379, v381] : Fin 2 → IVec S16 32) a x).toNat < S16x128.size a := fun v379 v381 k0_hw64 => k0_hw64

def k0_chk65 (v391 : IVec S16 32) (v393 : IVec S16 32) : Prop :=
  (∀ a x, ((![v391, v393] : Fin 2 → IVec S16 32) a x).toNat < S16x128.size a)
theorem k0_idx65_inb : ∀ (v391 : IVec S16 32) (v393 : IVec S16 32) (k0_hw65 : k0_chk65 v391 v393), ∀ a x, ((![v391, v393] : Fin 2 → IVec S16 32) a x).toNat < S16x128.size a := fun v391 v393 k0_hw65 => k0_hw65
def k0_off74 (k0_t1 : Fin k0_t1_loop.trips) : Fin 1 → Nat :=
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c1_i32_116 : BitVec 32 := 1#32
  let v228 : BitVec 32 := Scalar.addi v25 c1_i32_116
  let c8_i32_174 : BitVec 32 := 8#32
  let v395 : BitVec 32 := Scalar.muli v228 c8_i32_174
  let v396 : Index := Scalar.indexCast v395
  ![v396.toNat]
@[reducible] def k0_t3_loop : Scf.Loop 32 :=
  let c0_i32_176 : BitVec 32 := 0#32
  let c8_i32_177 : BitVec 32 := 8#32
  let v398 : BitVec 32 := Scalar.addi c0_i32_176 c8_i32_177
  let c1_i32_178 : BitVec 32 := 1#32
  ⟨c0_i32_176, v398, c1_i32_178⟩

def k0_chk66 (v412 : IVec S16 32) : Prop :=
  (∀ a x, ((![v412] : Fin 1 → IVec S16 32) a x).toNat < S272.size a)
theorem k0_idx66_inb : ∀ (v412 : IVec S16 32) (k0_hw66 : k0_chk66 v412), ∀ a x, ((![v412] : Fin 1 → IVec S16 32) a x).toNat < S272.size a := fun v412 k0_hw66 => k0_hw66

def k0_chk67 (v409 : IVec S16 32) (v420 : IVec S16 32) : Prop :=
  (∀ a x, ((![v409, v420] : Fin 2 → IVec S16 32) a x).toNat < S8x4104.size a)
theorem k0_idx67_inb : ∀ (v409 : IVec S16 32) (v420 : IVec S16 32) (k0_hw67 : k0_chk67 v409 v420), ∀ a x, ((![v409, v420] : Fin 2 → IVec S16 32) a x).toNat < S8x4104.size a := fun v409 v420 k0_hw67 => k0_hw67

def k0_chk68 (v409 : IVec S16 32) (v423 : IVec S16 32) : Prop :=
  (∀ a x, ((![v409, v423] : Fin 2 → IVec S16 32) a x).toNat < S8x4104.size a)
theorem k0_idx68_inb : ∀ (v409 : IVec S16 32) (v423 : IVec S16 32) (k0_hw68 : k0_chk68 v409 v423), ∀ a x, ((![v409, v423] : Fin 2 → IVec S16 32) a x).toNat < S8x4104.size a := fun v409 v423 k0_hw68 => k0_hw68
def k0_off75 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_192 : BitVec 32 := 2#32
  let v425 : BitVec 32 := Scalar.muli arg27 c2_i32_192
  let c0_i32_193 : BitVec 32 := 0#32
  let v426 : BitVec 32 := Scalar.addi v425 c0_i32_193
  let v427 : Index := Scalar.indexCast v426
  let c0 : Index := 0#32
  ![v427.toNat, 0]
def k0_off76 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v434 : Index := Scalar.indexCast arg27
  let c0_195 : Index := 0#32
  ![v434.toNat, 0]
def k0_off77 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v436 : Index := Scalar.indexCast arg27
  let c0_196 : Index := 0#32
  ![v436.toNat, 0]
def k0_off78 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v438 : Index := Scalar.indexCast arg27
  let c256 : Index := 256#32
  ![v438.toNat, 256]

def k0_chk69 (v409 : IVec S16 32) (v442 : IVec S16 32) : Prop :=
  (∀ a x, ((![v409, v442] : Fin 2 → IVec S16 32) a x).toNat < S8x4104.size a)
theorem k0_idx69_inb : ∀ (v409 : IVec S16 32) (v442 : IVec S16 32) (k0_hw69 : k0_chk69 v409 v442), ∀ a x, ((![v409, v442] : Fin 2 → IVec S16 32) a x).toNat < S8x4104.size a := fun v409 v442 k0_hw69 => k0_hw69

def k0_chk70 (v409 : IVec S16 32) (v445 : IVec S16 32) : Prop :=
  (∀ a x, ((![v409, v445] : Fin 2 → IVec S16 32) a x).toNat < S8x4104.size a)
theorem k0_idx70_inb : ∀ (v409 : IVec S16 32) (v445 : IVec S16 32) (k0_hw70 : k0_chk70 v409 v445), ∀ a x, ((![v409, v445] : Fin 2 → IVec S16 32) a x).toNat < S8x4104.size a := fun v409 v445 k0_hw70 => k0_hw70
def k0_off79 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_199 : BitVec 32 := 2#32
  let v447 : BitVec 32 := Scalar.muli arg27 c2_i32_199
  let c0_i32_200 : BitVec 32 := 0#32
  let v448 : BitVec 32 := Scalar.addi v447 c0_i32_200
  let v449 : Index := Scalar.indexCast v448
  let c16 : Index := 16#32
  ![v449.toNat, 16]
def k0_off80 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v456 : Index := Scalar.indexCast arg27
  let c16_202 : Index := 16#32
  ![v456.toNat, 16]
def k0_off81 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v458 : Index := Scalar.indexCast arg27
  let c16_203 : Index := 16#32
  ![v458.toNat, 16]
def k0_off82 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v460 : Index := Scalar.indexCast arg27
  let c272 : Index := 272#32
  ![v460.toNat, 272]

def k0_chk71 (v409 : IVec S16 32) (v464 : IVec S16 32) : Prop :=
  (∀ a x, ((![v409, v464] : Fin 2 → IVec S16 32) a x).toNat < S8x4104.size a)
theorem k0_idx71_inb : ∀ (v409 : IVec S16 32) (v464 : IVec S16 32) (k0_hw71 : k0_chk71 v409 v464), ∀ a x, ((![v409, v464] : Fin 2 → IVec S16 32) a x).toNat < S8x4104.size a := fun v409 v464 k0_hw71 => k0_hw71

def k0_chk72 (v409 : IVec S16 32) (v467 : IVec S16 32) : Prop :=
  (∀ a x, ((![v409, v467] : Fin 2 → IVec S16 32) a x).toNat < S8x4104.size a)
theorem k0_idx72_inb : ∀ (v409 : IVec S16 32) (v467 : IVec S16 32) (k0_hw72 : k0_chk72 v409 v467), ∀ a x, ((![v409, v467] : Fin 2 → IVec S16 32) a x).toNat < S8x4104.size a := fun v409 v467 k0_hw72 => k0_hw72
def k0_off83 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_205 : BitVec 32 := 2#32
  let v469 : BitVec 32 := Scalar.muli arg27 c2_i32_205
  let c0_i32_206 : BitVec 32 := 0#32
  let v470 : BitVec 32 := Scalar.addi v469 c0_i32_206
  let v471 : Index := Scalar.indexCast v470
  let c32 : Index := 32#32
  ![v471.toNat, 32]
def k0_off84 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v478 : Index := Scalar.indexCast arg27
  let c32_208 : Index := 32#32
  ![v478.toNat, 32]
def k0_off85 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v480 : Index := Scalar.indexCast arg27
  let c32_209 : Index := 32#32
  ![v480.toNat, 32]
def k0_off86 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v482 : Index := Scalar.indexCast arg27
  let c288 : Index := 288#32
  ![v482.toNat, 288]

def k0_chk73 (v409 : IVec S16 32) (v486 : IVec S16 32) : Prop :=
  (∀ a x, ((![v409, v486] : Fin 2 → IVec S16 32) a x).toNat < S8x4104.size a)
theorem k0_idx73_inb : ∀ (v409 : IVec S16 32) (v486 : IVec S16 32) (k0_hw73 : k0_chk73 v409 v486), ∀ a x, ((![v409, v486] : Fin 2 → IVec S16 32) a x).toNat < S8x4104.size a := fun v409 v486 k0_hw73 => k0_hw73

def k0_chk74 (v409 : IVec S16 32) (v489 : IVec S16 32) : Prop :=
  (∀ a x, ((![v409, v489] : Fin 2 → IVec S16 32) a x).toNat < S8x4104.size a)
theorem k0_idx74_inb : ∀ (v409 : IVec S16 32) (v489 : IVec S16 32) (k0_hw74 : k0_chk74 v409 v489), ∀ a x, ((![v409, v489] : Fin 2 → IVec S16 32) a x).toNat < S8x4104.size a := fun v409 v489 k0_hw74 => k0_hw74
def k0_off87 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_211 : BitVec 32 := 2#32
  let v491 : BitVec 32 := Scalar.muli arg27 c2_i32_211
  let c0_i32_212 : BitVec 32 := 0#32
  let v492 : BitVec 32 := Scalar.addi v491 c0_i32_212
  let v493 : Index := Scalar.indexCast v492
  let c48 : Index := 48#32
  ![v493.toNat, 48]
def k0_off88 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v500 : Index := Scalar.indexCast arg27
  let c48_214 : Index := 48#32
  ![v500.toNat, 48]
def k0_off89 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v502 : Index := Scalar.indexCast arg27
  let c48_215 : Index := 48#32
  ![v502.toNat, 48]
def k0_off90 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v504 : Index := Scalar.indexCast arg27
  let c304 : Index := 304#32
  ![v504.toNat, 304]

def k0_chk75 (v409 : IVec S16 32) (v508 : IVec S16 32) : Prop :=
  (∀ a x, ((![v409, v508] : Fin 2 → IVec S16 32) a x).toNat < S8x4104.size a)
theorem k0_idx75_inb : ∀ (v409 : IVec S16 32) (v508 : IVec S16 32) (k0_hw75 : k0_chk75 v409 v508), ∀ a x, ((![v409, v508] : Fin 2 → IVec S16 32) a x).toNat < S8x4104.size a := fun v409 v508 k0_hw75 => k0_hw75

def k0_chk76 (v409 : IVec S16 32) (v511 : IVec S16 32) : Prop :=
  (∀ a x, ((![v409, v511] : Fin 2 → IVec S16 32) a x).toNat < S8x4104.size a)
theorem k0_idx76_inb : ∀ (v409 : IVec S16 32) (v511 : IVec S16 32) (k0_hw76 : k0_chk76 v409 v511), ∀ a x, ((![v409, v511] : Fin 2 → IVec S16 32) a x).toNat < S8x4104.size a := fun v409 v511 k0_hw76 => k0_hw76
def k0_off91 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_217 : BitVec 32 := 2#32
  let v513 : BitVec 32 := Scalar.muli arg27 c2_i32_217
  let c0_i32_218 : BitVec 32 := 0#32
  let v514 : BitVec 32 := Scalar.addi v513 c0_i32_218
  let v515 : Index := Scalar.indexCast v514
  let c64 : Index := 64#32
  ![v515.toNat, 64]
def k0_off92 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v522 : Index := Scalar.indexCast arg27
  let c64_220 : Index := 64#32
  ![v522.toNat, 64]
def k0_off93 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v524 : Index := Scalar.indexCast arg27
  let c64_221 : Index := 64#32
  ![v524.toNat, 64]
def k0_off94 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v526 : Index := Scalar.indexCast arg27
  let c320 : Index := 320#32
  ![v526.toNat, 320]

def k0_chk77 (v409 : IVec S16 32) (v530 : IVec S16 32) : Prop :=
  (∀ a x, ((![v409, v530] : Fin 2 → IVec S16 32) a x).toNat < S8x4104.size a)
theorem k0_idx77_inb : ∀ (v409 : IVec S16 32) (v530 : IVec S16 32) (k0_hw77 : k0_chk77 v409 v530), ∀ a x, ((![v409, v530] : Fin 2 → IVec S16 32) a x).toNat < S8x4104.size a := fun v409 v530 k0_hw77 => k0_hw77

def k0_chk78 (v409 : IVec S16 32) (v533 : IVec S16 32) : Prop :=
  (∀ a x, ((![v409, v533] : Fin 2 → IVec S16 32) a x).toNat < S8x4104.size a)
theorem k0_idx78_inb : ∀ (v409 : IVec S16 32) (v533 : IVec S16 32) (k0_hw78 : k0_chk78 v409 v533), ∀ a x, ((![v409, v533] : Fin 2 → IVec S16 32) a x).toNat < S8x4104.size a := fun v409 v533 k0_hw78 => k0_hw78
def k0_off95 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_223 : BitVec 32 := 2#32
  let v535 : BitVec 32 := Scalar.muli arg27 c2_i32_223
  let c0_i32_224 : BitVec 32 := 0#32
  let v536 : BitVec 32 := Scalar.addi v535 c0_i32_224
  let v537 : Index := Scalar.indexCast v536
  let c80 : Index := 80#32
  ![v537.toNat, 80]
def k0_off96 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v544 : Index := Scalar.indexCast arg27
  let c80_226 : Index := 80#32
  ![v544.toNat, 80]
def k0_off97 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v546 : Index := Scalar.indexCast arg27
  let c80_227 : Index := 80#32
  ![v546.toNat, 80]
def k0_off98 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v548 : Index := Scalar.indexCast arg27
  let c336 : Index := 336#32
  ![v548.toNat, 336]

def k0_chk79 (v409 : IVec S16 32) (v552 : IVec S16 32) : Prop :=
  (∀ a x, ((![v409, v552] : Fin 2 → IVec S16 32) a x).toNat < S8x4104.size a)
theorem k0_idx79_inb : ∀ (v409 : IVec S16 32) (v552 : IVec S16 32) (k0_hw79 : k0_chk79 v409 v552), ∀ a x, ((![v409, v552] : Fin 2 → IVec S16 32) a x).toNat < S8x4104.size a := fun v409 v552 k0_hw79 => k0_hw79

def k0_chk80 (v409 : IVec S16 32) (v555 : IVec S16 32) : Prop :=
  (∀ a x, ((![v409, v555] : Fin 2 → IVec S16 32) a x).toNat < S8x4104.size a)
theorem k0_idx80_inb : ∀ (v409 : IVec S16 32) (v555 : IVec S16 32) (k0_hw80 : k0_chk80 v409 v555), ∀ a x, ((![v409, v555] : Fin 2 → IVec S16 32) a x).toNat < S8x4104.size a := fun v409 v555 k0_hw80 => k0_hw80
def k0_off99 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_229 : BitVec 32 := 2#32
  let v557 : BitVec 32 := Scalar.muli arg27 c2_i32_229
  let c0_i32_230 : BitVec 32 := 0#32
  let v558 : BitVec 32 := Scalar.addi v557 c0_i32_230
  let v559 : Index := Scalar.indexCast v558
  let c96 : Index := 96#32
  ![v559.toNat, 96]
def k0_off100 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v566 : Index := Scalar.indexCast arg27
  let c96_232 : Index := 96#32
  ![v566.toNat, 96]
def k0_off101 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v568 : Index := Scalar.indexCast arg27
  let c96_233 : Index := 96#32
  ![v568.toNat, 96]
def k0_off102 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v570 : Index := Scalar.indexCast arg27
  let c352 : Index := 352#32
  ![v570.toNat, 352]

def k0_chk81 (v409 : IVec S16 32) (v574 : IVec S16 32) : Prop :=
  (∀ a x, ((![v409, v574] : Fin 2 → IVec S16 32) a x).toNat < S8x4104.size a)
theorem k0_idx81_inb : ∀ (v409 : IVec S16 32) (v574 : IVec S16 32) (k0_hw81 : k0_chk81 v409 v574), ∀ a x, ((![v409, v574] : Fin 2 → IVec S16 32) a x).toNat < S8x4104.size a := fun v409 v574 k0_hw81 => k0_hw81

def k0_chk82 (v409 : IVec S16 32) (v577 : IVec S16 32) : Prop :=
  (∀ a x, ((![v409, v577] : Fin 2 → IVec S16 32) a x).toNat < S8x4104.size a)
theorem k0_idx82_inb : ∀ (v409 : IVec S16 32) (v577 : IVec S16 32) (k0_hw82 : k0_chk82 v409 v577), ∀ a x, ((![v409, v577] : Fin 2 → IVec S16 32) a x).toNat < S8x4104.size a := fun v409 v577 k0_hw82 => k0_hw82
def k0_off103 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_235 : BitVec 32 := 2#32
  let v579 : BitVec 32 := Scalar.muli arg27 c2_i32_235
  let c0_i32_236 : BitVec 32 := 0#32
  let v580 : BitVec 32 := Scalar.addi v579 c0_i32_236
  let v581 : Index := Scalar.indexCast v580
  let c112 : Index := 112#32
  ![v581.toNat, 112]
def k0_off104 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v588 : Index := Scalar.indexCast arg27
  let c112_238 : Index := 112#32
  ![v588.toNat, 112]
def k0_off105 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v590 : Index := Scalar.indexCast arg27
  let c112_239 : Index := 112#32
  ![v590.toNat, 112]
def k0_off106 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v592 : Index := Scalar.indexCast arg27
  let c368 : Index := 368#32
  ![v592.toNat, 368]

def k0_chk83 (v409 : IVec S16 32) (v596 : IVec S16 32) : Prop :=
  (∀ a x, ((![v409, v596] : Fin 2 → IVec S16 32) a x).toNat < S8x4104.size a)
theorem k0_idx83_inb : ∀ (v409 : IVec S16 32) (v596 : IVec S16 32) (k0_hw83 : k0_chk83 v409 v596), ∀ a x, ((![v409, v596] : Fin 2 → IVec S16 32) a x).toNat < S8x4104.size a := fun v409 v596 k0_hw83 => k0_hw83

def k0_chk84 (v409 : IVec S16 32) (v599 : IVec S16 32) : Prop :=
  (∀ a x, ((![v409, v599] : Fin 2 → IVec S16 32) a x).toNat < S8x4104.size a)
theorem k0_idx84_inb : ∀ (v409 : IVec S16 32) (v599 : IVec S16 32) (k0_hw84 : k0_chk84 v409 v599), ∀ a x, ((![v409, v599] : Fin 2 → IVec S16 32) a x).toNat < S8x4104.size a := fun v409 v599 k0_hw84 => k0_hw84
def k0_off107 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_241 : BitVec 32 := 2#32
  let v601 : BitVec 32 := Scalar.muli arg27 c2_i32_241
  let c1_i32_242 : BitVec 32 := 1#32
  let v602 : BitVec 32 := Scalar.addi v601 c1_i32_242
  let v603 : Index := Scalar.indexCast v602
  let c0_243 : Index := 0#32
  ![v603.toNat, 0]
def k0_off108 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v610 : Index := Scalar.indexCast arg27
  let c128 : Index := 128#32
  ![v610.toNat, 128]
def k0_off109 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v612 : Index := Scalar.indexCast arg27
  let c128_245 : Index := 128#32
  ![v612.toNat, 128]
def k0_off110 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v614 : Index := Scalar.indexCast arg27
  let c384 : Index := 384#32
  ![v614.toNat, 384]

def k0_chk85 (v409 : IVec S16 32) (v618 : IVec S16 32) : Prop :=
  (∀ a x, ((![v409, v618] : Fin 2 → IVec S16 32) a x).toNat < S8x4104.size a)
theorem k0_idx85_inb : ∀ (v409 : IVec S16 32) (v618 : IVec S16 32) (k0_hw85 : k0_chk85 v409 v618), ∀ a x, ((![v409, v618] : Fin 2 → IVec S16 32) a x).toNat < S8x4104.size a := fun v409 v618 k0_hw85 => k0_hw85

def k0_chk86 (v409 : IVec S16 32) (v621 : IVec S16 32) : Prop :=
  (∀ a x, ((![v409, v621] : Fin 2 → IVec S16 32) a x).toNat < S8x4104.size a)
theorem k0_idx86_inb : ∀ (v409 : IVec S16 32) (v621 : IVec S16 32) (k0_hw86 : k0_chk86 v409 v621), ∀ a x, ((![v409, v621] : Fin 2 → IVec S16 32) a x).toNat < S8x4104.size a := fun v409 v621 k0_hw86 => k0_hw86
def k0_off111 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_247 : BitVec 32 := 2#32
  let v623 : BitVec 32 := Scalar.muli arg27 c2_i32_247
  let c1_i32_248 : BitVec 32 := 1#32
  let v624 : BitVec 32 := Scalar.addi v623 c1_i32_248
  let v625 : Index := Scalar.indexCast v624
  let c16_249 : Index := 16#32
  ![v625.toNat, 16]
def k0_off112 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v632 : Index := Scalar.indexCast arg27
  let c144 : Index := 144#32
  ![v632.toNat, 144]
def k0_off113 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v634 : Index := Scalar.indexCast arg27
  let c144_251 : Index := 144#32
  ![v634.toNat, 144]
def k0_off114 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v636 : Index := Scalar.indexCast arg27
  let c400 : Index := 400#32
  ![v636.toNat, 400]

def k0_chk87 (v409 : IVec S16 32) (v640 : IVec S16 32) : Prop :=
  (∀ a x, ((![v409, v640] : Fin 2 → IVec S16 32) a x).toNat < S8x4104.size a)
theorem k0_idx87_inb : ∀ (v409 : IVec S16 32) (v640 : IVec S16 32) (k0_hw87 : k0_chk87 v409 v640), ∀ a x, ((![v409, v640] : Fin 2 → IVec S16 32) a x).toNat < S8x4104.size a := fun v409 v640 k0_hw87 => k0_hw87

def k0_chk88 (v409 : IVec S16 32) (v643 : IVec S16 32) : Prop :=
  (∀ a x, ((![v409, v643] : Fin 2 → IVec S16 32) a x).toNat < S8x4104.size a)
theorem k0_idx88_inb : ∀ (v409 : IVec S16 32) (v643 : IVec S16 32) (k0_hw88 : k0_chk88 v409 v643), ∀ a x, ((![v409, v643] : Fin 2 → IVec S16 32) a x).toNat < S8x4104.size a := fun v409 v643 k0_hw88 => k0_hw88
def k0_off115 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_253 : BitVec 32 := 2#32
  let v645 : BitVec 32 := Scalar.muli arg27 c2_i32_253
  let c1_i32_254 : BitVec 32 := 1#32
  let v646 : BitVec 32 := Scalar.addi v645 c1_i32_254
  let v647 : Index := Scalar.indexCast v646
  let c32_255 : Index := 32#32
  ![v647.toNat, 32]
def k0_off116 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v654 : Index := Scalar.indexCast arg27
  let c160 : Index := 160#32
  ![v654.toNat, 160]
def k0_off117 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v656 : Index := Scalar.indexCast arg27
  let c160_257 : Index := 160#32
  ![v656.toNat, 160]
def k0_off118 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v658 : Index := Scalar.indexCast arg27
  let c416 : Index := 416#32
  ![v658.toNat, 416]

def k0_chk89 (v409 : IVec S16 32) (v662 : IVec S16 32) : Prop :=
  (∀ a x, ((![v409, v662] : Fin 2 → IVec S16 32) a x).toNat < S8x4104.size a)
theorem k0_idx89_inb : ∀ (v409 : IVec S16 32) (v662 : IVec S16 32) (k0_hw89 : k0_chk89 v409 v662), ∀ a x, ((![v409, v662] : Fin 2 → IVec S16 32) a x).toNat < S8x4104.size a := fun v409 v662 k0_hw89 => k0_hw89

def k0_chk90 (v409 : IVec S16 32) (v665 : IVec S16 32) : Prop :=
  (∀ a x, ((![v409, v665] : Fin 2 → IVec S16 32) a x).toNat < S8x4104.size a)
theorem k0_idx90_inb : ∀ (v409 : IVec S16 32) (v665 : IVec S16 32) (k0_hw90 : k0_chk90 v409 v665), ∀ a x, ((![v409, v665] : Fin 2 → IVec S16 32) a x).toNat < S8x4104.size a := fun v409 v665 k0_hw90 => k0_hw90
def k0_off119 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_259 : BitVec 32 := 2#32
  let v667 : BitVec 32 := Scalar.muli arg27 c2_i32_259
  let c1_i32_260 : BitVec 32 := 1#32
  let v668 : BitVec 32 := Scalar.addi v667 c1_i32_260
  let v669 : Index := Scalar.indexCast v668
  let c48_261 : Index := 48#32
  ![v669.toNat, 48]
def k0_off120 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v676 : Index := Scalar.indexCast arg27
  let c176 : Index := 176#32
  ![v676.toNat, 176]
def k0_off121 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v678 : Index := Scalar.indexCast arg27
  let c176_263 : Index := 176#32
  ![v678.toNat, 176]
def k0_off122 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v680 : Index := Scalar.indexCast arg27
  let c432 : Index := 432#32
  ![v680.toNat, 432]

def k0_chk91 (v409 : IVec S16 32) (v684 : IVec S16 32) : Prop :=
  (∀ a x, ((![v409, v684] : Fin 2 → IVec S16 32) a x).toNat < S8x4104.size a)
theorem k0_idx91_inb : ∀ (v409 : IVec S16 32) (v684 : IVec S16 32) (k0_hw91 : k0_chk91 v409 v684), ∀ a x, ((![v409, v684] : Fin 2 → IVec S16 32) a x).toNat < S8x4104.size a := fun v409 v684 k0_hw91 => k0_hw91

def k0_chk92 (v409 : IVec S16 32) (v687 : IVec S16 32) : Prop :=
  (∀ a x, ((![v409, v687] : Fin 2 → IVec S16 32) a x).toNat < S8x4104.size a)
theorem k0_idx92_inb : ∀ (v409 : IVec S16 32) (v687 : IVec S16 32) (k0_hw92 : k0_chk92 v409 v687), ∀ a x, ((![v409, v687] : Fin 2 → IVec S16 32) a x).toNat < S8x4104.size a := fun v409 v687 k0_hw92 => k0_hw92
def k0_off123 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_265 : BitVec 32 := 2#32
  let v689 : BitVec 32 := Scalar.muli arg27 c2_i32_265
  let c1_i32_266 : BitVec 32 := 1#32
  let v690 : BitVec 32 := Scalar.addi v689 c1_i32_266
  let v691 : Index := Scalar.indexCast v690
  let c64_267 : Index := 64#32
  ![v691.toNat, 64]
def k0_off124 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v698 : Index := Scalar.indexCast arg27
  let c192 : Index := 192#32
  ![v698.toNat, 192]
def k0_off125 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v700 : Index := Scalar.indexCast arg27
  let c192_269 : Index := 192#32
  ![v700.toNat, 192]
def k0_off126 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v702 : Index := Scalar.indexCast arg27
  let c448 : Index := 448#32
  ![v702.toNat, 448]

def k0_chk93 (v409 : IVec S16 32) (v706 : IVec S16 32) : Prop :=
  (∀ a x, ((![v409, v706] : Fin 2 → IVec S16 32) a x).toNat < S8x4104.size a)
theorem k0_idx93_inb : ∀ (v409 : IVec S16 32) (v706 : IVec S16 32) (k0_hw93 : k0_chk93 v409 v706), ∀ a x, ((![v409, v706] : Fin 2 → IVec S16 32) a x).toNat < S8x4104.size a := fun v409 v706 k0_hw93 => k0_hw93

def k0_chk94 (v409 : IVec S16 32) (v709 : IVec S16 32) : Prop :=
  (∀ a x, ((![v409, v709] : Fin 2 → IVec S16 32) a x).toNat < S8x4104.size a)
theorem k0_idx94_inb : ∀ (v409 : IVec S16 32) (v709 : IVec S16 32) (k0_hw94 : k0_chk94 v409 v709), ∀ a x, ((![v409, v709] : Fin 2 → IVec S16 32) a x).toNat < S8x4104.size a := fun v409 v709 k0_hw94 => k0_hw94
def k0_off127 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_271 : BitVec 32 := 2#32
  let v711 : BitVec 32 := Scalar.muli arg27 c2_i32_271
  let c1_i32_272 : BitVec 32 := 1#32
  let v712 : BitVec 32 := Scalar.addi v711 c1_i32_272
  let v713 : Index := Scalar.indexCast v712
  let c80_273 : Index := 80#32
  ![v713.toNat, 80]
def k0_off128 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v720 : Index := Scalar.indexCast arg27
  let c208 : Index := 208#32
  ![v720.toNat, 208]
def k0_off129 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v722 : Index := Scalar.indexCast arg27
  let c208_275 : Index := 208#32
  ![v722.toNat, 208]
def k0_off130 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v724 : Index := Scalar.indexCast arg27
  let c464 : Index := 464#32
  ![v724.toNat, 464]

def k0_chk95 (v409 : IVec S16 32) (v728 : IVec S16 32) : Prop :=
  (∀ a x, ((![v409, v728] : Fin 2 → IVec S16 32) a x).toNat < S8x4104.size a)
theorem k0_idx95_inb : ∀ (v409 : IVec S16 32) (v728 : IVec S16 32) (k0_hw95 : k0_chk95 v409 v728), ∀ a x, ((![v409, v728] : Fin 2 → IVec S16 32) a x).toNat < S8x4104.size a := fun v409 v728 k0_hw95 => k0_hw95

def k0_chk96 (v409 : IVec S16 32) (v731 : IVec S16 32) : Prop :=
  (∀ a x, ((![v409, v731] : Fin 2 → IVec S16 32) a x).toNat < S8x4104.size a)
theorem k0_idx96_inb : ∀ (v409 : IVec S16 32) (v731 : IVec S16 32) (k0_hw96 : k0_chk96 v409 v731), ∀ a x, ((![v409, v731] : Fin 2 → IVec S16 32) a x).toNat < S8x4104.size a := fun v409 v731 k0_hw96 => k0_hw96
def k0_off131 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_277 : BitVec 32 := 2#32
  let v733 : BitVec 32 := Scalar.muli arg27 c2_i32_277
  let c1_i32_278 : BitVec 32 := 1#32
  let v734 : BitVec 32 := Scalar.addi v733 c1_i32_278
  let v735 : Index := Scalar.indexCast v734
  let c96_279 : Index := 96#32
  ![v735.toNat, 96]
def k0_off132 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v742 : Index := Scalar.indexCast arg27
  let c224 : Index := 224#32
  ![v742.toNat, 224]
def k0_off133 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v744 : Index := Scalar.indexCast arg27
  let c224_281 : Index := 224#32
  ![v744.toNat, 224]
def k0_off134 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v746 : Index := Scalar.indexCast arg27
  let c480 : Index := 480#32
  ![v746.toNat, 480]

def k0_chk97 (v409 : IVec S16 32) (v750 : IVec S16 32) : Prop :=
  (∀ a x, ((![v409, v750] : Fin 2 → IVec S16 32) a x).toNat < S8x4104.size a)
theorem k0_idx97_inb : ∀ (v409 : IVec S16 32) (v750 : IVec S16 32) (k0_hw97 : k0_chk97 v409 v750), ∀ a x, ((![v409, v750] : Fin 2 → IVec S16 32) a x).toNat < S8x4104.size a := fun v409 v750 k0_hw97 => k0_hw97

def k0_chk98 (v409 : IVec S16 32) (v753 : IVec S16 32) : Prop :=
  (∀ a x, ((![v409, v753] : Fin 2 → IVec S16 32) a x).toNat < S8x4104.size a)
theorem k0_idx98_inb : ∀ (v409 : IVec S16 32) (v753 : IVec S16 32) (k0_hw98 : k0_chk98 v409 v753), ∀ a x, ((![v409, v753] : Fin 2 → IVec S16 32) a x).toNat < S8x4104.size a := fun v409 v753 k0_hw98 => k0_hw98
def k0_off135 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let c2_i32_283 : BitVec 32 := 2#32
  let v755 : BitVec 32 := Scalar.muli arg27 c2_i32_283
  let c1_i32_284 : BitVec 32 := 1#32
  let v756 : BitVec 32 := Scalar.addi v755 c1_i32_284
  let v757 : Index := Scalar.indexCast v756
  let c112_285 : Index := 112#32
  ![v757.toNat, 112]
def k0_off136 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v764 : Index := Scalar.indexCast arg27
  let c240 : Index := 240#32
  ![v764.toNat, 240]
def k0_off137 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v766 : Index := Scalar.indexCast arg27
  let c240_287 : Index := 240#32
  ![v766.toNat, 240]
def k0_off138 (k0_t3 : Fin k0_t3_loop.trips) : Fin 2 → Nat :=
  let c0_i32_176 : BitVec 32 := 0#32
  let c1_i32_178 : BitVec 32 := 1#32
  let arg27 : BitVec 32 := Scf.iv c0_i32_176 c1_i32_178 k0_t3
  let v768 : Index := Scalar.indexCast arg27
  let c496 : Index := 496#32
  ![v768.toNat, 496]
def k0_off139 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c1_i32_180 : BitVec 32 := 1#32
  let v400 : BitVec 32 := Scalar.addi v25 c1_i32_180
  let c8_i32_181 : BitVec 32 := 8#32
  let v401 : BitVec 32 := Scalar.muli v400 c8_i32_181
  let v402 : BitVec 32 := Scalar.addi v2 v401
  let c0_i32_182 : BitVec 32 := 0#32
  ![v402.toNat, 0]
def k0_off140 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_25 : BitVec 32 := 2#32
  let c0_i32_6 : BitVec 32 := 0#32
  let c1_i32 : BitVec 32 := 1#32
  let arg25 : BitVec 32 := Scf.iv c0_i32_6 c1_i32 k0_t1
  let v25 : BitVec 32 := Scalar.muli c2_i32_25 arg25
  let c1_i32_180 : BitVec 32 := 1#32
  let v400 : BitVec 32 := Scalar.addi v25 c1_i32_180
  let c8_i32_181 : BitVec 32 := 8#32
  let v401 : BitVec 32 := Scalar.muli v400 c8_i32_181
  let v402 : BitVec 32 := Scalar.addi v2 v401
  let c0_i32_184 : BitVec 32 := 0#32
  ![v402.toNat, 0]
def k0_off141 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_24 : BitVec 32 := 16#32
  let v24 : BitVec 32 := Scalar.muli v1 c16_i32_24
  let c0_i32_25_r0 : BitVec 32 := 0#32
  ![v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4104 : Shape := ⟨2, ![8192, 4104]⟩
abbrev S16384x128 : Shape := ⟨2, ![16384, 128]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8192x512 : Shape := ⟨2, ![8192, 512]⟩
abbrev S1x8192x512 : Shape := ⟨3, ![1, 8192, 512]⟩
abbrev S8x8192x512 : Shape := ⟨3, ![8, 8192, 512]⟩
abbrev S1x8192x1 : Shape := ⟨3, ![1, 8192, 1]⟩
abbrev S1 : Shape := ⟨1, ![1]⟩
abbrev S1x1x1 : Shape := ⟨3, ![1, 1, 1]⟩
abbrev S1x8192 : Shape := ⟨2, ![1, 8192]⟩
abbrev S8192x256 : Shape := ⟨2, ![8192, 256]⟩

abbrev nBuf : Space → Nat
  | .hbm => 74
  | .vmem => 0
  | .smem => 0
  | _ => 0

abbrev bufTy : (tb : Table) → Fin (tcTables nBuf tb) → BufTy
  | .hbm, ⟨0, _⟩ => ⟨S8192x4104, .f32⟩
  | .hbm, ⟨1, _⟩ => ⟨S16384x128, .f32⟩
  | .hbm, ⟨2, _⟩ => ⟨S8192x8, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8, .f32⟩
  | .hbm, ⟨16, _⟩ => ⟨S8192x8, .f32⟩
  | .hbm, ⟨17, _⟩ => ⟨S8192x8, .i32⟩
  | .hbm, ⟨18, _⟩ => ⟨S_, .f32⟩
  | .hbm, ⟨19, _⟩ => ⟨S_, .i32⟩
  | .hbm, ⟨20, _⟩ => ⟨S8192, .f32⟩
  | .hbm, ⟨21, _⟩ => ⟨S8192, .i32⟩
  | .hbm, ⟨22, _⟩ => ⟨S8192x4096, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S1x8192x512, .f32⟩
  | .hbm, ⟨35, _⟩ => ⟨S1x8192x512, .f32⟩
  | .hbm, ⟨36, _⟩ => ⟨S1x8192x512, .f32⟩
  | .hbm, ⟨37, _⟩ => ⟨S1x8192x512, .f32⟩
  | .hbm, ⟨38, _⟩ => ⟨S1x8192x512, .f32⟩
  | .hbm, ⟨39, _⟩ => ⟨S8x8192x512, .f32⟩
  | .hbm, ⟨40, _⟩ => ⟨S1x8192x1, .i32⟩
  | .hbm, ⟨41, _⟩ => ⟨S_, .i32⟩
  | .hbm, ⟨42, _⟩ => ⟨S1x8192x1, .i32⟩
  | .hbm, ⟨43, _⟩ => ⟨S1x8192x1, .i1⟩
  | .hbm, ⟨44, _⟩ => ⟨S_, .i32⟩
  | .hbm, ⟨45, _⟩ => ⟨S1x8192x1, .i32⟩
  | .hbm, ⟨46, _⟩ => ⟨S1x8192x1, .i32⟩
  | .hbm, ⟨47, _⟩ => ⟨S1x8192x1, .i32⟩
  | .hbm, ⟨48, _⟩ => ⟨S1, .i32⟩
  | .hbm, ⟨49, _⟩ => ⟨S_, .i32⟩
  | .hbm, ⟨50, _⟩ => ⟨S1x8192x1, .i32⟩
  | .hbm, ⟨51, _⟩ => ⟨S1x8192x1, .i1⟩
  | .hbm, ⟨52, _⟩ => ⟨S1x1x1, .i32⟩
  | .hbm, ⟨53, _⟩ => ⟨S1x8192x1, .i32⟩
  | .hbm, ⟨54, _⟩ => ⟨S1x8192x1, .i1⟩
  | .hbm, ⟨55, _⟩ => ⟨S1x8192x1, .i1⟩
  | .hbm, ⟨56, _⟩ => ⟨S_, .i1⟩
  | .hbm, ⟨57, _⟩ => ⟨S1x8192, .i1⟩
  | .hbm, ⟨58, _⟩ => ⟨S1x8192x512, .f32⟩
  | .hbm, ⟨59, _⟩ => ⟨S1x8192x512, .i1⟩
  | .hbm, ⟨60, _⟩ => ⟨S_, .f32⟩
  | .hbm, ⟨61, _⟩ => ⟨S1x8192x512, .f32⟩
  | .hbm, ⟨62, _⟩ => ⟨S1x8192x512, .f32⟩
  | .hbm, ⟨63, _⟩ => ⟨S8192x512, .f32⟩
  | .hbm, ⟨64, _⟩ => ⟨S8192x256, .f32⟩
  | .hbm, ⟨65, _⟩ => ⟨S8192x256, .f32⟩
  | .hbm, ⟨66, _⟩ => ⟨S_, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x512, .f32⟩
  | _, _ => ⟨S8192x4104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_c_2 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_c_3 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_2 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩

abbrev nD : Nat := 1
abbrev τ : Topo := Topo.v7x

variable {F : FTy → Type} [FloatOps F]
-- ==== Proof.Body.lean ====
/-
  The kernel's text regrouped: one step of a token (two gathers, three stores), a token (sixteen steps), the selector of
  a block of eight tokens (eight gathers, eight scatters, one store), and one trip of the outer loop (two blocks). Each
  is written once over the buffers it is used at; the printed bodies are these by unfolding.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Mix

open Cert.KernelIdeal Cert.KernelIdeal.Gen
open Idealize.ShloMosaic Idealize.SL.Sem
open Idealize.ShloMosaic.SparseCore (vectorLoadIdx vectorStoreIdx)

variable {F : FTy → Type} [FloatOps F]

/-- Programs of one tile. -/
abbrev PG (F : FTy → Type) (i : grid0.Coords) (α : Type) : Type 1 :=
  Prog (TpuEff nD τ sig (Elt F) Λ₀ (.scVector ((i 0).castLE hcore0) ((i 1).castLE hsub0))) α

/-- What one step of a token is given: its column word and where it reads and writes in the buffers. -/
structure StepOffs where
  w : BitVec 32
  oE : Fin 2 → Nat
  oS : Fin 2 → Nat
  oM : Fin 2 → Nat
  oL : Fin 2 → Nat
  hE : ∀ a, oE a + S1x16.size a ≤ S16x128.size a
  hS : ∀ a, oS a + S1x16.size a ≤ S8x256.size a
  hM : ∀ a, oM a + S1x16.size a ≤ S8x512.size a
  hL : ∀ a, oL a + S1x16.size a ≤ S8x512.size a

/-- The lanes' numbers. -/
def lanes : IVec S16 32 := iota .scVector S16 32 [0] iota_S16_d0_w32_scVector

/-- The columns of a step's means: the chosen component's first column, the step's word, the lane. -/
def colM (cb : Vec F S16 .i32) (w : BitVec 32) : IVec S16 32 := addi (addi (k0_pay3 cb) (broadcast S16 w)) lanes

/-- One step: gather sixteen means and log variances of a token's chosen component, store the sample and both. -/
def tstep (i : grid0.Coords) (rows : Memref sig .scVector .vmem S8x4104 .f32) (ep : Memref sig .scVector .vmem S16x128 .f32)
    (comp : Memref sig .scVector .vmem S8x512 .f32) (samp : Memref sig .scVector .vmem S8x256 .f32)
    (row c1 : IVec S16 32) (o : StepOffs) : PG F i PUnit := do
  have h1 : k0_chk18 row c1 := (← Prog.lift (TpuEff.assume (k0_chk18 row c1) (k0_chk18.dec row c1))).down
  let mn : Vec F S16 .f32 ← vectorLoadIdx rows ![row, c1] (k0_idx18_inb row c1 h1) (View.loads_vmem h_S8x4104)
  have h2 : k0_chk18 row (k0_pay5 c1) := (← Prog.lift (TpuEff.assume (k0_chk18 row (k0_pay5 c1)) (k0_chk18.dec row (k0_pay5 c1)))).down
  let lv : Vec F S16 .f32 ← vectorLoadIdx rows ![row, k0_pay5 c1] (k0_idx18_inb row (k0_pay5 c1) h2) (View.loads_vmem h_S8x4104)
  let e : Vec F S1x16 .f32 ← Prog.lift (.load ep (Rect.unit (s := S16x128) o.oE S1x16.size o.hE).toLoadRect (View.loadsAt_vmem h_S1x16))
  let _u : Vec F S1x16 .f32 ← Prog.lift (.load samp (Rect.unit (s := S8x256) o.oS S1x16.size o.hS).toLoadRect (View.loadsAt_vmem h_S1x16))
  Prog.lift (.store samp (Rect.unit (s := S8x256) o.oS S1x16.size o.hS) (shapeCast S1x16 (k0_pay6 mn lv e) shapeCasts_S16_S1x16) Finset.univ (View.stores_vmem_bits_univ h_S1x16 rfl) (.inl rfl))
  let _v : Vec F S1x16 .f32 ← Prog.lift (.load comp (Rect.unit (s := S8x512) o.oM S1x16.size o.hM).toLoadRect (View.loadsAt_vmem h_S1x16))
  Prog.lift (.store comp (Rect.unit (s := S8x512) o.oM S1x16.size o.hM) (shapeCast S1x16 mn shapeCasts_S16_S1x16) Finset.univ (View.stores_vmem_bits_univ h_S1x16 rfl) (.inl rfl))
  let _w : Vec F S1x16 .f32 ← Prog.lift (.load comp (Rect.unit (s := S8x512) o.oL S1x16.size o.hL).toLoadRect (View.loadsAt_vmem h_S1x16))
  Prog.lift (.store comp (Rect.unit (s := S8x512) o.oL S1x16.size o.hL) (shapeCast S1x16 lv shapeCasts_S16_S1x16) Finset.univ (View.stores_vmem_bits_univ h_S1x16 rfl) (.inl rfl))

/-- A token's steps, in order. -/
def tsteps (i : grid0.Coords) (rows : Memref sig .scVector .vmem S8x4104 .f32) (ep : Memref sig .scVector .vmem S16x128 .f32)
    (comp : Memref sig .scVector .vmem S8x512 .f32) (samp : Memref sig .scVector .vmem S8x256 .f32)
    (row : IVec S16 32) (cb : Vec F S16 .i32) : List StepOffs → PG F i (BitVec 32)
  | [] => pure 0#32
  | o :: os => do
    tstep i rows ep comp samp row (colM cb o.w) o
    tsteps i rows ep comp samp row cb os

/-- A token: its block's number and its own choose the word of `cvals` read; then the sixteen steps. -/
def tokBody (i : grid0.Coords) (rows : Memref sig .scVector .vmem S8x4104 .f32) (ep : Memref sig .scVector .vmem S16x128 .f32)
    (comp : Memref sig .scVector .vmem S8x512 .f32) (samp : Memref sig .scVector .vmem S8x256 .f32)
    (cvals : Memref sig .scVector .vmem S272 .i32) (b : BitVec 32) (row : IVec S16 32) (os : List StepOffs) : PG F i (BitVec 32) := do
  have h1 : k0_chk17 (k0_pay2 b row) := (← Prog.lift (TpuEff.assume (k0_chk17 (k0_pay2 b row)) (k0_chk17.dec (k0_pay2 b row)))).down
  let cb : Vec F S16 .i32 ← vectorLoadIdx cvals ![k0_pay2 b row] (k0_idx17_inb (k0_pay2 b row) h1) (View.loads_vmem h_S272)
  tsteps i rows ep comp samp row cb os

/-- The steps of a token of an even block. -/
def steps0 (t : Fin k0_t2_loop.trips) : List StepOffs :=
  [⟨0#32, k0_off6 t, k0_off7 t, k0_off8 t, k0_off9 t, k0_off6_inb t, k0_off7_inb t, k0_off8_inb t, k0_off9_inb t⟩,
   ⟨16#32, k0_off10 t, k0_off11 t, k0_off12 t, k0_off13 t, k0_off10_inb t, k0_off11_inb t, k0_off12_inb t, k0_off13_inb t⟩,
   ⟨32#32, k0_off14 t, k0_off15 t, k0_off16 t, k0_off17 t, k0_off14_inb t, k0_off15_inb t, k0_off16_inb t, k0_off17_inb t⟩,
   ⟨48#32, k0_off18 t, k0_off19 t, k0_off20 t, k0_off21 t, k0_off18_inb t, k0_off19_inb t, k0_off20_inb t, k0_off21_inb t⟩,
   ⟨64#32, k0_off22 t, k0_off23 t, k0_off24 t, k0_off25 t, k0_off22_inb t, k0_off23_inb t, k0_off24_inb t, k0_off25_inb t⟩,
   ⟨80#32, k0_off26 t, k0_off27 t, k0_off28 t, k0_off29 t, k0_off26_inb t, k0_off27_inb t, k0_off28_inb t, k0_off29_inb t⟩,
   ⟨96#32, k0_off30 t, k0_off31 t, k0_off32 t, k0_off33 t, k0_off30_inb t, k0_off31_inb t, k0_off32_inb t, k0_off33_inb t⟩,
   ⟨112#32, k0_off34 t, k0_off35 t, k0_off36 t, k0_off37 t, k0_off34_inb t, k0_off35_inb t, k0_off36_inb t, k0_off37_inb t⟩,
   ⟨128#32, k0_off38 t, k0_off39 t, k0_off40 t, k0_off41 t, k0_off38_inb t, k0_off39_inb t, k0_off40_inb t, k0_off41_inb t⟩,
   ⟨144#32, k0_off42 t, k0_off43 t, k0_off44 t, k0_off45 t, k0_off42_inb t, k0_off43_inb t, k0_off44_inb t, k0_off45_inb t⟩,
   ⟨160#32, k0_off46 t, k0_off47 t, k0_off48 t, k0_off49 t, k0_off46_inb t, k0_off47_inb t, k0_off48_inb t, k0_off49_inb t⟩,
   ⟨176#32, k0_off50 t, k0_off51 t, k0_off52 t, k0_off53 t, k0_off50_inb t, k0_off51_inb t, k0_off52_inb t, k0_off53_inb t⟩,
   ⟨192#32, k0_off54 t, k0_off55 t, k0_off56 t, k0_off57 t, k0_off54_inb t, k0_off55_inb t, k0_off56_inb t, k0_off57_inb t⟩,
   ⟨208#32, k0_off58 t, k0_off59 t, k0_off60 t, k0_off61 t, k0_off58_inb t, k0_off59_inb t, k0_off60_inb t, k0_off61_inb t⟩,
   ⟨224#32, k0_off62 t, k0_off63 t, k0_off64 t, k0_off65 t, k0_off62_inb t, k0_off63_inb t, k0_off64_inb t, k0_off65_inb t⟩,
   ⟨240#32, k0_off66 t, k0_off67 t, k0_off68 t, k0_off69 t, k0_off66_inb t, k0_off67_inb t, k0_off68_inb t, k0_off69_inb t⟩]

/-- The steps of a token of an odd block. -/
def steps1 (t : Fin k0_t3_loop.trips) : List StepOffs :=
  [⟨0#32, k0_off75 t, k0_off76 t, k0_off77 t, k0_off78 t, k0_off75_inb t, k0_off76_inb t, k0_off77_inb t, k0_off78_inb t⟩,
   ⟨16#32, k0_off79 t, k0_off80 t, k0_off81 t, k0_off82 t, k0_off79_inb t, k0_off80_inb t, k0_off81_inb t, k0_off82_inb t⟩,
   ⟨32#32, k0_off83 t, k0_off84 t, k0_off85 t, k0_off86 t, k0_off83_inb t, k0_off84_inb t, k0_off85_inb t, k0_off86_inb t⟩,
   ⟨48#32, k0_off87 t, k0_off88 t, k0_off89 t, k0_off90 t, k0_off87_inb t, k0_off88_inb t, k0_off89_inb t, k0_off90_inb t⟩,
   ⟨64#32, k0_off91 t, k0_off92 t, k0_off93 t, k0_off94 t, k0_off91_inb t, k0_off92_inb t, k0_off93_inb t, k0_off94_inb t⟩,
   ⟨80#32, k0_off95 t, k0_off96 t, k0_off97 t, k0_off98 t, k0_off95_inb t, k0_off96_inb t, k0_off97_inb t, k0_off98_inb t⟩,
   ⟨96#32, k0_off99 t, k0_off100 t, k0_off101 t, k0_off102 t, k0_off99_inb t, k0_off100_inb t, k0_off101_inb t, k0_off102_inb t⟩,
   ⟨112#32, k0_off103 t, k0_off104 t, k0_off105 t, k0_off106 t, k0_off103_inb t, k0_off104_inb t, k0_off105_inb t, k0_off106_inb t⟩,
   ⟨128#32, k0_off107 t, k0_off108 t, k0_off109 t, k0_off110 t, k0_off107_inb t, k0_off108_inb t, k0_off109_inb t, k0_off110_inb t⟩,
   ⟨144#32, k0_off111 t, k0_off112 t, k0_off113 t, k0_off114 t, k0_off111_inb t, k0_off112_inb t, k0_off113_inb t, k0_off114_inb t⟩,
   ⟨160#32, k0_off115 t, k0_off116 t, k0_off117 t, k0_off118 t, k0_off115_inb t, k0_off116_inb t, k0_off117_inb t, k0_off118_inb t⟩,
   ⟨176#32, k0_off119 t, k0_off120 t, k0_off121 t, k0_off122 t, k0_off119_inb t, k0_off120_inb t, k0_off121_inb t, k0_off122_inb t⟩,
   ⟨192#32, k0_off123 t, k0_off124 t, k0_off125 t, k0_off126 t, k0_off123_inb t, k0_off124_inb t, k0_off125_inb t, k0_off126_inb t⟩,
   ⟨208#32, k0_off127 t, k0_off128 t, k0_off129 t, k0_off130 t, k0_off127_inb t, k0_off128_inb t, k0_off129_inb t, k0_off130_inb t⟩,
   ⟨224#32, k0_off131 t, k0_off132 t, k0_off133 t, k0_off134 t, k0_off131_inb t, k0_off132_inb t, k0_off133_inb t, k0_off134_inb t⟩,
   ⟨240#32, k0_off135 t, k0_off136 t, k0_off137 t, k0_off138 t, k0_off135_inb t, k0_off136_inb t, k0_off137_inb t, k0_off138_inb t⟩]

/-- Gather the logits of component `k` of a block's eight tokens, on both halves of the lanes. -/
def gat (i : grid0.Coords) (rows : Memref sig .scVector .vmem S8x4104 .f32) (k : BitVec 32) : PG F i (Vec F S16 .f32) := do
  have h1 : k0_chk1 k0_pay239 (broadcast S16 k) := (← Prog.lift (TpuEff.assume (k0_chk1 k0_pay239 (broadcast S16 k)) (k0_chk1.dec k0_pay239 (broadcast S16 k)))).down
  vectorLoadIdx rows ![k0_pay239, broadcast S16 k] (k0_idx1_inb _ _ h1) (View.loads_vmem h_S8x4104)

/-- Where a block's component-`k` probabilities go, as positions of the tile's flat table. -/
def pos (b k : BitVec 32) : IVec S16 32 :=
  addi (muli (addi (broadcast S16 (Scalar.muli b 8#32)) k0_pay239) (broadcast S16 8#32)) (broadcast S16 k)

/-- Scatter the block's component-`k` probabilities, the first eight lanes. -/
def sca (i : grid0.Coords) (probs : Memref sig .scVector .vmem S16x128 .f32) (b k : BitVec 32) (x : Vec F S16 .f32) : PG F i PUnit := do
  have h1 : k0_chk9 (shrsi (pos b k) (broadcast S16 7#32)) (andi (pos b k) (broadcast S16 127#32)) :=
    (← Prog.lift (TpuEff.assume (k0_chk9 (shrsi (pos b k) (broadcast S16 7#32)) (andi (pos b k) (broadcast S16 127#32)))
      (k0_chk9.dec (shrsi (pos b k) (broadcast S16 7#32)) (andi (pos b k) (broadcast S16 127#32))))).down
  vectorStoreIdx probs ![shrsi (pos b k) (broadcast S16 7#32), andi (pos b k) (broadcast S16 127#32)] x k0_pay240 false
    (k0_idx9_inb _ _ h1) (View.stores_vmem_bits_univ h_S16x128 rfl)

/-- One exponential: of a logit less the best one. -/
def expo (best x : Vec F S16 .f32) : FVec F S16 .f32 := exp (subf x best)

/-- One over the sum of the eight exponentials. -/
def inv (b x0 x1 x2 x3 x4 x5 x6 x7 : Vec F S16 .f32) : FVec F S16 .f32 :=
  divf (broadcast S16 (Scalar.ofBits .f32 0x3F800000#32))
    (addf (addf (addf (expo b x0) (expo b x1)) (addf (expo b x2) (expo b x3)))
      (addf (addf (expo b x4) (expo b x5)) (addf (expo b x6) (expo b x7))))

/-- One probability. -/
def prob (b x0 x1 x2 x3 x4 x5 x6 x7 y : Vec F S16 .f32) : FVec F S16 .f32 := mulf (expo b y) (inv b x0 x1 x2 x3 x4 x5 x6 x7)

/-- The selector of a block: the logits gathered, the probabilities scattered, the chosen components stored. -/
def selBlock (i : grid0.Coords) (rows : Memref sig .scVector .vmem S8x4104 .f32) (probs : Memref sig .scVector .vmem S16x128 .f32)
    (cvals : Memref sig .scVector .vmem S272 .i32) (b : BitVec 32) (oC : Fin 1 → Nat) (hC : ∀ a, oC a + S16.size a ≤ S272.size a) : PG F i PUnit := do
  let x0 : Vec F S16 .f32 ← gat i rows 0#32
  let x1 : Vec F S16 .f32 ← gat i rows 1#32
  let x2 : Vec F S16 .f32 ← gat i rows 2#32
  let x3 : Vec F S16 .f32 ← gat i rows 3#32
  let x4 : Vec F S16 .f32 ← gat i rows 4#32
  let x5 : Vec F S16 .f32 ← gat i rows 5#32
  let x6 : Vec F S16 .f32 ← gat i rows 6#32
  let x7 : Vec F S16 .f32 ← gat i rows 7#32
  sca i probs b 0#32 (prob (k0_pay137 x0 x1 x2 x3 x4 x5 x6 x7) x0 x1 x2 x3 x4 x5 x6 x7 x0)
  sca i probs b 1#32 (prob (k0_pay137 x0 x1 x2 x3 x4 x5 x6 x7) x0 x1 x2 x3 x4 x5 x6 x7 x1)
  sca i probs b 2#32 (prob (k0_pay137 x0 x1 x2 x3 x4 x5 x6 x7) x0 x1 x2 x3 x4 x5 x6 x7 x2)
  sca i probs b 3#32 (prob (k0_pay137 x0 x1 x2 x3 x4 x5 x6 x7) x0 x1 x2 x3 x4 x5 x6 x7 x3)
  sca i probs b 4#32 (prob (k0_pay137 x0 x1 x2 x3 x4 x5 x6 x7) x0 x1 x2 x3 x4 x5 x6 x7 x4)
  sca i probs b 5#32 (prob (k0_pay137 x0 x1 x2 x3 x4 x5 x6 x7) x0 x1 x2 x3 x4 x5 x6 x7 x5)
  sca i probs b 6#32 (prob (k0_pay137 x0 x1 x2 x3 x4 x5 x6 x7) x0 x1 x2 x3 x4 x5 x6 x7 x6)
  sca i probs b 7#32 (prob (k0_pay137 x0 x1 x2 x3 x4 x5 x6 x7) x0 x1 x2 x3 x4 x5 x6 x7 x7)
  let _u : Vec F S16 .i32 ← Prog.lift (.load cvals (Rect.unit (s := S272) oC S16.size hC).toLoadRect (View.loadsAt_vmem h_S16))
  Prog.lift (.store cvals (Rect.unit (s := S272) oC S16.size hC) (k0_pay136 x0 x1 x2 x3 x4 x5 x6 x7) Finset.univ (View.stores_vmem_bits_univ h_S16 rfl) (.inl rfl))

/-- Whether a trip (of this number) has a trip before it. -/
abbrev later (a : BitVec 32) : Prop :=
  Scalar.cmpi .ne (Scalar.extui (Scalar.cmpi .sgt a 0#32) : BitVec 32) 0#32 = 1#1

/-- Wait for the trip before's stores of a block, if there was one. -/
def drain (i : grid0.Coords) (a : BitVec 32) (arg5 : Memref sig .scVector .hbm S8192x512 .f32) (arg6 : Memref sig .scVector .hbm S8192x256 .f32)
    (cb : Memref sig .scVector .vmem S8x512 .f32) (hcb : cb.IsWhole) (sb : Memref sig .scVector .vmem S8x256 .f32) (hsb : sb.IsWhole)
    (cs ss : DmaSems sig S_) : PG F i PUnit :=
  if h1 : later a then do
    Prog.lift (.waitDma2 cs.sem cb (arg5.slice (Rect.unit (s := S8192x512) ![0, 0] S8x512.size inb_S8192x512_S8x512_0_0) (fun _ => rfl)) hcb.wordExact (View.wordExact_bits rfl))
    Prog.lift (.waitDma2 ss.sem sb (arg6.slice (Rect.unit (s := S8192x256) ![0, 0] S8x256.size inb_S8192x256_S8x256_0_0) (fun _ => rfl)) hsb.wordExact (View.wordExact_bits rfl))
    pure ⟨⟩
  else do
    pure ⟨⟩

/-- Start fetching the next trip's even block, if there is one. -/
def prefetch (i : grid0.Coords) (g : Fin k0_t1_loop.trips) (arg2 : Memref sig .scVector .hbm S8192x4104 .f32) (arg3 : Memref sig .scVector .hbm S16384x128 .f32)
    (rb : Memref sig .scVector .vmem S8x4104 .f32) (hrb : rb.IsWhole) (eb : Memref sig .scVector .vmem S16x128 .f32) (heb : eb.IsWhole)
    (rs es : DmaSems sig S_) : PG F i PUnit :=
  if h2 : k0_cond2 g = 1#1 then do
    Prog.lift (.enqueueDma (arg2.slice (Rect.unit (s := S8192x4104) (k0_off72 i g) S8x4104.size (k0_off72_inb i g h2)) (fun _ => rfl)) (.here rb) (.dma rs.sem) (View.wordExact_bits rfl) hrb.wordExact ⟨Or.inl rfl, trivial⟩)
    Prog.lift (.enqueueDma (arg3.slice (Rect.unit (s := S16384x128) (k0_off73 i g) S16x128.size (k0_off73_inb i g h2)) (fun _ => rfl)) (.here eb) (.dma es.sem) (View.wordExact_bits rfl) heb.wordExact ⟨Or.inl rfl, trivial⟩)
    pure ⟨⟩
  else do
    pure ⟨⟩

/-- One trip of the outer loop: an even block and the odd one after it, each fetched ahead while the other is worked on. -/
def trip (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) (g : Fin k0_t1_loop.trips) : PG F i (BitVec 32) := do
  Prog.lift (.waitDma2 arg17.sem (arg2.slice (Rect.unit (s := S8192x4104) ![0, 0] S8x4104.size inb_S8192x4104_S8x4104_0_0) (fun _ => rfl)) arg9 (View.wordExact_bits rfl) harg9.wordExact)
  Prog.lift (.waitDma2 arg19.sem (arg3.slice (Rect.unit (s := S16384x128) ![0, 0] S16x128.size inb_S16384x128_S16x128_0_0) (fun _ => rfl)) arg15 (View.wordExact_bits rfl) harg15.wordExact)
  Prog.lift (.enqueueDma (arg2.slice (Rect.unit (s := S8192x4104) (k0_off3 i g) S8x4104.size (k0_off3_inb i g)) (fun _ => rfl)) (.here arg10) (.dma arg18.sem) (View.wordExact_bits rfl) harg10.wordExact ⟨Or.inl rfl, trivial⟩)
  Prog.lift (.enqueueDma (arg3.slice (Rect.unit (s := S16384x128) (k0_off4 i g) S16x128.size (k0_off4_inb i g)) (fun _ => rfl)) (.here arg16) (.dma arg20.sem) (View.wordExact_bits rfl) harg16.wordExact ⟨Or.inl rfl, trivial⟩)
  drain i (Scf.iv 0#32 1#32 g) arg5 arg6 arg11 harg11 arg13 harg13 arg21 arg23
  selBlock i arg9 arg7 arg8 (Scalar.muli 2#32 (Scf.iv 0#32 1#32 g)) (k0_off5 g) (k0_off5_inb g)
  let _r : BitVec 32 ← Scf.Loop.for k0_t2_loop k0_t2_ok 0#32 fun t _ =>
    tokBody i arg9 arg15 arg11 arg13 arg8 (Scalar.muli 2#32 (Scf.iv 0#32 1#32 g)) (k0_pay1 0#32 1#32 t) (steps0 t)
  Prog.lift (.enqueueDma arg11 (.here (arg5.slice (Rect.unit (s := S8192x512) (k0_off70 i g) S8x512.size (k0_off70_inb i g)) (fun _ => rfl))) (.dma arg21.sem) harg11.wordExact (View.wordExact_bits rfl) ⟨Or.inl rfl, trivial⟩)
  Prog.lift (.enqueueDma arg13 (.here (arg6.slice (Rect.unit (s := S8192x256) (k0_off71 i g) S8x256.size (k0_off71_inb i g)) (fun _ => rfl))) (.dma arg23.sem) harg13.wordExact (View.wordExact_bits rfl) ⟨Or.inl rfl, trivial⟩)
  Prog.lift (.waitDma2 arg18.sem (arg2.slice (Rect.unit (s := S8192x4104) ![0, 0] S8x4104.size inb_S8192x4104_S8x4104_0_0) (fun _ => rfl)) arg10 (View.wordExact_bits rfl) harg10.wordExact)
  Prog.lift (.waitDma2 arg20.sem (arg3.slice (Rect.unit (s := S16384x128) ![0, 0] S16x128.size inb_S16384x128_S16x128_0_0) (fun _ => rfl)) arg16 (View.wordExact_bits rfl) harg16.wordExact)
  prefetch i g arg2 arg3 arg9 harg9 arg15 harg15 arg17 arg19
  drain i (Scf.iv 0#32 1#32 g) arg5 arg6 arg12 harg12 arg14 harg14 arg22 arg24
  selBlock i arg10 arg7 arg8 (Scalar.addi (Scalar.muli 2#32 (Scf.iv 0#32 1#32 g)) 1#32) (k0_off74 g) (k0_off74_inb g)
  let _r : BitVec 32 ← Scf.Loop.for k0_t3_loop k0_t3_ok 0#32 fun t _ =>
    tokBody i arg10 arg16 arg12 arg14 arg8 (Scalar.addi (Scalar.muli 2#32 (Scf.iv 0#32 1#32 g)) 1#32) (k0_pay1 0#32 1#32 t) (steps1 t)
  Prog.lift (.enqueueDma arg12 (.here (arg5.slice (Rect.unit (s := S8192x512) (k0_off139 i g) S8x512.size (k0_off139_inb i g)) (fun _ => rfl))) (.dma arg22.sem) harg12.wordExact (View.wordExact_bits rfl) ⟨Or.inl rfl, trivial⟩)
  Prog.lift (.enqueueDma arg14 (.here (arg6.slice (Rect.unit (s := S8192x256) (k0_off140 i g) S8x256.size (k0_off140_inb i g)) (fun _ => rfl))) (.dma arg24.sem) harg14.wordExact (View.wordExact_bits rfl) ⟨Or.inl rfl, trivial⟩)
  pure 0#32

set_option maxRecDepth 65536 in
set_option maxHeartbeats 4000000 in
/-- The printed body of a token of an even block is the token's program. -/
theorem t2_eq (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) (v5 : IVec S16 32) (v7 : IVec S16 1) (g : Fin k0_t1_loop.trips) (b : BitVec 32) (v84 : IVec S16 32) (v97 : FVec F S16 .f32) (v99 : FVec F S16 .f32) (v101 : FVec F S16 .f32) (v110 : FVec F S16 .f32) (v177 : IVec S16 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 lanes v5 v7 g b v84 v97 v99 v101 v110 v177
      = fun t _ => tokBody i arg9 arg15 arg11 arg13 arg8 b (k0_pay1 0#32 1#32 t) (steps0 t) := rfl

set_option maxRecDepth 65536 in
set_option maxHeartbeats 4000000 in
/-- The printed body of a token of an odd block is the token's program. -/
theorem t3_eq (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) (v5 : IVec S16 32) (v7 : IVec S16 1) (g : Fin k0_t1_loop.trips) (b : BitVec 32) (v84 : IVec S16 32) (v97 : FVec F S16 .f32) (v99 : FVec F S16 .f32) (v101 : FVec F S16 .f32) (v110 : FVec F S16 .f32) (v177 : IVec S16 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 lanes v5 v7 g b v84 v97 v99 v101 v110 v177
      = fun t _ => tokBody i arg10 arg16 arg12 arg14 arg8 b (k0_pay1 0#32 1#32 t) (steps1 t) := rfl

set_option maxRecDepth 65536 in
set_option maxHeartbeats 4000000 in
/-- The printed head of a trip, its condition a program of its own. -/
theorem part23_eq (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) (v2 : BitVec 32) (g : Fin k0_t1_loop.trips) :
    k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 v2 k0_pay239 0#32 1#32 g = (do
    Prog.lift (.waitDma2 arg17.sem (arg2.slice (Rect.unit (s := S8192x4104) ![0, 0] S8x4104.size inb_S8192x4104_S8x4104_0_0) (fun _ => rfl)) arg9 (View.wordExact_bits rfl) harg9.wordExact)
    Prog.lift (.waitDma2 arg19.sem (arg3.slice (Rect.unit (s := S16384x128) ![0, 0] S16x128.size inb_S16384x128_S16x128_0_0) (fun _ => rfl)) arg15 (View.wordExact_bits rfl) harg15.wordExact)
    Prog.lift (.enqueueDma (arg2.slice (Rect.unit (s := S8192x4104) (k0_off3 i g) S8x4104.size (k0_off3_inb i g)) (fun _ => rfl)) (.here arg10) (.dma arg18.sem) (View.wordExact_bits rfl) harg10.wordExact ⟨Or.inl rfl, trivial⟩)
    Prog.lift (.enqueueDma (arg3.slice (Rect.unit (s := S16384x128) (k0_off4 i g) S16x128.size (k0_off4_inb i g)) (fun _ => rfl)) (.here arg16) (.dma arg20.sem) (View.wordExact_bits rfl) harg16.wordExact ⟨Or.inl rfl, trivial⟩)
    drain i (Scf.iv 0#32 1#32 g) arg5 arg6 arg11 harg11 arg13 harg13 arg21 arg23
    let x0 : Vec F S16 .f32 ← gat i arg9 0#32
    let x1 : Vec F S16 .f32 ← gat i arg9 1#32
    let x2 : Vec F S16 .f32 ← gat i arg9 2#32
    let x3 : Vec F S16 .f32 ← gat i arg9 3#32
    let x4 : Vec F S16 .f32 ← gat i arg9 4#32
    pure ⟨Scf.iv 0#32 1#32 g, Scalar.muli 2#32 (Scf.iv 0#32 1#32 g), x0, x1, x2, x3, x4⟩) := by
  rw [k0_part23_eq_skeleton]
  unfold k0_part23_skel drain
  by_cases h : later (Scf.iv 0#32 1#32 g)
  · simp only [dif_pos h]; rfl
  · simp only [dif_neg h]; rfl

set_option maxRecDepth 65536 in
set_option maxHeartbeats 4000000 in
/-- The printed middle of a trip, its conditions programs of their own. -/
theorem part28_eq (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) (v2 : BitVec 32) (g : Fin k0_t1_loop.trips) (a b c : BitVec 32) :
    k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 v2 k0_pay239 g a b c = (do
    Prog.lift (.enqueueDma arg11 (.here (arg5.slice (Rect.unit (s := S8192x512) (k0_off70 i g) S8x512.size (k0_off70_inb i g)) (fun _ => rfl))) (.dma arg21.sem) harg11.wordExact (View.wordExact_bits rfl) ⟨Or.inl rfl, trivial⟩)
    Prog.lift (.enqueueDma arg13 (.here (arg6.slice (Rect.unit (s := S8192x256) (k0_off71 i g) S8x256.size (k0_off71_inb i g)) (fun _ => rfl))) (.dma arg23.sem) harg13.wordExact (View.wordExact_bits rfl) ⟨Or.inl rfl, trivial⟩)
    Prog.lift (.waitDma2 arg18.sem (arg2.slice (Rect.unit (s := S8192x4104) ![0, 0] S8x4104.size inb_S8192x4104_S8x4104_0_0) (fun _ => rfl)) arg10 (View.wordExact_bits rfl) harg10.wordExact)
    Prog.lift (.waitDma2 arg20.sem (arg3.slice (Rect.unit (s := S16384x128) ![0, 0] S16x128.size inb_S16384x128_S16x128_0_0) (fun _ => rfl)) arg16 (View.wordExact_bits rfl) harg16.wordExact)
    prefetch i g arg2 arg3 arg9 harg9 arg15 harg15 arg17 arg19
    drain i a arg5 arg6 arg12 harg12 arg14 harg14 arg22 arg24
    let x0 : Vec F S16 .f32 ← gat i arg10 0#32
    let x1 : Vec F S16 .f32 ← gat i arg10 1#32
    let x2 : Vec F S16 .f32 ← gat i arg10 2#32
    let x3 : Vec F S16 .f32 ← gat i arg10 3#32
    let x4 : Vec F S16 .f32 ← gat i arg10 4#32
    pure ⟨Scalar.addi b 1#32, x0, x1, x2, x3, x4⟩) := by
  rw [k0_part28_eq_skeleton]
  unfold k0_part28_skel drain prefetch
  by_cases h : later a <;> by_cases h2 : k0_cond2 g = 1#1
  · simp only [dif_pos h, dif_pos h2]; rfl
  · simp only [dif_pos h, dif_neg h2]; rfl
  · simp only [dif_neg h, dif_pos h2]; rfl
  · simp only [dif_neg h, dif_neg h2]; rfl

set_option maxRecDepth 65536 in
set_option maxHeartbeats 40000000 in
/-- The printed trip of the outer loop is the trip's program. -/
theorem t1_eq (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) (v2 : BitVec 32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 v2 lanes = fun g _ => trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 g := by
  funext g x
  unfold k0_t1_body trip
  simp only [part23_eq, part28_eq, k0_part27_eq_skeleton, k0_part27_skel, k0_part32_eq_skeleton, k0_part32_skel, bind_assoc, pure_bind]
  rfl

/-- One tile's program: the first block fetched, sixteen trips, the last blocks' and the probabilities' stores waited for. -/
def tile (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) : PG F i PUnit := do
  Prog.lift (.enqueueDma (arg2.slice (Rect.unit (s := S8192x4104) (k0_off1 i) S8x4104.size (k0_off1_inb i)) (fun _ => rfl)) (.here arg9) (.dma arg17.sem) (View.wordExact_bits rfl) harg9.wordExact ⟨Or.inl rfl, trivial⟩)
  Prog.lift (.enqueueDma (arg3.slice (Rect.unit (s := S16384x128) (k0_off2 i) S16x128.size (k0_off2_inb i)) (fun _ => rfl)) (.here arg15) (.dma arg19.sem) (View.wordExact_bits rfl) harg15.wordExact ⟨Or.inl rfl, trivial⟩)
  let _r : BitVec 32 ← Scf.Loop.for k0_t1_loop k0_t1_ok 0#32 fun g _ => trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 g
  Prog.lift (.waitDma2 arg21.sem arg11 (arg5.slice (Rect.unit (s := S8192x512) ![0, 0] S8x512.size inb_S8192x512_S8x512_0_0) (fun _ => rfl)) harg11.wordExact (View.wordExact_bits rfl))
  Prog.lift (.waitDma2 arg23.sem arg13 (arg6.slice (Rect.unit (s := S8192x256) ![0, 0] S8x256.size inb_S8192x256_S8x256_0_0) (fun _ => rfl)) harg13.wordExact (View.wordExact_bits rfl))
  Prog.lift (.waitDma2 arg22.sem arg12 (arg5.slice (Rect.unit (s := S8192x512) ![0, 0] S8x512.size inb_S8192x512_S8x512_0_0) (fun _ => rfl)) harg12.wordExact (View.wordExact_bits rfl))
  Prog.lift (.waitDma2 arg24.sem arg14 (arg6.slice (Rect.unit (s := S8192x256) ![0, 0] S8x256.size inb_S8192x256_S8x256_0_0) (fun _ => rfl)) harg14.wordExact (View.wordExact_bits rfl))
  Prog.lift (.enqueueDma arg7 (.here (arg4.slice (Rect.unit (s := S512x128) (k0_off141 i) S16x128.size (k0_off141_inb i)) (fun _ => rfl))) (.dma v25_r0.sem) harg7.wordExact (View.wordExact_bits rfl) ⟨Or.inl rfl, trivial⟩)
  Prog.lift (.waitDma2 v25_r0.sem arg7 (arg4.slice (Rect.unit (s := S512x128) (k0_off141 i) S16x128.size (k0_off141_inb i)) (fun _ => rfl)) harg7.wordExact (View.wordExact_bits rfl))
  pure ⟨⟩

set_option maxRecDepth 65536 in
set_option maxHeartbeats 40000000 in
/-- The printed kernel is the tile's program. -/
theorem tile_eq (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_) :
    cc0__sc_mixture (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 = tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 := by
  rw [cc0__sc_mixture_eq_skeleton]
  unfold cc0__sc_mixture_skel tile
  simp only [k0_part33_eq_skeleton, k0_part33_skel, bind_assoc, pure_bind]
  simp only [show (iota .scVector S16 32 [0] iota_S16_d0_w32_scVector) = lanes from rfl, t1_eq]
  rfl

end Cert.Proof.Mix
-- ==== Proof.Mem.lean ====
/-
  What a tile's buffer holds, as far as it is known, and the rules of the tile's memory operations over that.
-/
module

public import proofs.«01_k».proof.Proof.Body

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program. -/
abbrev ΛP : Labels := Pipeline.Sig Λ₀ (Fin 0) fun p => (pcfgs (F := F) p).Adm
/-- The launch of the SparseCore kernel. -/
abbrev K : SparseCore.Cfg τ sig (ΛP (F := F)) 1 := sc (F := F)
/-- The definitions of the program. -/
abbrev D [FloatOps F] : Defs nD τ sig (Elt F) (ΛP (F := F)) := Pipeline.defs pcfgs defs₀
/-- No variants are needed. -/
abbrev 𝒱₀ : Variants := Variants.none
/-- Nor for the lifted program. -/
abbrev 𝒱 : Variants := 𝒱₀.lift
/-- The variant at which every tile runs. -/
abbrev v₀ : 𝒱.V := Sum.inl none

/-- The handshakes' ghost state. -/
abbrev UH : Type := URounds (GSem nD τ sig) ℕ
/-- The ghost state: the handshakes' and the counters of the copies. -/
abbrev UU : Type := UH × Counters

/-- The resources of the proof. -/
abbrev MM (F : FTy → Type) := MT nD τ sig (HIx 1) (Elt F) ℕ UU ℕ

/-- The launch handshakes' rounds, the left factor; the transfers' counters are the right one. -/
abbrev EH : Emb UH (MM F) := embL

/-- The tile at coordinates `i` of device `d`, as a thread. -/
abbrev thr (d : Dev nD) (i : grid0.Coords) : Thread nD τ := V d ((i 0).castLE hcore0) ((i 1).castLE hsub0)

section Rules

variable (c : Thread nD τ) {s : Shape} {e : EltTy} {α : Type}

/-- The core `c` holds all of the buffer's view `m`, and at the indices of `P` it reads `C`. -/
def holdsOn (m : Memref sig c.2.kind .vmem s e) (P : s.Idx → Prop) (C : s.Idx → Elt F e) : sProp (MM F) :=
  iprop(∃ f, ⌜∀ y, P y → m.view.read (Elt F) f y = C y⌝ ∗ (m.view.loc c ↦[m.view.set]{fullShare} f))

/-- Knowing less, or the same of other contents. -/
theorem holdsOn_mono (m : Memref sig c.2.kind .vmem s e) {P P' : s.Idx → Prop} {C C' : s.Idx → Elt F e}
    (h : ∀ y, P' y → P y ∧ C y = C' y) : holdsOn c m P C ⊢ holdsOn c m P' C' := by
  unfold holdsOn
  iintro ⟨%f, %hf, H⟩
  iexists f
  isplitr
  · ipureintro; exact fun y hy => (hf y (h y hy).1).trans (h y hy).2
  · iexact H

/-- A whole memref's view at the whole rectangle reads what the view reads. -/
theorem read_access_whole (m : Memref sig c.2.kind .vmem s e) (f : Buf (Elt F) (m.view.loc c)) :
    (m.access (.whole s)).read (Elt F) f = m.view.read (Elt F) f := by
  funext x
  show m.view.read (Elt F) f ((Rect.whole s).emb x) = _
  rw [Rect.emb_whole_apply]

/-- The view at the whole rectangle covers what the view covers. -/
theorem set_access_whole (m : Memref sig c.2.kind .vmem s e) : (m.access (.whole s)).set = m.view.set := by
  show (m.view.slice (Rect.whole s)).set = _
  rw [View.set_slice, Rect.set_whole]; rfl

variable [FloatOps F]
variable {Q : α → sProp (MM F)}

/-- A load: what is known of the elements under the rectangle is known of the vector loaded. -/
theorem on_load {m : Memref sig c.2.kind .vmem s e} {P : s.Idx → Prop} {C : s.Idx → Elt F e} {r : LoadRect s} {hl : m.view.LoadsAt r}
    {k : (r.shape.Idx → Elt F e) → Prog (TpuEff nD τ sig (Elt F) Λ₀ c.2) α} :
    holdsOn c m P C ⊢ iprop((∀ x, ⌜∀ j, P (r.idx j) → x j = C (r.idx j)⌝ -∗ holdsOn c m P C -∗ wp frame (wpE (defs₀ (F := F)) 𝒱₀ c none) Set.univ (k x) Q)
      -∗ wp frame (wpE (defs₀ (F := F)) 𝒱₀ c none) Set.univ (.op (.load m r hl) k) Q) := by
  unfold holdsOn
  iintro ⟨%f, %hf, H⟩ Hk
  iapply (wp_load (defs := defs₀ (F := F)) 𝒱₀ c none Set.univ (S := m.view.set) (q := fullShare) (f := f)
    (Finset.map_subset_map.mpr (Finset.subset_univ _))) $$ H
  iintro H
  iapply Hk $$ [] [H]
  · ipureintro; exact fun j hj => hf _ hj
  · iexists f
    isplitr
    · ipureintro; exact hf
    · iexact H

/-- A store through a rectangle, where the new knowledge is either of elements stored or of ones not touched. -/
theorem on_store {m : Memref sig c.2.kind .vmem s e} {P P' : s.Idx → Prop} {C : s.Idx → Elt F e} {r : Rect s} {w : r.shape.Idx → Elt F e}
    {hx : (m.access r).Stores Finset.univ} {hm : Finset.univ = Finset.univ ∨ ∀ a, r.stride a = 1}
    {k : PUnit → Prog (TpuEff nD τ sig (Elt F) Λ₀ c.2) α}
    (hP : ∀ y, P' y → (∃ x, r.emb x = y ∧ w x = C y) ∨ (P y ∧ ∀ x, r.emb x ≠ y)) :
    holdsOn c m P C ⊢ iprop((holdsOn c m P' C -∗ wp frame (wpE (defs₀ (F := F)) 𝒱₀ c none) Set.univ (k ⟨⟩) Q)
      -∗ wp frame (wpE (defs₀ (F := F)) 𝒱₀ c none) Set.univ (.op (.store m r w Finset.univ hx hm) k) Q) := by
  unfold holdsOn
  iintro ⟨%f, %hf, H⟩ Hk
  iapply (wp_store (defs := defs₀ (F := F)) 𝒱₀ c none Set.univ (m := m) (r := r) (S := m.view.set) (f := f) (hm := hm)
    (View.set_slice_subset m.view r)) $$ H
  iintro H
  iapply Hk
  iexists _
  isplitr
  · ipureintro
    intro y hy
    rcases hP y hy with ⟨x, rfl, hw⟩ | ⟨hp, hn⟩
    · rw [← hw]; exact View.read_slice_write_emb r f w (Finset.mem_univ x)
    · rw [← hf y hp]
      exact View.read_slice_write_of_not_mem r f w Finset.univ fun hh => by
        obtain ⟨x, -, hx⟩ := Finset.mem_map.mp hh
        exact hn x hx
  · iexact H

/-- A gather: what is known of the elements named is known of the lanes. -/
theorem on_gather {t : Shape} {m : Memref sig c.2.kind .vmem s e} {P : s.Idx → Prop} {C : s.Idx → Elt F e} {idxs : Fin s.rank → IVec t 32}
    {h : ∀ a x, (idxs a x).toNat < s.size a} {hl : m.view.Loads} {k : Vec F t e → Prog (TpuEff nD τ sig (Elt F) Λ₀ c.2) α} :
    holdsOn c m P C ⊢ iprop((∀ x, ⌜∀ l, P (idxAt idxs h l) → x l = C (idxAt idxs h l)⌝ -∗ holdsOn c m P C -∗ wp frame (wpE (defs₀ (F := F)) 𝒱₀ c none) Set.univ (k x) Q)
      -∗ wp frame (wpE (defs₀ (F := F)) 𝒱₀ c none) Set.univ (vectorLoadIdx m idxs h hl >>= k) Q) := by
  unfold holdsOn
  iintro ⟨%f, %hf, H⟩ Hk
  ihave H' := (Entails.of_eq (show (m.view.loc c ↦[m.view.set]{fullShare} f : sProp (MM F))
    = ((m.access (.whole s)).loc c ↦[(m.access (.whole s)).set]{fullShare} f) from by rw [set_access_whole])) $$ H
  iapply (SparseCore.wp_vectorLoadIdx (defs := defs₀ (F := F)) 𝒱₀ c none Set.univ (q := fullShare) (f := f) (Finset.Subset.refl _)) $$ H'
  iintro H'
  ihave H := (Entails.of_eq (show ((m.access (.whole s)).loc c ↦[(m.access (.whole s)).set]{fullShare} f : sProp (MM F))
    = (m.view.loc c ↦[m.view.set]{fullShare} f) from by rw [set_access_whole])) $$ H'
  iapply Hk $$ [] [H]
  · ipureintro; intro l hl
    show (m.access (.whole s)).read (Elt F) f (idxAt idxs h l) = _
    rw [read_access_whole]; exact hf _ hl
  · iexists f
    isplitr
    · ipureintro; exact hf
    · iexact H

/-- What a scatter leaves at an element: a named element reads a value every set lane naming it carries, another one the
    old contents. -/
theorem storeIdx_at {dd : Fin 1 → Nat} (f : Vec F s e) (idxs : Fin s.rank → IVec ⟨1, dd⟩ 32) (v : Vec F ⟨1, dd⟩ e) (mask : IVec ⟨1, dd⟩ 1)
    (h : ∀ a x, (idxs a x).toNat < s.size a) (y : s.Idx) (z : Elt F e)
    (hv : ∀ l, mask l = 1 → idxAt idxs h l = y → v l = z)
    (hy : (∃ l, mask l = 1 ∧ idxAt idxs h l = y) ∨ f y = z) : storeIdx f idxs v mask false h y = z := by
  have key : ∀ (st : Vec F s e → Fin (dd 0) → Vec F s e)
      (_ : ∀ g k, mask (Shape.ofLane k) = 1 → idxAt idxs h (Shape.ofLane k) = y → st g k y = v (Shape.ofLane k))
      (_ : ∀ g k, ¬(mask (Shape.ofLane k) = 1 ∧ idxAt idxs h (Shape.ofLane k) = y) → st g k y = g y)
      (L : List (Fin (dd 0))) (g : Vec F s e), ((∃ k ∈ L, mask (Shape.ofLane k) = 1 ∧ idxAt idxs h (Shape.ofLane k) = y) ∨ g y = z) →
      (L.foldl st g) y = z := by
    intro st h1 h2 L
    induction L with
    | nil =>
      intro g hg
      rcases hg with ⟨k, hk, _⟩ | hg
      · cases hk
      · exact hg
    | cons k L ih =>
      intro g hg
      rw [List.foldl_cons]
      apply ih
      by_cases hL : ∃ k ∈ L, mask (Shape.ofLane k) = 1 ∧ idxAt idxs h (Shape.ofLane k) = y
      · exact Or.inl hL
      right
      by_cases hm : mask (Shape.ofLane k) = 1 ∧ idxAt idxs h (Shape.ofLane k) = y
      · rw [h1 g k hm.1 hm.2]; exact hv _ hm.1 hm.2
      · rw [h2 g k hm]
        rcases hg with ⟨k', hk', hh⟩ | hg
        · rcases List.mem_cons.mp hk' with rfl | hk'
          · exact absurd hh hm
          · exact absurd ⟨k', hk', hh⟩ hL
        · exact hg
  unfold storeIdx
  refine key _ (fun g k hm he => ?_) (fun g k hn => ?_) _ f ?_
  · simp only [hm, if_true, he, implies_true, Bool.false_eq_true, if_false]
  · dsimp only
    split
    · rename_i hm
      exact if_neg fun hh => hn ⟨hm, funext fun a => Fin.ext (hh a).symm⟩
    · rfl
  rcases hy with ⟨l, h1, h2⟩ | hy
  · refine Or.inl ⟨l 0, List.mem_finRange _, ?_⟩
    have hl : Shape.ofLane (l 0) = l := funext fun a => by
      obtain rfl : a = 0 := Fin.eq_zero a
      rfl
    rw [hl]; exact ⟨h1, h2⟩
  · exact Or.inr hy

/-- A scatter, where the new knowledge is of elements every set lane naming them carries right, named or known before. -/
theorem on_scatter {dd : Fin 1 → Nat} {m : Memref sig c.2.kind .vmem s e} {P P' : s.Idx → Prop} {C : s.Idx → Elt F e} {idxs : Fin s.rank → IVec ⟨1, dd⟩ 32}
    {v : Vec F ⟨1, dd⟩ e} {mask : IVec ⟨1, dd⟩ 1}
    {h : ∀ a x, (idxs a x).toNat < s.size a} {hs : (m.access (.whole s)).Stores Finset.univ} {k : PUnit → Prog (TpuEff nD τ sig (Elt F) Λ₀ c.2) α}
    (hv : ∀ l, mask l = 1 → P' (idxAt idxs h l) → v l = C (idxAt idxs h l))
    (hP : ∀ y, P' y → (∃ l, mask l = 1 ∧ idxAt idxs h l = y) ∨ P y) :
    holdsOn c m P C ⊢ iprop((holdsOn c m P' C -∗ wp frame (wpE (defs₀ (F := F)) 𝒱₀ c none) Set.univ (k ⟨⟩) Q)
      -∗ wp frame (wpE (defs₀ (F := F)) 𝒱₀ c none) Set.univ (vectorStoreIdx m idxs v mask false h hs >>= k) Q) := by
  unfold holdsOn
  iintro ⟨%f, %hf, H⟩ Hk
  ihave H' := (Entails.of_eq (show (m.view.loc c ↦[m.view.set]{fullShare} f : sProp (MM F))
    = ((m.access (.whole s)).loc c ↦[(m.access (.whole s)).set]{fullShare} f) from by rw [set_access_whole])) $$ H
  iapply (SparseCore.wp_vectorStoreIdx (defs := defs₀ (F := F)) 𝒱₀ c none Set.univ (f := f)) $$ H'
  iintro H
  iapply Hk
  iexists _
  isplitr
  · ipureintro
    intro y hy
    have h1 : m.view.read (Elt F) ((m.access (.whole s)).write (Elt F) f (storeIdx ((m.access (.whole s)).read (Elt F) f) idxs v mask false h) Finset.univ) y
        = storeIdx ((m.access (.whole s)).read (Elt F) f) idxs v mask false h y := by
      have := View.read_slice_write_emb (v := m.view) (Rect.whole s) f (storeIdx ((m.access (.whole s)).read (Elt F) f) idxs v mask false h) (Finset.mem_univ y)
      rwa [Rect.emb_whole_apply] at this
    refine h1.trans ?_
    rw [read_access_whole]
    refine storeIdx_at _ idxs v mask h y (C y) (fun l hm he => ?_) ?_
    · subst he; exact hv l hm hy
    · exact (hP y hy).imp id fun hp => hf y hp
  · ihave H' := (Entails.of_eq (show ((m.access (.whole s)).loc c ↦[(m.access (.whole s)).set]{fullShare} _ : sProp (MM F))
      = (m.view.loc c ↦[m.view.set]{fullShare} _) from by rw [set_access_whole])) $$ H
    iexact H'

end Rules

end Cert.Proof.Mix
-- ==== Proof.Token.lean ====
/-
  One token of a block: its sixteen steps, by lemmas over what the buffers hold.
-/
module

public import proofs.«01_k».proof.Proof.Mem

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The element in row `r`, column `c`, both taken round the axis. -/
def at2 (n m : Nat) [NeZero n] [NeZero m] (r c : Nat) : (⟨2, ![n, m]⟩ : Shape).Idx :=
  fun a => match a with
    | ⟨0, _⟩ => Fin.ofNat n r
    | ⟨1, _⟩ => Fin.ofNat m c

/-- The element at place `c` of a flat array, taken round it. -/
def at1 (n : Nat) [NeZero n] (c : Nat) : (⟨1, ![n]⟩ : Shape).Idx :=
  fun a => match a with
    | ⟨0, _⟩ => Fin.ofNat n c

/-- An index of a flat array is the one of its place. -/
theorem eq_at1 {n : Nat} [NeZero n] (y : (⟨1, ![n]⟩ : Shape).Idx) {c : Nat} (h0 : (y 0).val = c) : y = at1 n c := by
  have b0 : (y 0).val < n := (y 0).isLt
  funext a
  match a with
  | ⟨0, _⟩ => exact Fin.ext (show (y 0).val = c % n by rw [← h0, Nat.mod_eq_of_lt b0])

/-- An index is the one of its row and column. -/
theorem eq_at2 {n m : Nat} [NeZero n] [NeZero m] (y : (⟨2, ![n, m]⟩ : Shape).Idx) {r c : Nat}
    (h0 : (y 0).val = r) (h1 : (y 1).val = c) : y = at2 n m r c := by
  have b0 : (y 0).val < n := (y 0).isLt
  have b1 : (y 1).val < m := (y 1).isLt
  funext a
  match a with
  | ⟨0, _⟩ => exact Fin.ext (show (y 0).val = r % n by rw [← h0, Nat.mod_eq_of_lt b0])
  | ⟨1, _⟩ => exact Fin.ext (show (y 1).val = c % m by rw [← h1, Nat.mod_eq_of_lt b1])

/-- A vector of sixteen laid out as one row. -/
theorem cast_row {α : Type} (w : S16.Idx → α) (h : S16.ShapeCasts S1x16) (x : S1x16.Idx) :
    shapeCast S1x16 w h x = w (at1 16 (x 1)) := by
  refine congrArg w (Shape.reshapeEquiv_eq_of_rowMajor _ ?_)
  have h0 : (x 0).val < 1 := (x 0).isLt
  have h1 : (x 1).val < 16 := (x 1).isLt
  rw [Shape.rowMajor_val_one, Shape.rowMajor_val_two]
  show (x 1).val % 16 = (x 0).val * 16 + (x 1).val
  omega

/-- One row of sixteen read as a vector. -/
theorem cast_vec {α : Type} (w : S1x16.Idx → α) (h : S1x16.ShapeCasts S16) (l : S16.Idx) :
    shapeCast S16 w h l = w (at2 1 16 0 (l 0)) := by
  refine congrArg w (Shape.reshapeEquiv_eq_of_rowMajor _ ?_)
  have h0 : (l 0).val < 16 := (l 0).isLt
  rw [Shape.rowMajor_val_one, Shape.rowMajor_val_two]
  show 0 % 1 * 16 + (l 0).val % 16 = (l 0).val
  omega

/-- Sixteen elements of a row, from column `b` of row `a`: one of them is reached from its place among them. -/
theorem row_hit {n m : Nat} (y : (⟨2, ![n, m]⟩ : Shape).Idx) {a b : Nat} (inb : ∀ x, (![a, b] : Fin 2 → Nat) x + S1x16.size x ≤ (⟨2, ![n, m]⟩ : Shape).size x)
    (h0 : (y 0).val = a) (h1 : b ≤ (y 1).val) (h2 : (y 1).val < b + 16) :
    (Rect.unit (s := ⟨2, ![n, m]⟩) ![a, b] S1x16.size inb).emb (at2 1 16 0 ((y 1).val - b)) = y := by
  funext x
  match x with
  | ⟨0, _⟩ => exact Fin.ext (show a + 1 * (0 % 1) = (y 0).val by omega)
  | ⟨1, _⟩ => exact Fin.ext (show b + 1 * (((y 1).val - b) % 16) = (y 1).val by omega)

/-- Any other element is not among them. -/
theorem row_miss {n m : Nat} (y : (⟨2, ![n, m]⟩ : Shape).Idx) {a b : Nat} (inb : ∀ x, (![a, b] : Fin 2 → Nat) x + S1x16.size x ≤ (⟨2, ![n, m]⟩ : Shape).size x)
    (h : ¬((y 0).val = a ∧ b ≤ (y 1).val ∧ (y 1).val < b + 16)) :
    ∀ x, (Rect.unit (s := ⟨2, ![n, m]⟩) ![a, b] S1x16.size inb).emb x ≠ y := by
  rintro x rfl
  have h0 : (x 0).val < 1 := (x 0).isLt
  have h1 : (x 1).val < 16 := (x 1).isLt
  refine h ?_
  show a + 1 * (x 0).val = a ∧ b ≤ b + 1 * (x 1).val ∧ b + 1 * (x 1).val < b + 16
  omega

/-- One sample: the mean and half the log variance's exponential times the noise. -/
def smp (m v e : F .f32) : F .f32 :=
  FloatOps.addf m (FloatOps.mulf (FloatOps.exp (FloatOps.mulf v (Scalar.ofBits .f32 0x3F000000#32))) e)

/-- The chosen components of a block with rows `X`, `ch` the number chosen for each token. -/
def compB (X : S8x4104.Idx → Elt F .f32) (ch : Nat → Nat) : S8x512.Idx → Elt F .f32 :=
  fun y => X (at2 8 4104 (y 0) (8 + 512 * ch (y 0) + (y 1)))

/-- The samples of a block with rows `X` and noise `N`. -/
def sampB (X : S8x4104.Idx → Elt F .f32) (N : S16x128.Idx → Elt F .f32) (ch : Nat → Nat) : S8x256.Idx → Elt F .f32 :=
  fun y => smp (F := F) (X (at2 8 4104 (y 0) (8 + 512 * ch (y 0) + (y 1)))) (X (at2 8 4104 (y 0) (8 + 512 * ch (y 0) + (y 1) + 256)))
    (N (at2 16 128 (2 * (y 0) + (y 1) / 128) ((y 1) % 128)))

/-- The elements done once `t` tokens are and `v` steps of the next one. -/
def doneT {m : Nat} (t v : Nat) (y : (⟨2, ![8, m]⟩ : Shape).Idx) : Prop :=
  (y 0).val < t ∨ ((y 0).val = t ∧ (y 1).val % 256 < 16 * v)

/-- A step of the program is step `v` of token `t`. -/
structure StepOK (t v : Nat) (o : StepOffs) : Prop where
  w : o.w = BitVec.ofNat 32 (16 * v)
  oE : o.oE = ![2 * t + v / 8, 16 * (v % 8)]
  oS : o.oS = ![t, 16 * v]
  oM : o.oM = ![t, 16 * v]
  oL : o.oL = ![t, 256 + 16 * v]

/-- What the buffers of a block hold while its tokens are worked on. -/
abbrev blk (d : Dev nD) (i : grid0.Coords) (rows : Memref sig .scVector .vmem S8x4104 .f32) (ep : Memref sig .scVector .vmem S16x128 .f32)
    (comp : Memref sig .scVector .vmem S8x512 .f32) (samp : Memref sig .scVector .vmem S8x256 .f32)
    (X : S8x4104.Idx → Elt F .f32) (N : S16x128.Idx → Elt F .f32) (ch : Nat → Nat) (t v : Nat) : sProp (MM F) :=
  iprop(holdsOn (thr d i) rows (fun _ => True) X ∗ holdsOn (thr d i) ep (fun _ => True) N
    ∗ holdsOn (thr d i) comp (doneT t v) (compB X ch) ∗ holdsOn (thr d i) samp (doneT t v) (sampB X N ch))

variable {Q : PUnit → sProp (MM F)}

/-- One step. -/
theorem tstep_on (d : Dev nD) (i : grid0.Coords) {rows : Memref sig .scVector .vmem S8x4104 .f32} {ep : Memref sig .scVector .vmem S16x128 .f32}
    {comp : Memref sig .scVector .vmem S8x512 .f32} {samp : Memref sig .scVector .vmem S8x256 .f32}
    (X : S8x4104.Idx → Elt F .f32) (N : S16x128.Idx → Elt F .f32) (ch : Nat → Nat) {t v : Nat} (ht : t < 8) (hv : v < 16) (hch : ch t < 8)
    (row c1 : IVec S16 32) (hrow : ∀ l, (row l).toNat = t) (hc1 : ∀ l, (c1 l).toNat = 8 + 512 * ch t + 16 * v + (l 0).val)
    (o : StepOffs) (ho : StepOK t v o) :
    blk d i rows ep comp samp X N ch t v
      ⊢ iprop((blk d i rows ep comp samp X N ch t (v + 1) -∗ Q ⟨⟩)
        -∗ wp frame (wpE (defs₀ (F := F)) 𝒱₀ (thr d i) none) Set.univ (tstep i rows ep comp samp row c1 o) Q) := by
  obtain ⟨w, oE, oS, oM, oL, pE, pS, pM, pL⟩ := o
  obtain ⟨rfl, rfl, rfl, rfl, rfl⟩ := ho
  have hc2 : ∀ l, (k0_pay5 c1 l).toNat = 8 + 512 * ch t + 16 * v + (l 0).val + 256 := by
    intro l
    have hl : (l 0).val < 16 := (l 0).isLt
    show (c1 l + 256#32).toNat = _
    rw [BitVec.toNat_add, hc1]
    simp only [BitVec.toNat_ofNat]
    omega
  have hk1 : k0_chk18 row c1 := by
    intro a l
    have hl : (l 0).val < 16 := (l 0).isLt
    match a with
    | ⟨0, _⟩ => show (row l).toNat < 8; rw [hrow]; exact ht
    | ⟨1, _⟩ => show (c1 l).toNat < 4104; rw [hc1]; omega
  have hk2 : k0_chk18 row (k0_pay5 c1) := by
    intro a l
    have hl : (l 0).val < 16 := (l 0).isLt
    match a with
    | ⟨0, _⟩ => show (row l).toNat < 8; rw [hrow]; exact ht
    | ⟨1, _⟩ => show (k0_pay5 c1 l).toNat < 4104; rw [hc2]; omega
  unfold tstep blk
  simp only [bind_assoc, Prog.bind_lift, Prog.lift]
  iintro ⟨HX, HN, HC, HS⟩ Hk
  iapply (wp_assume 𝒱₀ (thr d i) none Set.univ hk1)
  iapply (on_gather (thr d i) (hl := View.loads_vmem h_S8x4104)) $$ HX
  iintro %mn %hmn HX
  iapply (wp_assume 𝒱₀ (thr d i) none Set.univ hk2)
  iapply (on_gather (thr d i) (hl := View.loads_vmem h_S8x4104)) $$ HX
  iintro %lv %hlv HX
  iapply on_load (thr d i) $$ HN
  iintro %e %he HN
  iapply on_load (thr d i) $$ HS
  iintro %u1 %hu1 HS
  have hm : ∀ l : S16.Idx, mn l = X (at2 8 4104 t (8 + 512 * ch t + 16 * v + (l 0).val)) := fun l =>
    (hmn l trivial).trans (congrArg X (eq_at2 (n := 8) (m := 4104) _ (hrow l) (hc1 l)))
  have hL : ∀ l : S16.Idx, lv l = X (at2 8 4104 t (8 + 512 * ch t + 16 * v + (l 0).val + 256)) := fun l =>
    (hlv l trivial).trans (congrArg X (eq_at2 (n := 8) (m := 4104) _ (hrow l) (hc2 l)))
  have hE : ∀ l : S16.Idx, shapeCast S16 e shapeCasts_S1x16_S16 l = N (at2 16 128 (2 * t + v / 8) (16 * (v % 8) + (l 0).val)) := fun l => by
    rw [cast_vec]
    refine (he _ trivial).trans (congrArg N (eq_at2 (n := 16) (m := 128) _ ?_ ?_))
    · rw [LoadRect.idx_apply]; show 2 * t + v / 8 + 1 * (0 % 1) = _; omega
    · have hl : (l 0).val < 16 := (l 0).isLt
      rw [LoadRect.idx_apply]; show 16 * (v % 8) + 1 * ((l 0).val % 16) = _; omega
  iapply on_store (thr d i) (P' := doneT t (v + 1)) (C := sampB X N ch) ?_ $$ HS
  · intro y hy
    have b1 : (y 1).val < 256 := (y 1).isLt
    by_cases hh : (y 0).val = t ∧ 16 * v ≤ (y 1).val ∧ (y 1).val < 16 * v + 16
    · refine Or.inl ⟨_, row_hit y pS hh.1 hh.2.1 hh.2.2, ?_⟩
      refine (cast_row _ _ _).trans ?_
      have hz : (at1 16 ((at2 1 16 0 ((y 1).val - 16 * v)) 1).val 0).val = (y 1).val - 16 * v := by
        show ((y 1).val - 16 * v) % 16 % 16 = _; omega
      refine Eq.trans (b := smp (F := F) (mn _) (lv _) (shapeCast S16 e shapeCasts_S1x16_S16 _)) rfl ?_
      rw [hm, hL, hE, hz]
      unfold sampB
      rw [hh.1]
      refine congr (congr (congrArg _ (congrArg X ?_)) (congrArg X ?_)) (congrArg N ?_) <;> congr 1 <;> omega
    · refine Or.inr ⟨?_, row_miss y pS hh⟩
      rcases hy with hy | ⟨hy0, hy1⟩
      · exact Or.inl hy
      · refine Or.inr ⟨hy0, ?_⟩; omega
  iintro HS
  iapply on_load (thr d i) $$ HC
  iintro %u2 %hu2 HC
  iapply on_store (thr d i) (P' := fun y => doneT t v y ∨ ((y 0).val = t ∧ 16 * v ≤ (y 1).val ∧ (y 1).val < 16 * v + 16)) (C := compB X ch) ?_ $$ HC
  · intro y hy
    have b1 : (y 1).val < 512 := (y 1).isLt
    by_cases hh : (y 0).val = t ∧ 16 * v ≤ (y 1).val ∧ (y 1).val < 16 * v + 16
    · refine Or.inl ⟨_, row_hit y pM hh.1 hh.2.1 hh.2.2, ?_⟩
      refine (cast_row _ _ _).trans ?_
      have hz : (at1 16 ((at2 1 16 0 ((y 1).val - (16 * v))) 1).val 0).val = (y 1).val - (16 * v) := by
        show ((y 1).val - (16 * v)) % 16 % 16 = _; omega
      rw [hm, hz]
      unfold compB
      rw [hh.1]
      refine congrArg X ?_; congr 1; omega
    · refine Or.inr ⟨?_, row_miss y pM hh⟩
      rcases hy with hy | hy
      · exact hy
      · exact absurd hy hh
  iintro HC
  iapply on_load (thr d i) $$ HC
  iintro %u3 %hu3 HC
  iapply on_store (thr d i) (P' := doneT t (v + 1)) (C := compB X ch) ?_ $$ HC
  · intro y hy
    have b1 : (y 1).val < 512 := (y 1).isLt
    by_cases hh : (y 0).val = t ∧ 256 + 16 * v ≤ (y 1).val ∧ (y 1).val < 256 + 16 * v + 16
    · refine Or.inl ⟨_, row_hit y pL hh.1 hh.2.1 hh.2.2, ?_⟩
      refine (cast_row _ _ _).trans ?_
      have hz : (at1 16 ((at2 1 16 0 ((y 1).val - (256 + 16 * v))) 1).val 0).val = (y 1).val - (256 + 16 * v) := by
        show ((y 1).val - (256 + 16 * v)) % 16 % 16 = _; omega
      rw [hL, hz]
      unfold compB
      rw [hh.1]
      refine congrArg X ?_; congr 1; omega
    · refine Or.inr ⟨?_, row_miss y pL hh⟩
      rcases hy with hy | ⟨hy0, hy1⟩
      · exact Or.inl (Or.inl hy)
      · by_cases hq : (y 1).val % 256 < 16 * v
        · exact Or.inl (Or.inr ⟨hy0, hq⟩)
        · right; omega
  iintro HC
  rw [wp_ret]
  imodintro
  iapply Hk
  isplitl [HX]; · iexact HX
  isplitl [HN]; · iexact HN
  isplitl [HC]; · iexact HC
  iexact HS

/-- A lane's number. -/
theorem lanes_apply (l : S16.Idx) : lanes l = BitVec.ofNat 32 (l 0).val := by
  show BitVec.ofNat 32 (0 * 16 + (l 0).val) = _
  rw [Nat.zero_mul, Nat.zero_add]

/-- The steps of a list are the steps of token `t` from step `v` on. -/
def StepsOK (t : Nat) : Nat → List StepOffs → Prop
  | _, [] => True
  | v, o :: os => StepOK t v o ∧ StepsOK t (v + 1) os

/-- A token's steps, by induction on them. -/
theorem tsteps_on (d : Dev nD) (i : grid0.Coords) {rows : Memref sig .scVector .vmem S8x4104 .f32} {ep : Memref sig .scVector .vmem S16x128 .f32}
    {comp : Memref sig .scVector .vmem S8x512 .f32} {samp : Memref sig .scVector .vmem S8x256 .f32}
    (X : S8x4104.Idx → Elt F .f32) (N : S16x128.Idx → Elt F .f32) (ch : Nat → Nat) {t : Nat} (ht : t < 8) (hch : ch t < 8)
    (row : IVec S16 32) (cb : Vec F S16 .i32) (hrow : ∀ l, (row l).toNat = t) (hcb : ∀ l, BitVec.toNat (cb l : BitVec 32) = ch t)
    {Q : BitVec 32 → sProp (MM F)} : ∀ (os : List StepOffs) (v : Nat), StepsOK t v os → v + os.length ≤ 16 →
    (blk d i rows ep comp samp X N ch t v
      ⊢ iprop((blk d i rows ep comp samp X N ch t (v + os.length) -∗ Q 0#32)
        -∗ wp frame (wpE (defs₀ (F := F)) 𝒱₀ (thr d i) none) Set.univ (tsteps i rows ep comp samp row cb os) Q))
  | [], v, _, _ => by
    show _ ⊢ iprop(_ -∗ wp frame _ Set.univ (.ret 0#32) Q)
    rw [wp_ret]
    iintro H Hk
    imodintro
    iapply Hk
    iexact H
  | o :: os, v, ho, hl => by
    have hl' : v + 1 + os.length ≤ 16 := by simp only [List.length_cons] at hl; omega
    have hc1 : ∀ l, (colM cb o.w l).toNat = 8 + 512 * ch t + 16 * v + (l 0).val := by
      intro l
      have hl : (l 0).val < 16 := (l 0).isLt
      show (((BitVec.mul (cb l : BitVec 32) 512#32 + 8#32) + o.w) + lanes l).toNat = _
      rw [ho.1.w, lanes_apply]
      have := hcb l
      simp only [BitVec.mul_eq, BitVec.toNat_add, BitVec.toNat_mul, BitVec.toNat_ofNat, this]
      omega
    have step := tstep_on (Q := fun _ => wp frame (wpE (defs₀ (F := F)) 𝒱₀ (thr d i) none) Set.univ (tsteps i rows ep comp samp row cb os) Q)
      d i (rows := rows) (ep := ep) (comp := comp) (samp := samp) X N ch ht (by omega : v < 16) hch row (colM cb o.w) hrow hc1 o ho.1
    have rest := tsteps_on d i (rows := rows) (ep := ep) (comp := comp) (samp := samp) X N ch ht hch row cb hrow hcb (Q := Q) os (v + 1) ho.2 hl'
    rw [show v + (o :: os).length = v + 1 + os.length by simp only [List.length_cons]; omega]
    unfold tsteps
    rw [wp_bind]
    iintro H Hk
    iapply step $$ H
    iintro H
    iapply rest $$ H
    iexact Hk

/-- The steps of a token, as printed, are its sixteen steps. -/
theorem steps0_ok (t : Fin k0_t2_loop.trips) : StepsOK t 0 (steps0 t) :=
  ⟨⟨rfl, k0_off6_eq t, k0_off7_eq t, k0_off8_eq t, k0_off9_eq t⟩,
   ⟨rfl, k0_off10_eq t, k0_off11_eq t, k0_off12_eq t, k0_off13_eq t⟩,
   ⟨rfl, k0_off14_eq t, k0_off15_eq t, k0_off16_eq t, k0_off17_eq t⟩,
   ⟨rfl, k0_off18_eq t, k0_off19_eq t, k0_off20_eq t, k0_off21_eq t⟩,
   ⟨rfl, k0_off22_eq t, k0_off23_eq t, k0_off24_eq t, k0_off25_eq t⟩,
   ⟨rfl, k0_off26_eq t, k0_off27_eq t, k0_off28_eq t, k0_off29_eq t⟩,
   ⟨rfl, k0_off30_eq t, k0_off31_eq t, k0_off32_eq t, k0_off33_eq t⟩,
   ⟨rfl, k0_off34_eq t, k0_off35_eq t, k0_off36_eq t, k0_off37_eq t⟩,
   ⟨rfl, k0_off38_eq t, k0_off39_eq t, k0_off40_eq t, k0_off41_eq t⟩,
   ⟨rfl, k0_off42_eq t, k0_off43_eq t, k0_off44_eq t, k0_off45_eq t⟩,
   ⟨rfl, k0_off46_eq t, k0_off47_eq t, k0_off48_eq t, k0_off49_eq t⟩,
   ⟨rfl, k0_off50_eq t, k0_off51_eq t, k0_off52_eq t, k0_off53_eq t⟩,
   ⟨rfl, k0_off54_eq t, k0_off55_eq t, k0_off56_eq t, k0_off57_eq t⟩,
   ⟨rfl, k0_off58_eq t, k0_off59_eq t, k0_off60_eq t, k0_off61_eq t⟩,
   ⟨rfl, k0_off62_eq t, k0_off63_eq t, k0_off64_eq t, k0_off65_eq t⟩,
   ⟨rfl, k0_off66_eq t, k0_off67_eq t, k0_off68_eq t, k0_off69_eq t⟩, trivial⟩

/-- The steps of a token, as printed, are its sixteen steps. -/
theorem steps1_ok (t : Fin k0_t3_loop.trips) : StepsOK t 0 (steps1 t) :=
  ⟨⟨rfl, k0_off75_eq t, k0_off76_eq t, k0_off77_eq t, k0_off78_eq t⟩,
   ⟨rfl, k0_off79_eq t, k0_off80_eq t, k0_off81_eq t, k0_off82_eq t⟩,
   ⟨rfl, k0_off83_eq t, k0_off84_eq t, k0_off85_eq t, k0_off86_eq t⟩,
   ⟨rfl, k0_off87_eq t, k0_off88_eq t, k0_off89_eq t, k0_off90_eq t⟩,
   ⟨rfl, k0_off91_eq t, k0_off92_eq t, k0_off93_eq t, k0_off94_eq t⟩,
   ⟨rfl, k0_off95_eq t, k0_off96_eq t, k0_off97_eq t, k0_off98_eq t⟩,
   ⟨rfl, k0_off99_eq t, k0_off100_eq t, k0_off101_eq t, k0_off102_eq t⟩,
   ⟨rfl, k0_off103_eq t, k0_off104_eq t, k0_off105_eq t, k0_off106_eq t⟩,
   ⟨rfl, k0_off107_eq t, k0_off108_eq t, k0_off109_eq t, k0_off110_eq t⟩,
   ⟨rfl, k0_off111_eq t, k0_off112_eq t, k0_off113_eq t, k0_off114_eq t⟩,
   ⟨rfl, k0_off115_eq t, k0_off116_eq t, k0_off117_eq t, k0_off118_eq t⟩,
   ⟨rfl, k0_off119_eq t, k0_off120_eq t, k0_off121_eq t, k0_off122_eq t⟩,
   ⟨rfl, k0_off123_eq t, k0_off124_eq t, k0_off125_eq t, k0_off126_eq t⟩,
   ⟨rfl, k0_off127_eq t, k0_off128_eq t, k0_off129_eq t, k0_off130_eq t⟩,
   ⟨rfl, k0_off131_eq t, k0_off132_eq t, k0_off133_eq t, k0_off134_eq t⟩,
   ⟨rfl, k0_off135_eq t, k0_off136_eq t, k0_off137_eq t, k0_off138_eq t⟩, trivial⟩

/-- A token of block `nb`: the word of its chosen component gathered, then its steps. -/
theorem tokBody_on (d : Dev nD) (i : grid0.Coords) {rows : Memref sig .scVector .vmem S8x4104 .f32} {ep : Memref sig .scVector .vmem S16x128 .f32}
    {comp : Memref sig .scVector .vmem S8x512 .f32} {samp : Memref sig .scVector .vmem S8x256 .f32} {cvals : Memref sig .scVector .vmem S272 .i32}
    (X : S8x4104.Idx → Elt F .f32) (N : S16x128.Idx → Elt F .f32) (ch : Nat → Nat) (P : S272.Idx → Prop) (W : S272.Idx → Elt F .i32)
    {t nb : Nat} (ht : t < 8) (hnb : nb < 32) (hch : ch t < 8) (b : BitVec 32) (hb : b.toNat = nb)
    (row : IVec S16 32) (hrow : ∀ l, (row l).toNat = t) (hP : P (at1 272 (8 * nb + t))) (hW : (W (at1 272 (8 * nb + t)) : BitVec 32).toNat = ch t)
    (os : List StepOffs) (hos : StepsOK t 0 os) (hl : os.length = 16) {Q : BitVec 32 → sProp (MM F)} :
    iprop(blk d i rows ep comp samp X N ch t 0 ∗ holdsOn (thr d i) cvals P W)
      ⊢ iprop((blk d i rows ep comp samp X N ch (t + 1) 0 ∗ holdsOn (thr d i) cvals P W -∗ Q 0#32)
        -∗ wp frame (wpE (defs₀ (F := F)) 𝒱₀ (thr d i) none) Set.univ (tokBody i rows ep comp samp cvals b row os) Q) := by
  have hp2 : ∀ l, (k0_pay2 b row l).toNat = 8 * nb + t := by
    intro l
    show (row l + BitVec.mul b 8#32).toNat = _
    have := hrow l
    simp only [BitVec.mul_eq, BitVec.toNat_add, BitVec.toNat_mul, BitVec.toNat_ofNat, this, hb]
    omega
  have hk : k0_chk17 (k0_pay2 b row) := by
    intro a l
    match a with
    | ⟨0, _⟩ => show (k0_pay2 b row l).toNat < 272; rw [hp2]; omega
  unfold tokBody
  simp only [Prog.bind_lift]
  iintro ⟨HB, HW⟩ Hk
  iapply (wp_assume 𝒱₀ (thr d i) none Set.univ hk)
  iapply (on_gather (thr d i) (hl := View.loads_vmem h_S272)) $$ HW
  iintro %cb %hcb HW
  have hcb' : ∀ l, BitVec.toNat (cb l : BitVec 32) = ch t := by
    intro l
    have he : idxAt ![k0_pay2 b row] (k0_idx17_inb (k0_pay2 b row) hk) l = at1 272 (8 * nb + t) := eq_at1 (n := 272) _ (hp2 l)
    rw [← hW, ← he]
    exact congrArg BitVec.toNat (hcb l (he ▸ hP))
  have rest := tsteps_on d i (rows := rows) (ep := ep) (comp := comp) (samp := samp) X N ch ht hch row cb hrow hcb' (Q := Q) os 0 hos (by omega)
  iapply rest $$ HB
  iintro ⟨HX, HN, HC, HS⟩
  iapply Hk
  isplitr [HW]
  · isplitl [HX]; · iexact HX
    isplitl [HN]; · iexact HN
    isplitl [HC]
    · iapply (holdsOn_mono (thr d i) comp fun y hy => ⟨?_, rfl⟩) $$ HC
      have hm : (y 1).val % 256 < 256 := Nat.mod_lt _ (by omega)
      unfold doneT at hy ⊢
      rw [hl]
      omega
    · iapply (holdsOn_mono (thr d i) samp fun y hy => ⟨?_, rfl⟩) $$ HS
      have hm : (y 1).val % 256 < 256 := Nat.mod_lt _ (by omega)
      unfold doneT at hy ⊢
      rw [hl]
      omega
  · iexact HW

/-- A trip's number, as a vector, is the token's row. -/
theorem row_apply {t : Nat} (ht : t < 8) (l : S16.Idx) : ((addi (broadcast S16 0#32) (broadcast S16 (Scf.iv 0#32 1#32 t)) : IVec S16 32) l).toNat = t := by
  show (0#32 + (0#32 + BitVec.ofNat 32 t * 1#32)).toNat = t
  simp only [BitVec.toNat_add, BitVec.toNat_mul, BitVec.toNat_ofNat]
  omega

/-- The eight tokens of an even block. -/
theorem toks0_on (d : Dev nD) (i : grid0.Coords) {rows : Memref sig .scVector .vmem S8x4104 .f32} {ep : Memref sig .scVector .vmem S16x128 .f32}
    {comp : Memref sig .scVector .vmem S8x512 .f32} {samp : Memref sig .scVector .vmem S8x256 .f32} {cvals : Memref sig .scVector .vmem S272 .i32}
    (X : S8x4104.Idx → Elt F .f32) (N : S16x128.Idx → Elt F .f32) (ch : Nat → Nat) (P : S272.Idx → Prop) (W : S272.Idx → Elt F .i32)
    {nb : Nat} (hnb : nb < 32) (hch : ∀ t, ch t < 8) (b : BitVec 32) (hb : b.toNat = nb)
    (hP : ∀ t < 8, P (at1 272 (8 * nb + t))) (hW : ∀ t < 8, (W (at1 272 (8 * nb + t)) : BitVec 32).toNat = ch t)
    {Q : BitVec 32 → sProp (MM F)} :
    iprop(blk d i rows ep comp samp X N ch 0 0 ∗ holdsOn (thr d i) cvals P W)
      ⊢ iprop((∀ a, blk d i rows ep comp samp X N ch 8 0 ∗ holdsOn (thr d i) cvals P W -∗ Q a)
        -∗ wp frame (wpE (defs₀ (F := F)) 𝒱₀ (thr d i) none) Set.univ
          (Scf.Loop.for k0_t2_loop k0_t2_ok 0#32 fun t _ => tokBody i rows ep comp samp cvals b (k0_pay1 0#32 1#32 t) (steps0 t)) Q) := by
  iintro H Hk
  iapply (Scf.wp_for frame (wpE (defs₀ (F := F)) 𝒱₀ (thr d i) none) Set.univ _ _ _ k0_t2_ok 0#32
    (fun t _ => tokBody i rows ep comp samp cvals b (k0_pay1 0#32 1#32 t) (steps0 t))
    (fun n _ => iprop(blk d i rows ep comp samp X N ch n 0 ∗ holdsOn (thr d i) cvals P W)) ?_)
  · intro t _
    have ht : t.val < 8 := t.isLt
    have step := tokBody_on (rows := rows) (ep := ep) (comp := comp) (samp := samp) (cvals := cvals) (Q := fun _ => iprop(blk d i rows ep comp samp X N ch (t.val + 1) 0 ∗ holdsOn (thr d i) cvals P W))
      d i X N ch P W ht hnb (hch t) b hb (k0_pay1 0#32 1#32 t) (row_apply ht) (hP t ht) (hW t ht) (steps0 t) (steps0_ok t) rfl
    iintro H
    iapply step $$ H
    iintro H; iexact H
  · isplitl [H]
    · iexact H
    · iexact Hk

/-- The eight tokens of an odd block. -/
theorem toks1_on (d : Dev nD) (i : grid0.Coords) {rows : Memref sig .scVector .vmem S8x4104 .f32} {ep : Memref sig .scVector .vmem S16x128 .f32}
    {comp : Memref sig .scVector .vmem S8x512 .f32} {samp : Memref sig .scVector .vmem S8x256 .f32} {cvals : Memref sig .scVector .vmem S272 .i32}
    (X : S8x4104.Idx → Elt F .f32) (N : S16x128.Idx → Elt F .f32) (ch : Nat → Nat) (P : S272.Idx → Prop) (W : S272.Idx → Elt F .i32)
    {nb : Nat} (hnb : nb < 32) (hch : ∀ t, ch t < 8) (b : BitVec 32) (hb : b.toNat = nb)
    (hP : ∀ t < 8, P (at1 272 (8 * nb + t))) (hW : ∀ t < 8, (W (at1 272 (8 * nb + t)) : BitVec 32).toNat = ch t)
    {Q : BitVec 32 → sProp (MM F)} :
    iprop(blk d i rows ep comp samp X N ch 0 0 ∗ holdsOn (thr d i) cvals P W)
      ⊢ iprop((∀ a, blk d i rows ep comp samp X N ch 8 0 ∗ holdsOn (thr d i) cvals P W -∗ Q a)
        -∗ wp frame (wpE (defs₀ (F := F)) 𝒱₀ (thr d i) none) Set.univ
          (Scf.Loop.for k0_t3_loop k0_t3_ok 0#32 fun t _ => tokBody i rows ep comp samp cvals b (k0_pay1 0#32 1#32 t) (steps1 t)) Q) := by
  iintro H Hk
  iapply (Scf.wp_for frame (wpE (defs₀ (F := F)) 𝒱₀ (thr d i) none) Set.univ _ _ _ k0_t3_ok 0#32
    (fun t _ => tokBody i rows ep comp samp cvals b (k0_pay1 0#32 1#32 t) (steps1 t))
    (fun n _ => iprop(blk d i rows ep comp samp X N ch n 0 ∗ holdsOn (thr d i) cvals P W)) ?_)
  · intro t _
    have ht : t.val < 8 := t.isLt
    have step := tokBody_on (rows := rows) (ep := ep) (comp := comp) (samp := samp) (cvals := cvals) (Q := fun _ => iprop(blk d i rows ep comp samp X N ch (t.val + 1) 0 ∗ holdsOn (thr d i) cvals P W))
      d i X N ch P W ht hnb (hch t) b hb (k0_pay1 0#32 1#32 t) (row_apply ht) (hP t ht) (hW t ht) (steps1 t) (steps1_ok t) rfl
    iintro H
    iapply step $$ H
    iintro H; iexact H
  · isplitl [H]
    · iexact H
    · iexact Hk

end Cert.Proof.Mix
-- ==== Proof.Select.lean ====
/-
  The selector of a block: the logits gathered, the eight probabilities of each token scattered, the chosen components stored.
-/
module

public import proofs.«01_k».proof.Proof.Token

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A token's selector, from its eight logits -/

/-- The best of the logits up to number `n`, the first of equals kept. -/
def bst (x : Nat → F .f32) : Nat → F .f32
  | 0 => x 0
  | n + 1 => Scalar.select (FloatOps.cmpf .ogt (x (n + 1)) (bst x n)) (x (n + 1)) (bst x n)

/-- The number of the best of them, as a word. -/
def chn (x : Nat → F .f32) : Nat → BitVec 32
  | 0 => 0#32
  | n + 1 => Scalar.select (FloatOps.cmpf .ogt (x (n + 1)) (bst x n)) (BitVec.ofNat 32 (n + 1)) (chn x n)

/-- The exponential of a logit less the best. -/
def exq (x : Nat → F .f32) (k : Nat) : F .f32 := FloatOps.exp (FloatOps.subf (x k) (bst x 7))

/-- One over the sum of the exponentials. -/
def invq (x : Nat → F .f32) : F .f32 :=
  FloatOps.divf (Scalar.ofBits .f32 0x3F800000#32)
    (FloatOps.addf (FloatOps.addf (FloatOps.addf (exq x 0) (exq x 1)) (FloatOps.addf (exq x 2) (exq x 3)))
      (FloatOps.addf (FloatOps.addf (exq x 4) (exq x 5)) (FloatOps.addf (exq x 6) (exq x 7))))

/-- The probability of component `k`. -/
def prq (x : Nat → F .f32) (k : Nat) : F .f32 := FloatOps.mulf (exq x k) (invq x)

/-- The best depends on the logits up to its number only. -/
theorem bst_congr {x y : Nat → F .f32} : ∀ {n : Nat}, (∀ k ≤ n, x k = y k) → bst x n = bst y n
  | 0, h => h 0 (Nat.le_refl _)
  | n + 1, h => by
    unfold bst
    rw [bst_congr (n := n) fun k hk => h k (by omega), h (n + 1) (Nat.le_refl _)]

/-- So does its number. -/
theorem chn_congr {x y : Nat → F .f32} : ∀ {n : Nat}, (∀ k ≤ n, x k = y k) → chn x n = chn y n
  | 0, h => rfl
  | n + 1, h => by
    unfold chn
    rw [bst_congr (n := n) fun k hk => h k (by omega), chn_congr (n := n) fun k hk => h k (by omega), h (n + 1) (Nat.le_refl _)]

/-- An exponential depends on the eight logits only. -/
theorem exq_congr {x y : Nat → F .f32} (h : ∀ k ≤ 7, x k = y k) {k : Nat} (hk : k ≤ 7) : exq x k = exq y k := by
  unfold exq; rw [bst_congr h, h k hk]

/-- So does a probability. -/
theorem prq_congr {x y : Nat → F .f32} (h : ∀ k ≤ 7, x k = y k) {k : Nat} (hk : k ≤ 7) : prq x k = prq y k := by
  unfold prq invq
  rw [exq_congr h hk, exq_congr h (k := 0) (by omega), exq_congr h (k := 1) (by omega), exq_congr h (k := 2) (by omega), exq_congr h (k := 3) (by omega),
    exq_congr h (k := 4) (by omega), exq_congr h (k := 5) (by omega), exq_congr h (k := 6) (by omega), exq_congr h (k := 7) (by omega)]

/-- The chosen component's number is less than eight. -/
theorem chn_lt (x : Nat → F .f32) : ∀ n ≤ 7, (chn x n).toNat ≤ n
  | 0, _ => Nat.le_refl _
  | n + 1, h => by
    have ih := chn_lt x n (by omega)
    unfold chn Scalar.select
    split
    · rw [BitVec.toNat_ofNat]; omega
    · omega

/-- The chosen components, lane by lane. -/
theorem pay136_apply (xs : Nat → Vec F S16 .f32) (l : S16.Idx) :
    k0_pay136 (xs 0) (xs 1) (xs 2) (xs 3) (xs 4) (xs 5) (xs 6) (xs 7) l = chn (fun k => xs k l) 7 := rfl

/-- The probabilities, lane by lane. -/
theorem prob_apply (xs : Nat → Vec F S16 .f32) (k : Nat) (l : S16.Idx) :
    prob (k0_pay137 (xs 0) (xs 1) (xs 2) (xs 3) (xs 4) (xs 5) (xs 6) (xs 7)) (xs 0) (xs 1) (xs 2) (xs 3) (xs 4) (xs 5) (xs 6) (xs 7) (xs k) l
      = prq (fun k => xs k l) k := rfl

/-- The tile's table of probabilities, from the logits `G` of its tokens. -/
def tabC (G : Nat → Nat → F .f32) : S16x128.Idx → Elt F .f32 :=
  fun y => prq (G ((128 * (y 0).val + (y 1).val) / 8)) ((y 1).val % 8)

/-- The tile's chosen components. -/
def chC (G : Nat → Nat → F .f32) : S272.Idx → Elt F .i32 := fun y => chn (G (y 0).val) 7

/-- The entries of the table done: all of the blocks before `nb`, and of block `nb` the components below `k`. -/
def pdone (nb k : Nat) (y : S16x128.Idx) : Prop :=
  128 * (y 0).val + (y 1).val < 64 * nb ∨ ((128 * (y 0).val + (y 1).val) / 64 = nb ∧ (y 1).val % 8 < k)

/-- The chosen components done: those of the blocks before `nb`. -/
def cdone (nb : Nat) (y : S272.Idx) : Prop := (y 0).val < 8 * nb

/-! ## The words of the positions -/

/-- The low three bits of a lane. -/
theorem lane7 : ∀ n < 16, (BitVec.ofNat 32 n &&& 7#32) = BitVec.ofNat 32 (n % 8) := by decide +kernel
/-- A lane that compares below eight is below eight. -/
theorem lane8 : ∀ n < 16, IntOp.cmpi .slt (BitVec.ofNat 32 n) 8#32 = 1 → n < 8 := by decide +kernel
/-- A lane below eight compares below eight. -/
theorem lane8' : ∀ n < 8, IntOp.cmpi .slt (BitVec.ofNat 32 n) 8#32 = 1 := by decide +kernel
/-- The row of a place in the table. -/
theorem pos_row : ∀ p < 2048, (IntOp.shrsi .vector (BitVec.ofNat 32 p) 7#32).toNat = p / 128 := by decide +kernel
/-- Its column. -/
theorem pos_col : ∀ p < 2048, (BitVec.ofNat 32 p &&& 127#32).toNat = p % 128 := by decide +kernel

/-- A lane's token in the block. -/
theorem pay239_apply (l : S16.Idx) : k0_pay239 l = BitVec.ofNat 32 ((l 0).val % 8) := by
  show lanes l &&& 7#32 = _
  rw [lanes_apply, lane7 _ (l 0).isLt]

/-- The lanes that store: the first eight. -/
theorem pay240_iff (l : S16.Idx) : k0_pay240 l = 1 ↔ (l 0).val < 8 := by
  show IntOp.cmpi .slt (lanes l) 8#32 = 1 ↔ _
  rw [lanes_apply]
  exact ⟨lane8 _ (l 0).isLt, lane8' _⟩

/-- A lane's position in the tile's flat table. -/
theorem pos_apply {nb k : Nat} (hnb : nb < 32) (hk : k < 8) (b : BitVec 32) (hb : b.toNat = nb) (l : S16.Idx) :
    pos b (BitVec.ofNat 32 k) l = BitVec.ofNat 32 (64 * nb + 8 * ((l 0).val % 8) + k) := by
  have hl : (l 0).val < 16 := (l 0).isLt
  show (BitVec.mul (BitVec.mul b 8#32 + k0_pay239 l) 8#32) + BitVec.ofNat 32 k = _
  rw [pay239_apply]
  apply BitVec.eq_of_toNat_eq
  simp only [BitVec.mul_eq, BitVec.toNat_add, BitVec.toNat_mul, BitVec.toNat_ofNat, hb]
  omega

/-- The row at which a lane stores a probability. -/
theorem pos_row_apply {nb k : Nat} (hnb : nb < 32) (hk : k < 8) (b : BitVec 32) (hb : b.toNat = nb) (l : S16.Idx) :
    (shrsi (pos b (BitVec.ofNat 32 k)) (broadcast S16 7#32) l).toNat = (64 * nb + 8 * ((l 0).val % 8) + k) / 128 := by
  show (IntOp.shrsi .vector (pos b (BitVec.ofNat 32 k) l) 7#32).toNat = _
  rw [pos_apply hnb hk b hb, pos_row _ (by omega)]

/-- The column at which it does. -/
theorem pos_col_apply {nb k : Nat} (hnb : nb < 32) (hk : k < 8) (b : BitVec 32) (hb : b.toNat = nb) (l : S16.Idx) :
    (andi (pos b (BitVec.ofNat 32 k)) (broadcast S16 127#32) l).toNat = (64 * nb + 8 * ((l 0).val % 8) + k) % 128 := by
  show (pos b (BitVec.ofNat 32 k) l &&& 127#32).toNat = _
  rw [pos_apply hnb hk b hb, pos_col _ (by omega)]

/-! ## The selector's operations -/

/-- One gather of logits. -/
theorem gat_on (d : Dev nD) (i : grid0.Coords) {rows : Memref sig .scVector .vmem S8x4104 .f32} (X : S8x4104.Idx → Elt F .f32) {k : Nat} (hk : k < 8)
    {Q : Vec F S16 .f32 → sProp (MM F)} :
    holdsOn (thr d i) rows (fun _ => True) X
      ⊢ iprop((∀ x, ⌜∀ l : S16.Idx, x l = X (at2 8 4104 ((l 0).val % 8) k)⌝ -∗ holdsOn (thr d i) rows (fun _ => True) X -∗ Q x)
        -∗ wp frame (wpE (defs₀ (F := F)) 𝒱₀ (thr d i) none) Set.univ (gat i rows (BitVec.ofNat 32 k)) Q) := by
  have h0 : ∀ l, (k0_pay239 l).toNat = (l 0).val % 8 := fun l => by
    have hl : (l 0).val < 16 := (l 0).isLt
    rw [pay239_apply, BitVec.toNat_ofNat]; omega
  have h1 : ∀ l : S16.Idx, ((broadcast S16 (BitVec.ofNat 32 k) : IVec S16 32) l).toNat = k := fun l => by
    show (BitVec.ofNat 32 k).toNat = k
    rw [BitVec.toNat_ofNat]; omega
  have hk1 : k0_chk1 k0_pay239 (broadcast S16 (BitVec.ofNat 32 k)) := by
    intro a l
    match a with
    | ⟨0, _⟩ => show (k0_pay239 l).toNat < 8; rw [h0]; omega
    | ⟨1, _⟩ => show ((broadcast S16 (BitVec.ofNat 32 k) : IVec S16 32) l).toNat < 4104; rw [h1]; omega
  unfold gat
  simp only [Prog.bind_lift]
  iintro HX Hk
  iapply (wp_assume 𝒱₀ (thr d i) none Set.univ hk1)
  have g := on_gather (F := F) (thr d i) (m := rows) (P := fun _ => True) (C := X) (Q := Q) (idxs := ![k0_pay239, broadcast S16 (BitVec.ofNat 32 k)])
    (h := k0_idx1_inb _ _ hk1) (hl := View.loads_vmem h_S8x4104) (k := .ret)
  iapply g $$ HX
  iintro %x %hx HX
  rw [wp_ret]
  imodintro
  iapply Hk $$ [] [HX]
  · ipureintro
    exact fun l => (hx l trivial).trans (congrArg X (eq_at2 (n := 8) (m := 4104) _ (h0 l) (h1 l)))
  · iexact HX

/-- One scatter of probabilities. -/
theorem sca_on (d : Dev nD) (i : grid0.Coords) {probs : Memref sig .scVector .vmem S16x128 .f32} (G : Nat → Nat → F .f32)
    {nb k : Nat} (hnb : nb < 32) (hk : k < 8) (b : BitVec 32) (hb : b.toNat = nb) (x : Vec F S16 .f32)
    (hx : ∀ l : S16.Idx, x l = prq (G (8 * nb + (l 0).val % 8)) k)
    {Q : PUnit → sProp (MM F)} :
    holdsOn (thr d i) probs (pdone nb k) (tabC G)
      ⊢ iprop((holdsOn (thr d i) probs (pdone nb (k + 1)) (tabC G) -∗ Q ⟨⟩)
        -∗ wp frame (wpE (defs₀ (F := F)) 𝒱₀ (thr d i) none) Set.univ (sca i probs b (BitVec.ofNat 32 k) x) Q) := by
  have h0 := pos_row_apply hnb hk b hb
  have h1 := pos_col_apply hnb hk b hb
  have hk1 : k0_chk9 (shrsi (pos b (BitVec.ofNat 32 k)) (broadcast S16 7#32)) (andi (pos b (BitVec.ofNat 32 k)) (broadcast S16 127#32)) := by
    intro a l
    match a with
    | ⟨0, _⟩ => show (shrsi (pos b (BitVec.ofNat 32 k)) (broadcast S16 7#32) l).toNat < 16; rw [h0]; omega
    | ⟨1, _⟩ => show (andi (pos b (BitVec.ofNat 32 k)) (broadcast S16 127#32) l).toNat < 128; rw [h1]; omega
  unfold sca
  simp only [Prog.bind_lift]
  iintro HX Hk
  iapply (wp_assume 𝒱₀ (thr d i) none Set.univ hk1)
  have g := on_scatter (F := F) (thr d i) (m := probs) (P := pdone nb k) (P' := pdone nb (k + 1)) (C := tabC G) (Q := Q)
    (idxs := ![shrsi (pos b (BitVec.ofNat 32 k)) (broadcast S16 7#32), andi (pos b (BitVec.ofNat 32 k)) (broadcast S16 127#32)])
    (v := x) (mask := k0_pay240) (h := k0_idx9_inb _ _ hk1) (hs := View.stores_vmem_bits_univ h_S16x128 rfl) (k := .ret)
    (fun l hm _ => by
      have e0 : ((idxAt (s := S16x128) (t := S16) ![shrsi (pos b (BitVec.ofNat 32 k)) (broadcast S16 7#32), andi (pos b (BitVec.ofNat 32 k)) (broadcast S16 127#32)] (k0_idx9_inb _ _ hk1) l) 0).val
        = (64 * nb + 8 * ((l 0).val % 8) + k) / 128 := h0 l
      have e1 : ((idxAt (s := S16x128) (t := S16) ![shrsi (pos b (BitVec.ofNat 32 k)) (broadcast S16 7#32), andi (pos b (BitVec.ofNat 32 k)) (broadcast S16 127#32)] (k0_idx9_inb _ _ hk1) l) 1).val
        = (64 * nb + 8 * ((l 0).val % 8) + k) % 128 := h1 l
      refine (hx l).trans ?_
      unfold tabC
      rw [e0, e1]
      congr 2 <;> omega)
    (fun y hy => by
      by_cases hh : (128 * (y 0).val + (y 1).val) / 64 = nb ∧ (y 1).val % 8 = k
      · refine Or.inl ⟨at1 16 ((128 * (y 0).val + (y 1).val) % 64 / 8), ?_, ?_⟩
        · rw [pay240_iff]; show (128 * (y 0).val + (y 1).val) % 64 / 8 % 16 < 8; omega
        · have b1 : (y 1).val < 128 := (y 1).isLt
          funext a
          match a with
          | ⟨0, _⟩ =>
            refine Fin.ext ((h0 _).trans ?_)
            show (64 * nb + 8 * ((128 * (y 0).val + (y 1).val) % 64 / 8 % 16 % 8) + k) / 128 = (y 0).val
            omega
          | ⟨1, _⟩ =>
            refine Fin.ext ((h1 _).trans ?_)
            show (64 * nb + 8 * ((128 * (y 0).val + (y 1).val) % 64 / 8 % 16 % 8) + k) % 128 = (y 1).val
            omega
      · right
        unfold pdone at hy ⊢
        omega)
  iapply g $$ HX
  iintro HX
  rw [wp_ret]
  imodintro
  iapply Hk
  iexact HX

/-- The selector of block `nb`: its rows `X` carry the logits `G` of its tokens. -/
theorem selBlock_on (d : Dev nD) (i : grid0.Coords) {rows : Memref sig .scVector .vmem S8x4104 .f32} {probs : Memref sig .scVector .vmem S16x128 .f32}
    {cvals : Memref sig .scVector .vmem S272 .i32} (X : S8x4104.Idx → Elt F .f32) (G : Nat → Nat → F .f32)
    {nb : Nat} (hnb : nb < 32) (b : BitVec 32) (hb : b.toNat = nb) (hX : ∀ t < 8, ∀ k < 8, X (at2 8 4104 t k) = G (8 * nb + t) k)
    (oC : Fin 1 → Nat) (hC : ∀ a, oC a + S16.size a ≤ S272.size a) (hoC : oC = ![8 * nb])
    {Q : PUnit → sProp (MM F)} :
    iprop(holdsOn (thr d i) rows (fun _ => True) X ∗ holdsOn (thr d i) probs (pdone nb 0) (tabC G) ∗ holdsOn (thr d i) cvals (cdone nb) (chC G))
      ⊢ iprop((holdsOn (thr d i) rows (fun _ => True) X ∗ holdsOn (thr d i) probs (pdone (nb + 1) 0) (tabC G) ∗ holdsOn (thr d i) cvals (cdone (nb + 1)) (chC G) -∗ Q ⟨⟩)
        -∗ wp frame (wpE (defs₀ (F := F)) 𝒱₀ (thr d i) none) Set.univ (selBlock i rows probs cvals b oC hC) Q) := by
  subst hoC
  unfold selBlock
  simp only [wp_bind, Prog.bind_lift]
  iintro ⟨HX, HP, HC⟩ Hk
  iapply (gat_on d i X (k := 0) (by omega)) $$ HX
  iintro %x0 %h0 HX
  iapply (gat_on d i X (k := 1) (by omega)) $$ HX
  iintro %x1 %h1 HX
  iapply (gat_on d i X (k := 2) (by omega)) $$ HX
  iintro %x2 %h2 HX
  iapply (gat_on d i X (k := 3) (by omega)) $$ HX
  iintro %x3 %h3 HX
  iapply (gat_on d i X (k := 4) (by omega)) $$ HX
  iintro %x4 %h4 HX
  iapply (gat_on d i X (k := 5) (by omega)) $$ HX
  iintro %x5 %h5 HX
  iapply (gat_on d i X (k := 6) (by omega)) $$ HX
  iintro %x6 %h6 HX
  iapply (gat_on d i X (k := 7) (by omega)) $$ HX
  iintro %x7 %h7 HX
  let xs : Nat → Vec F S16 .f32 := fun k => match k with
    | 0 => x0 | 1 => x1 | 2 => x2 | 3 => x3 | 4 => x4 | 5 => x5 | 6 => x6 | 7 => x7 | _ => x0
  have hxs : ∀ l : S16.Idx, ∀ k ≤ 7, xs k l = G (8 * nb + (l 0).val % 8) k := by
    intro l k hk
    have hl : (l 0).val % 8 < 8 := Nat.mod_lt _ (by omega)
    rcases k with _ | _ | _ | _ | _ | _ | _ | _ | k
    · exact (h0 l).trans (hX _ hl _ (by omega))
    · exact (h1 l).trans (hX _ hl _ (by omega))
    · exact (h2 l).trans (hX _ hl _ (by omega))
    · exact (h3 l).trans (hX _ hl _ (by omega))
    · exact (h4 l).trans (hX _ hl _ (by omega))
    · exact (h5 l).trans (hX _ hl _ (by omega))
    · exact (h6 l).trans (hX _ hl _ (by omega))
    · exact (h7 l).trans (hX _ hl _ (by omega))
    · omega
  have hp : ∀ k < 8, ∀ l : S16.Idx, prob (k0_pay137 (xs 0) (xs 1) (xs 2) (xs 3) (xs 4) (xs 5) (xs 6) (xs 7)) (xs 0) (xs 1) (xs 2) (xs 3) (xs 4) (xs 5) (xs 6) (xs 7) (xs k) l
      = prq (G (8 * nb + (l 0).val % 8)) k := fun k hk l => (prob_apply xs k l).trans (prq_congr (hxs l) (by omega))
  iapply (sca_on d i G hnb (k := 0) (by omega) b hb (prob (k0_pay137 x0 x1 x2 x3 x4 x5 x6 x7) x0 x1 x2 x3 x4 x5 x6 x7 x0) (hp 0 (by omega))) $$ HP
  iintro HP
  iapply (sca_on d i G hnb (k := 1) (by omega) b hb (prob (k0_pay137 x0 x1 x2 x3 x4 x5 x6 x7) x0 x1 x2 x3 x4 x5 x6 x7 x1) (hp 1 (by omega))) $$ HP
  iintro HP
  iapply (sca_on d i G hnb (k := 2) (by omega) b hb (prob (k0_pay137 x0 x1 x2 x3 x4 x5 x6 x7) x0 x1 x2 x3 x4 x5 x6 x7 x2) (hp 2 (by omega))) $$ HP
  iintro HP
  iapply (sca_on d i G hnb (k := 3) (by omega) b hb (prob (k0_pay137 x0 x1 x2 x3 x4 x5 x6 x7) x0 x1 x2 x3 x4 x5 x6 x7 x3) (hp 3 (by omega))) $$ HP
  iintro HP
  iapply (sca_on d i G hnb (k := 4) (by omega) b hb (prob (k0_pay137 x0 x1 x2 x3 x4 x5 x6 x7) x0 x1 x2 x3 x4 x5 x6 x7 x4) (hp 4 (by omega))) $$ HP
  iintro HP
  iapply (sca_on d i G hnb (k := 5) (by omega) b hb (prob (k0_pay137 x0 x1 x2 x3 x4 x5 x6 x7) x0 x1 x2 x3 x4 x5 x6 x7 x5) (hp 5 (by omega))) $$ HP
  iintro HP
  iapply (sca_on d i G hnb (k := 6) (by omega) b hb (prob (k0_pay137 x0 x1 x2 x3 x4 x5 x6 x7) x0 x1 x2 x3 x4 x5 x6 x7 x6) (hp 6 (by omega))) $$ HP
  iintro HP
  iapply (sca_on d i G hnb (k := 7) (by omega) b hb (prob (k0_pay137 x0 x1 x2 x3 x4 x5 x6 x7) x0 x1 x2 x3 x4 x5 x6 x7 x7) (hp 7 (by omega))) $$ HP
  iintro HP
  iapply (on_load (thr d i)) $$ HC
  iintro %u %hu HC
  iapply (on_store (thr d i) (P' := cdone (nb + 1)) (C := chC G) ?_) $$ HC
  · intro y hy
    by_cases hh : (y 0).val < 8 * nb
    · refine Or.inr ⟨hh, ?_⟩
      rintro x rfl
      have : 8 * nb + 1 * (x 0).val < 8 * nb := hh
      omega
    · have hy' : (y 0).val < 8 * (nb + 1) := hy
      refine Or.inl ⟨at1 16 ((y 0).val - 8 * nb), ?_, ?_⟩
      · funext a
        match a with
        | ⟨0, _⟩ => exact Fin.ext (show 8 * nb + 1 * (((y 0).val - 8 * nb) % 16) = (y 0).val by omega)
      · refine (pay136_apply xs _).trans ((chn_congr (hxs _)).trans ?_)
        unfold chC
        have e : 8 * nb + ((at1 16 ((y 0).val - 8 * nb)) 0).val % 8 = (y 0).val := by
          show 8 * nb + ((y 0).val - 8 * nb) % 16 % 8 = _
          omega
        rw [e]
  iintro HC
  rw [wp_ret]
  imodintro
  iapply Hk
  isplitl [HX]; · iexact HX
  isplitl [HP]
  · iapply (holdsOn_mono (thr d i) probs fun y hy => ⟨?_, rfl⟩) $$ HP
    unfold pdone at hy ⊢
    omega
  · iexact HC

end Cert.Proof.Mix
-- ==== Proof.Copy.lean ====
/-
  A tile's copies between its part of an array and a buffer of its own, as started and as waited for.
-/
module

public import proofs.«01_k».proof.Proof.Mem

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (c : Thread nD τ) {s : Shape} {e : EltTy} {α : Type} {Q : α → sProp (MM F)}

/-- The part `R` of an array, with the contents `f`. -/
abbrev part (m : Memref sig c.2.kind .hbm s e) (R : Finset s.Idx) (f : Buf (Elt F) (m.view.loc c)) : sProp (MM F) :=
  iprop(m.view.loc c ↦[m.view.setOn R]{fullShare} f)

/-- The part `R` of an array, reading `C` at its indices of `P`. -/
def partOn (m : Memref sig c.2.kind .hbm s e) (R : Finset s.Idx) (P : s.Idx → Prop) (C : s.Idx → Elt F e) : sProp (MM F) :=
  iprop(∃ f, ⌜∀ y ∈ R, P y → m.view.read (Elt F) f y = C y⌝ ∗ part c m R f)

/-- A copy into the buffer `b` is on its way: it delivers the buffer reading `X`, and the part it reads from. -/
def inb (m : Memref sig c.2.kind .hbm s e) (R : Finset s.Idx) (f : Buf (Elt F) (m.view.loc c)) {t : Shape} (b : Memref sig c.2.kind .vmem t e)
    (sm : DmaSem sig) (X : t.Idx → Elt F e) : sProp (MM F) :=
  iprop(∃ D, Transfers.Flight countersEmb c (.dma sm) none b.view.dmaCredit D
    ∗ (D -∗ (holdsOn c b (fun _ => True) X ∗ part c m R f)))

/-- A copy out of the buffer `b` is on its way: it delivers the part reading `C` at its indices of `P`, and the buffer. -/
def outb (m : Memref sig c.2.kind .hbm s e) (R : Finset s.Idx) (P : s.Idx → Prop) (C : s.Idx → Elt F e) {t : Shape} (b : Memref sig c.2.kind .vmem t e)
    (sm : DmaSem sig) (N : Nat) : sProp (MM F) :=
  iprop(∃ D, Transfers.Flight countersEmb c (.dma sm) none N D
    ∗ (D -∗ ((∃ Y, holdsOn c b (fun _ => True) Y) ∗ partOn c m R P C)))

/-- What the core owes, its waits those it had and ones of no index. -/
def owed (O : CellTallies nD τ sig (HIx 1)) (W : Waits sig (HIx 1)) : sProp (MM F) :=
  iprop(∃ W', ⌜∀ p ∈ W', p ∈ W ∨ p.2 = none⌝ ∗ owes c O W')

/-- Starting a copy in. -/
theorem enq_in {m : Memref sig c.2.kind .hbm s e} {R : Finset s.Idx} {f : Buf (Elt F) (m.view.loc c)} {r : Rect s} {hr : ∀ a, r.stride a = 1}
    {b : Memref sig c.2.kind .vmem r.shape e} {sm : DmaSem sig} {P : r.shape.Idx → Prop} {C X : r.shape.Idx → Elt F e}
    {hsrc : (m.slice r hr).view.WordExact} {hdst : b.view.WordExact} {hsem : DmaTarget.Typed (nD := nD) .hbm (.dma sm) (.here b)}
    {k : PUnit → Prog (TpuEff nD τ sig (Elt F) Λ₀ c.2) α}
    (hR : r.set ⊆ R) (h0 : 0 < r.shape.numel) (hX : ∀ x, m.view.read (Elt F) f (r.emb x) = X x) :
    iprop(part c m R f ∗ holdsOn c b P C ∗ semVal (c, .dma sm) 0)
      ⊢ iprop((inb c m R f b sm X -∗ wp frame (wpE (defs₀ (F := F)) 𝒱₀ c none) Set.univ (k ⟨⟩) Q)
        -∗ wp frame (wpE (defs₀ (F := F)) 𝒱₀ c none) Set.univ (.op (.enqueueDma (m.slice r hr) (.here b) (.dma sm) hsrc hdst hsem) k) Q) := by
  have hsub : (m.slice r hr).view.set ⊆ m.view.setOn R := by
    rw [show (m.slice r hr).view.set = m.view.setOn r.set from View.set_slice m.view r]
    exact Finset.map_subset_map.mpr hR
  unfold inb holdsOn
  iintro ⟨Hm, ⟨%fd, %hfd, Hb⟩, Hs⟩ Hk
  ihave Hm2 := ((pointsTo_split_subset (ℓ := m.view.loc c) hsub).1) $$ Hm
  icases Hm2 with ⟨Hm1, Hm2⟩
  iapply (Transfers.wp_dmaLocal countersEmb 𝒱₀ c none (src := m.slice r hr) (via := ReadAs.same) (dst := b) (sm := .dma sm) (q := fullShare) (fs := f) (Sd := b.view.set) (fd := fd)
    (none : HIx 1) b.view.dmaCredit rfl (b.view.dmaCredit_pos h0) (Finset.Subset.refl _)) $$ [Hm1 Hb Hs]
  · isplitl [Hm1]; · iexact Hm1
    isplitl [Hb]; · iexact Hb
    iexact Hs
  iintro Hf
  iapply Hk
  iexists _
  isplitl [Hf]; · iexact Hf
  iintro ⟨Hb, Hm1⟩
  isplitl [Hb]
  · iexists _
    isplitr
    rotate_left
    · iexact Hb
    · ipureintro
      intro y _
      rw [View.read_write_univ, ← hX]
      rfl
  · iapply ((pointsTo_split_subset (ℓ := m.view.loc c) hsub).2)
    isplitl [Hm1]; · iexact Hm1
    iexact Hm2

/-- Waiting for a copy in. -/
theorem wait_in {m : Memref sig c.2.kind .hbm s e} {R : Finset s.Idx} {f : Buf (Elt F) (m.view.loc c)} {t : Shape}
    {b : Memref sig c.2.kind .vmem t e} {sm : DmaSem sig} {X : t.Idx → Elt F e} {O : CellTallies nD τ sig (HIx 1)} {W : Waits sig (HIx 1)}
    {sp' : Space} {s' : Shape} {e' : EltTy} {srcw : Memref sig c.2.kind sp' s' e'}
    {hsrc : srcw.view.WordExact} {hdst : b.view.WordExact}
    {k : PUnit → Prog (TpuEff nD τ sig (Elt F) Λ₀ c.2) α} :
    iprop(inb c m R f b sm X ∗ owed c O W ∗ Transfers.MayWaits c none O)
      ⊢ iprop((holdsOn c b (fun _ => True) X ∗ part c m R f ∗ semVal (c, .dma sm) 0 ∗ owed c O W
          -∗ wp frame (wpE (defs₀ (F := F)) 𝒱₀ c none) Set.univ (k ⟨⟩) Q)
        -∗ wp frame (wpE (defs₀ (F := F)) 𝒱₀ c none) Set.univ (.op (.waitDma2 sm srcw b hsrc hdst) k) Q) := by
  unfold inb owed
  iintro ⟨⟨%D, Hf, HD⟩, ⟨%W', %hW', HO⟩, HM⟩ Hk
  ihave HM' := (Transfers.MayWaits.elim (SemLoc.dma sm)) $$ HM
  iapply (Transfers.wp_waitLocalO countersEmb 𝒱₀ c none (none : HIx 1) (N := b.view.dmaCredit) rfl (D := D) (O := O) (W := W')) $$ [Hf HO HM']
  · isplitl [Hf]; · iexact Hf
    isplitl [HO]; · iexact HO
    iexact HM'
  iintro ⟨Hd, Hs, HO⟩
  ihave Hd' := HD $$ Hd
  icases Hd' with ⟨Hb, Hm⟩
  iapply Hk
  isplitl [Hb]; · iexact Hb
  isplitl [Hm]; · iexact Hm
  isplitl [Hs]; · iexact Hs
  iexists _
  isplitr
  rotate_left
  · iexact HO
  · ipureintro
    intro p hp
    rcases Finset.mem_insert.mp hp with rfl | hp
    · exact Or.inr rfl
    · exact hW' p hp

/-- Starting a copy out. -/
theorem enq_out {m : Memref sig c.2.kind .hbm s e} {R : Finset s.Idx} {P P' : s.Idx → Prop} {C : s.Idx → Elt F e} {r : Rect s} {hr : ∀ a, r.stride a = 1}
    {b : Memref sig c.2.kind .vmem r.shape e} {sm : DmaSem sig} {Pb : r.shape.Idx → Prop} {Y : r.shape.Idx → Elt F e} {N : Nat}
    {hsrc : b.view.WordExact} {hdst : (m.slice r hr).view.WordExact} {hsem : DmaTarget.Typed (nD := nD) .vmem (.dma sm) (.here (m.slice r hr))}
    {k : PUnit → Prog (TpuEff nD τ sig (Elt F) Λ₀ c.2) α}
    (hR : r.set ⊆ R) (h0 : 0 < r.shape.numel) (hN : (m.slice r hr).view.dmaCredit = N)
    (hP : ∀ y ∈ R, P' y → (∃ x, Pb x ∧ r.emb x = y ∧ Y x = C y) ∨ (P y ∧ ∀ x, r.emb x ≠ y)) :
    iprop(partOn c m R P C ∗ holdsOn c b Pb Y ∗ semVal (c, .dma sm) 0)
      ⊢ iprop((outb c m R P' C b sm N -∗ wp frame (wpE (defs₀ (F := F)) 𝒱₀ c none) Set.univ (k ⟨⟩) Q)
        -∗ wp frame (wpE (defs₀ (F := F)) 𝒱₀ c none) Set.univ (.op (.enqueueDma b (.here (m.slice r hr)) (.dma sm) hsrc hdst hsem) k) Q) := by
  have hsub : (m.slice r hr).view.set ⊆ m.view.setOn R := by
    rw [show (m.slice r hr).view.set = m.view.setOn r.set from View.set_slice m.view r]
    exact Finset.map_subset_map.mpr hR
  unfold outb holdsOn partOn
  iintro ⟨⟨%fd, %hfd, Hm⟩, ⟨%fb, %hfb, Hb⟩, Hs⟩ Hk
  iapply (Transfers.wp_dmaLocal countersEmb 𝒱₀ c none (src := b) (via := ReadAs.same) (dst := m.slice r hr) (sm := .dma sm) (q := fullShare) (fs := fb) (Sd := m.view.setOn R) (fd := fd)
    (none : HIx 1) N hN (hN ▸ (m.slice r hr).view.dmaCredit_pos h0) hsub) $$ [Hm Hb Hs]
  · isplitl [Hb]; · iexact Hb
    isplitl [Hm]; · iexact Hm
    iexact Hs
  iintro Hf
  iapply Hk
  iexists _
  isplitl [Hf]; · iexact Hf
  iintro ⟨Hm, Hb⟩
  isplitl [Hb]
  · iexists (b.view.read (Elt F) fb)
    iexists fb
    isplitr
    · ipureintro; exact fun _ _ => rfl
    · iexact Hb
  · iexists _
    isplitr
    rotate_left
    · iexact Hm
    · ipureintro
      intro y hy hp
      rcases hP y hy hp with ⟨x, hb, rfl, hw⟩ | ⟨hp, hn⟩
      · rw [← hw, ← hfb x hb]
        exact View.read_slice_write_emb r fd _ (Finset.mem_univ x)
      · rw [← hfd y hy hp]
        exact View.read_slice_write_of_not_mem r fd _ Finset.univ fun hh => by
          obtain ⟨x, -, hx⟩ := Finset.mem_map.mp hh
          exact hn x hx

/-- Waiting for a copy out. -/
theorem wait_out {m : Memref sig c.2.kind .hbm s e} {R : Finset s.Idx} {P : s.Idx → Prop} {C : s.Idx → Elt F e} {t : Shape}
    {b : Memref sig c.2.kind .vmem t e} {sm : DmaSem sig} {N : Nat} {O : CellTallies nD τ sig (HIx 1)} {W : Waits sig (HIx 1)}
    {sp' sp'' : Space} {s' s'' : Shape} {e' e'' : EltTy} {srcw : Memref sig c.2.kind sp' s' e'} {dstw : Memref sig c.2.kind sp'' s'' e''}
    {hsrc : srcw.view.WordExact} {hdst : dstw.view.WordExact} (hN : dstw.view.dmaCredit = N)
    {k : PUnit → Prog (TpuEff nD τ sig (Elt F) Λ₀ c.2) α} :
    iprop(outb c m R P C b sm N ∗ owed c O W ∗ Transfers.MayWaits c none O)
      ⊢ iprop(((∃ Y, holdsOn c b (fun _ => True) Y) ∗ partOn c m R P C ∗ semVal (c, .dma sm) 0 ∗ owed c O W
          -∗ wp frame (wpE (defs₀ (F := F)) 𝒱₀ c none) Set.univ (k ⟨⟩) Q)
        -∗ wp frame (wpE (defs₀ (F := F)) 𝒱₀ c none) Set.univ (.op (.waitDma2 sm srcw dstw hsrc hdst) k) Q) := by
  unfold outb owed
  iintro ⟨⟨%D, Hf, HD⟩, ⟨%W', %hW', HO⟩, HM⟩ Hk
  ihave HM' := (Transfers.MayWaits.elim (SemLoc.dma sm)) $$ HM
  iapply (Transfers.wp_waitLocalO countersEmb 𝒱₀ c none (none : HIx 1) (N := N) hN (D := D) (O := O) (W := W')) $$ [Hf HO HM']
  · isplitl [Hf]; · iexact Hf
    isplitl [HO]; · iexact HO
    iexact HM'
  iintro ⟨Hd, Hs, HO⟩
  ihave Hd' := HD $$ Hd
  icases Hd' with ⟨Hb, Hm⟩
  iapply Hk
  isplitl [Hb]; · iexact Hb
  isplitl [Hm]; · iexact Hm
  isplitl [Hs]; · iexact Hs
  iexists _
  isplitr
  rotate_left
  · iexact HO
  · ipureintro
    intro p hp
    rcases Finset.mem_insert.mp hp with rfl | hp
    · exact Or.inr rfl
    · exact hW' p hp

end Cert.Proof.Mix
-- ==== Proof.Parts.lean ====
/-
  The three results as functions of the two arguments, and a tile's part of them block by block.
-/
module

public import proofs.«01_k».proof.Proof.Select
public import proofs.«01_k».proof.Proof.Copy

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The results, from the raw parameters `A` and the noise `B` -/

/-- A token's logits. -/
def lgt (A : S8192x4104.Idx → Elt F .f32) (T : Nat) (k : Nat) : F .f32 := A (at2 8192 4104 T k)

/-- The number of a token's chosen component. -/
def chT (A : S8192x4104.Idx → Elt F .f32) (T : Nat) : Nat := (chn (lgt A T) 7).toNat

/-- The chosen components' means and log variances. -/
def compG (A : S8192x4104.Idx → Elt F .f32) : S8192x512.Idx → Elt F .f32 :=
  fun y => A (at2 8192 4104 (y 0).val (8 + 512 * chT A (y 0).val + (y 1).val))

/-- The samples. -/
def sampG (A : S8192x4104.Idx → Elt F .f32) (B : S16384x128.Idx → Elt F .f32) : S8192x256.Idx → Elt F .f32 :=
  fun y => smp (F := F) (A (at2 8192 4104 (y 0).val (8 + 512 * chT A (y 0).val + (y 1).val)))
    (A (at2 8192 4104 (y 0).val (8 + 512 * chT A (y 0).val + (y 1).val + 256)))
    (B (at2 16384 128 (2 * (y 0).val + (y 1).val / 128) ((y 1).val % 128)))

/-- The probabilities, sixteen tokens a row. -/
def tabG (A : S8192x4104.Idx → Elt F .f32) : S512x128.Idx → Elt F .f32 :=
  fun y => prq (lgt A ((128 * (y 0).val + (y 1).val) / 8)) ((y 1).val % 8)

/-! ## Tile `w`'s blocks -/

/-- The rows of its block `n`. -/
def Xb (A : S8192x4104.Idx → Elt F .f32) (w n : Nat) : S8x4104.Idx → Elt F .f32 :=
  fun y => A (at2 8192 4104 (256 * w + 8 * n + (y 0).val) (y 1).val)

/-- The noise of its block `n`. -/
def Nb (B : S16384x128.Idx → Elt F .f32) (w n : Nat) : S16x128.Idx → Elt F .f32 :=
  fun y => B (at2 16384 128 (512 * w + 16 * n + (y 0).val) (y 1).val)

/-- The chosen components' numbers in its block `n`. -/
def chb (A : S8192x4104.Idx → Elt F .f32) (w n : Nat) (t : Nat) : Nat := chT A (256 * w + 8 * n + t)

/-- The logits of its tokens. -/
def Gt (A : S8192x4104.Idx → Elt F .f32) (w : Nat) (τ : Nat) : Nat → F .f32 := lgt A (256 * w + τ)

/-- A chosen component is one of eight. -/
theorem chT_lt (A : S8192x4104.Idx → Elt F .f32) (T : Nat) : chT A T < 8 := Nat.lt_succ_of_le (chn_lt (lgt A T) 7 (by omega))

/-- So is a block's. -/
theorem chb_lt (A : S8192x4104.Idx → Elt F .f32) (w n t : Nat) : chb A w n t < 8 := chT_lt A _

/-- A block's rows carry its tokens' logits. -/
theorem Xb_logit (A : S8192x4104.Idx → Elt F .f32) (w n : Nat) : ∀ t < 8, ∀ k < 8, Xb A w n (at2 8 4104 t k) = Gt A w (8 * n + t) k := by
  intro t ht k hk
  show A (at2 8192 4104 (256 * w + 8 * n + t % 8) (k % 4104)) = A (at2 8192 4104 (256 * w + (8 * n + t)) k)
  congr 2 <;> omega

/-- The words a block's tokens read are their chosen components' numbers. -/
theorem chC_word (A : S8192x4104.Idx → Elt F .f32) {w n : Nat} (hn : n < 32) : ∀ t < 8, (chC (Gt A w) (at1 272 (8 * n + t)) : BitVec 32).toNat = chb A w n t := by
  intro t ht
  show (chn (lgt A (256 * w + (8 * n + t) % 272)) 7).toNat = (chn (lgt A (256 * w + 8 * n + t)) 7).toNat
  rw [show 256 * w + (8 * n + t) % 272 = 256 * w + 8 * n + t by omega]

/-! ## The parts of the arrays a tile holds -/

/-- Tile `w`'s blocks of parity `p`, of `h` rows each. -/
def rgn (n m h w p : Nat) : Finset (⟨2, ![n, m]⟩ : Shape).Idx :=
  Finset.univ.filter fun y => (y 0).val / (32 * h) = w ∧ (y 0).val / h % 2 = p

/-- When an element lies in a tile's blocks of one parity. -/
theorem mem_rgn {n m h w p : Nat} {y : (⟨2, ![n, m]⟩ : Shape).Idx} : y ∈ rgn n m h w p ↔ (y 0).val / (32 * h) = w ∧ (y 0).val / h % 2 = p := by
  unfold rgn; simp only [Finset.mem_filter, Finset.mem_univ, true_and]

/-- Tile `w`'s rows of the table of probabilities. -/
def rgnP (w : Nat) : Finset S512x128.Idx := Finset.univ.filter fun y => (y 0).val / 16 = w

/-- When an element lies in a tile's rows of the table. -/
theorem mem_rgnP {w : Nat} {y : S512x128.Idx} : y ∈ rgnP w ↔ (y 0).val / 16 = w := by
  unfold rgnP; simp only [Finset.mem_filter, Finset.mem_univ, true_and]

/-- The blocks of the first `g` trips. -/
def bdone {n m : Nat} (g : Nat) (y : (⟨2, ![n, m]⟩ : Shape).Idx) : Prop := (y 0).val / 16 % 16 < g

/-- Whole rows from row `a`: one of their elements is reached from its place among them. -/
theorem rows_hit {n m h : Nat} [NeZero h] [NeZero m] (y : (⟨2, ![n, m]⟩ : Shape).Idx) {a : Nat}
    (inb : ∀ x, (![a, 0] : Fin 2 → Nat) x + (⟨2, ![h, m]⟩ : Shape).size x ≤ (⟨2, ![n, m]⟩ : Shape).size x)
    (h1 : a ≤ (y 0).val) (h2 : (y 0).val < a + h) :
    (Rect.unit (s := ⟨2, ![n, m]⟩) ![a, 0] (⟨2, ![h, m]⟩ : Shape).size inb).emb (at2 h m ((y 0).val - a) (y 1).val) = y := by
  have b1 : (y 1).val < m := (y 1).isLt
  funext x
  match x with
  | ⟨0, _⟩ => exact Fin.ext (show a + 1 * (((y 0).val - a) % h) = (y 0).val by rw [Nat.mod_eq_of_lt (by omega)]; omega)
  | ⟨1, _⟩ => exact Fin.ext (show 0 + 1 * ((y 1).val % m) = (y 1).val by rw [Nat.mod_eq_of_lt b1]; omega)

/-- Any other element is not among them. -/
theorem rows_miss {n m h : Nat} (y : (⟨2, ![n, m]⟩ : Shape).Idx) {a : Nat}
    (inb : ∀ x, (![a, 0] : Fin 2 → Nat) x + (⟨2, ![h, m]⟩ : Shape).size x ≤ (⟨2, ![n, m]⟩ : Shape).size x)
    (hh : ¬(a ≤ (y 0).val ∧ (y 0).val < a + h)) :
    ∀ x, (Rect.unit (s := ⟨2, ![n, m]⟩) ![a, 0] (⟨2, ![h, m]⟩ : Shape).size inb).emb x ≠ y := by
  rintro x rfl
  have h0 : (x 0).val < h := (x 0).isLt
  refine hh ?_
  show a ≤ a + 1 * (x 0).val ∧ a + 1 * (x 0).val < a + h
  omega

/-- A block's rows are in the tile's part of its parity. -/
theorem rows_sub {n m h w p g : Nat} (hh : h = 8 ∨ h = 16) (hg : g < 16) (hp : p < 2) {a : Nat} (ha : a = 32 * h * w + 2 * h * g + h * p)
    (inb : ∀ x, (![a, 0] : Fin 2 → Nat) x + (⟨2, ![h, m]⟩ : Shape).size x ≤ (⟨2, ![n, m]⟩ : Shape).size x) :
    (Rect.unit (s := ⟨2, ![n, m]⟩) ![a, 0] (⟨2, ![h, m]⟩ : Shape).size inb).set ⊆ rgn n m h w p := by
  intro y hy
  rw [Rect.mem_set_unit] at hy
  have h0 : a ≤ (y 0).val ∧ (y 0).val < a + h := hy 0
  rw [mem_rgn]
  rcases hh with rfl | rfl <;> omega

/-- What a copy of block `n`'s rows in delivers. -/
theorem rows_in (A : S8192x4104.Idx → Elt F .f32) {w n a : Nat} (ha : a = 256 * w + 8 * n)
    (inb : ∀ x, (![a, 0] : Fin 2 → Nat) x + S8x4104.size x ≤ S8192x4104.size x) (x : S8x4104.Idx) :
    A ((Rect.unit (s := S8192x4104) ![a, 0] S8x4104.size inb).emb x) = Xb A w n x := by
  unfold Xb
  refine congrArg A (eq_at2 (n := 8192) (m := 4104) _ ?_ ?_)
  · show a + 1 * (x 0).val = _; omega
  · show 0 + 1 * (x 1).val = _; omega

/-- What a copy of block `n`'s noise in delivers. -/
theorem noise_in (B : S16384x128.Idx → Elt F .f32) {w n a : Nat} (ha : a = 512 * w + 16 * n)
    (inb : ∀ x, (![a, 0] : Fin 2 → Nat) x + S16x128.size x ≤ S16384x128.size x) (x : S16x128.Idx) :
    B ((Rect.unit (s := S16384x128) ![a, 0] S16x128.size inb).emb x) = Nb B w n x := by
  unfold Nb
  refine congrArg B (eq_at2 (n := 16384) (m := 128) _ ?_ ?_)
  · show a + 1 * (x 0).val = _; omega
  · show 0 + 1 * (x 1).val = _; omega

/-- A block's chosen components, copied out, make one more of them done. -/
theorem comp_out (A : S8192x4104.Idx → Elt F .f32) {w g p a : Nat} (hw : w < 32) (hg : g < 16) (hp : p < 2) (ha : a = 256 * w + 16 * g + 8 * p)
    (inb : ∀ x, (![a, 0] : Fin 2 → Nat) x + S8x512.size x ≤ S8192x512.size x) :
    ∀ y ∈ rgn 8192 512 8 w p, bdone (g + 1) y →
      (∃ x, doneT 8 0 x ∧ (Rect.unit (s := S8192x512) ![a, 0] S8x512.size inb).emb x = y
        ∧ compB (Xb A w (2 * g + p)) (chb A w (2 * g + p)) x = compG A y)
      ∨ (bdone g y ∧ ∀ x, (Rect.unit (s := S8192x512) ![a, 0] S8x512.size inb).emb x ≠ y) := by
  intro y hy hd
  rw [mem_rgn] at hy
  unfold bdone at hd ⊢
  by_cases hb : (y 0).val / 16 % 16 = g
  · have h1 : a ≤ (y 0).val := by omega
    have h2 : (y 0).val < a + 8 := by omega
    refine Or.inl ⟨_, Or.inl ?_, rows_hit (n := 8192) (m := 512) (h := 8) y inb h1 h2, ?_⟩
    · show ((y 0).val - a) % 8 < 8; omega
    · have b1 : (y 1).val < 512 := (y 1).isLt
      have e0 : ((at2 8 512 ((y 0).val - a) (y 1).val) 0).val = (y 0).val - a := by show ((y 0).val - a) % 8 = _; omega
      have e1 : ((at2 8 512 ((y 0).val - a) (y 1).val) 1).val = (y 1).val := by show (y 1).val % 512 = _; omega
      have hc := chT_lt A (y 0).val
      unfold compB compG Xb chb
      rw [e0, e1, show 256 * w + 8 * (2 * g + p) + ((y 0).val - a) = (y 0).val by omega]
      refine congrArg A (congr (congrArg _ ?_) ?_)
      · show 256 * w + 8 * (2 * g + p) + ((y 0).val - a) % 8 = _; omega
      · show (8 + 512 * chT A (y 0).val + (y 1).val) % 4104 = _; omega
  · exact Or.inr ⟨by omega, rows_miss (n := 8192) (m := 512) (h := 8) y inb (by omega)⟩

/-- A block's samples, copied out, make one more of them done. -/
theorem samp_out (A : S8192x4104.Idx → Elt F .f32) (B : S16384x128.Idx → Elt F .f32) {w g p a : Nat} (hw : w < 32) (hg : g < 16) (hp : p < 2)
    (ha : a = 256 * w + 16 * g + 8 * p) (inb : ∀ x, (![a, 0] : Fin 2 → Nat) x + S8x256.size x ≤ S8192x256.size x) :
    ∀ y ∈ rgn 8192 256 8 w p, bdone (g + 1) y →
      (∃ x, doneT 8 0 x ∧ (Rect.unit (s := S8192x256) ![a, 0] S8x256.size inb).emb x = y
        ∧ sampB (Xb A w (2 * g + p)) (Nb B w (2 * g + p)) (chb A w (2 * g + p)) x = sampG A B y)
      ∨ (bdone g y ∧ ∀ x, (Rect.unit (s := S8192x256) ![a, 0] S8x256.size inb).emb x ≠ y) := by
  intro y hy hd
  rw [mem_rgn] at hy
  unfold bdone at hd ⊢
  by_cases hb : (y 0).val / 16 % 16 = g
  · have h1 : a ≤ (y 0).val := by omega
    have h2 : (y 0).val < a + 8 := by omega
    refine Or.inl ⟨_, Or.inl ?_, rows_hit (n := 8192) (m := 256) (h := 8) y inb h1 h2, ?_⟩
    · show ((y 0).val - a) % 8 < 8; omega
    · have b1 : (y 1).val < 256 := (y 1).isLt
      have e0 : ((at2 8 256 ((y 0).val - a) (y 1).val) 0).val = (y 0).val - a := by show ((y 0).val - a) % 8 = _; omega
      have e1 : ((at2 8 256 ((y 0).val - a) (y 1).val) 1).val = (y 1).val := by show (y 1).val % 256 = _; omega
      have hc := chT_lt A (y 0).val
      unfold sampB sampG Xb Nb chb
      rw [e0, e1, show 256 * w + 8 * (2 * g + p) + ((y 0).val - a) = (y 0).val by omega]
      refine congr (congr (congrArg _ (congrArg A (congr (congrArg _ ?_) ?_))) (congrArg A (congr (congrArg _ ?_) ?_))) (congrArg B (congr (congrArg _ ?_) ?_))
      · show 256 * w + 8 * (2 * g + p) + ((y 0).val - a) % 8 = _; omega
      · show (8 + 512 * chT A (y 0).val + (y 1).val) % 4104 = _; omega
      · show 256 * w + 8 * (2 * g + p) + ((y 0).val - a) % 8 = _; omega
      · show (8 + 512 * chT A (y 0).val + (y 1).val + 256) % 4104 = _; omega
      · show 512 * w + 16 * (2 * g + p) + (2 * ((y 0).val - a) + (y 1).val / 128) % 16 = _; omega
      · show ((y 1).val % 128) % 128 = _; omega
  · exact Or.inr ⟨by omega, rows_miss (n := 8192) (m := 256) (h := 8) y inb (by omega)⟩

/-- The tile's table, copied out, is its part of the table of all tokens. -/
theorem tab_out (A : S8192x4104.Idx → Elt F .f32) {w a : Nat} (hw : w < 32) (ha : a = 16 * w)
    (inb : ∀ x, (![a, 0] : Fin 2 → Nat) x + S16x128.size x ≤ S512x128.size x) :
    ∀ y ∈ rgnP w, True →
      (∃ x, pdone 32 0 x ∧ (Rect.unit (s := S512x128) ![a, 0] S16x128.size inb).emb x = y ∧ tabC (Gt A w) x = tabG A y)
      ∨ (False ∧ ∀ x, (Rect.unit (s := S512x128) ![a, 0] S16x128.size inb).emb x ≠ y) := by
  intro y hy _
  rw [mem_rgnP] at hy
  have b1 : (y 1).val < 128 := (y 1).isLt
  have e0 : ((at2 16 128 ((y 0).val - a) (y 1).val) 0).val = (y 0).val - a := by show ((y 0).val - a) % 16 = _; omega
  have e1 : ((at2 16 128 ((y 0).val - a) (y 1).val) 1).val = (y 1).val := by show (y 1).val % 128 = _; omega
  refine Or.inl ⟨_, Or.inl ?_, rows_hit (n := 512) (m := 128) (h := 16) y inb (by omega) (by omega), ?_⟩
  · rw [e0, e1]; omega
  · unfold tabC tabG Gt
    rw [e0, e1, show 256 * w + (128 * ((y 0).val - a) + (y 1).val) / 8 = (128 * (y 0).val + (y 1).val) / 8 by omega]

/-- The tile's table's rows are in its part. -/
theorem tab_sub {w a : Nat} (ha : a = 16 * w) (inb : ∀ x, (![a, 0] : Fin 2 → Nat) x + S16x128.size x ≤ S512x128.size x) :
    (Rect.unit (s := S512x128) ![a, 0] S16x128.size inb).set ⊆ rgnP w := by
  intro y hy
  rw [Rect.mem_set_unit] at hy
  have h0 : a ≤ (y 0).val ∧ (y 0).val < a + 16 := hy 0
  rw [mem_rgnP]
  omega

end Cert.Proof.Mix
-- ==== Proof.Tile.lean ====
/-
  A tile's program: its sixteen trips and what is around them.
-/
module

public import proofs.«01_k».proof.Proof.Parts

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The number of a tile among the thirty-two. -/
abbrev wid (i : grid0.Coords) : Nat := 2 * (i 1).val + (i 0).val

/-- There are thirty-two tiles. -/
theorem wid_lt (i : grid0.Coords) : wid i < 32 := by
  have h0 : (i 0).val < 2 := (i 0).isLt
  have h1 : (i 1).val < 16 := (i 1).isLt
  unfold wid; omega

section Channels

variable (c : Thread nD τ) {s : Shape} {e : EltTy}

/-- A buffer, whatever it holds. -/
def any {t : Shape} (b : Memref sig c.2.kind .vmem t e) : sProp (MM F) := iprop(∃ P C, holdsOn c b P C)

/-- Nothing is on its way into the buffer. -/
def idleIn (m : Memref sig c.2.kind .hbm s e) (R : Finset s.Idx) (f : Buf (Elt F) (m.view.loc c)) {t : Shape} (b : Memref sig c.2.kind .vmem t e)
    (sm : DmaSem sig) : sProp (MM F) :=
  iprop(part c m R f ∗ any c b ∗ semVal (c, .dma sm) 0)

/-- Before trip `g`, its even block is on its way in, if there is such a trip. -/
def chIn (g : Nat) (m : Memref sig c.2.kind .hbm s e) (R : Finset s.Idx) (f : Buf (Elt F) (m.view.loc c)) {t : Shape} (b : Memref sig c.2.kind .vmem t e)
    (sm : DmaSem sig) (X : t.Idx → Elt F e) : sProp (MM F) :=
  if g < 16 then inb c m R f b sm X else idleIn c m R f b sm

/-- Nothing is on its way out of the buffer. -/
def idleOut (m : Memref sig c.2.kind .hbm s e) (R : Finset s.Idx) (P : s.Idx → Prop) (C : s.Idx → Elt F e) {t : Shape} (b : Memref sig c.2.kind .vmem t e)
    (sm : DmaSem sig) : sProp (MM F) :=
  iprop(partOn c m R P C ∗ any c b ∗ semVal (c, .dma sm) 0)

/-- Before trip `g`, the block of the trip before is on its way out, if there was one. -/
def chOut (g : Nat) {n k : Nat} (m : Memref sig c.2.kind .hbm ⟨2, ![n, k]⟩ e) (R : Finset (⟨2, ![n, k]⟩ : Shape).Idx) (C : (⟨2, ![n, k]⟩ : Shape).Idx → Elt F e) {t : Shape}
    (b : Memref sig c.2.kind .vmem t e) (sm : DmaSem sig) (N : Nat) : sProp (MM F) :=
  if g = 0 then idleOut c m R (bdone g) C b sm else outb c m R (bdone g) C b sm N

end Channels

/-- What a copy out of a block of components counts. -/
abbrev N512 (m : Memref sig .scVector .hbm S8192x512 .f32) : Nat :=
  (m.slice (Rect.unit (s := S8192x512) ![0, 0] S8x512.size inb_S8192x512_S8x512_0_0) (fun _ => rfl)).view.dmaCredit

/-- What a copy out of a block of samples counts. -/
abbrev N256 (m : Memref sig .scVector .hbm S8192x256 .f32) : Nat :=
  (m.slice (Rect.unit (s := S8192x256) ![0, 0] S8x256.size inb_S8192x256_S8x256_0_0) (fun _ => rfl)).view.dmaCredit

/-- The number of a trip's first block. -/
theorem even_word : ∀ g : Fin k0_t1_loop.trips, (Scalar.muli 2#32 (Scf.iv 0#32 1#32 g.val)).toNat = 2 * g.val := by decide +kernel
/-- The number of its second block. -/
theorem odd_word : ∀ g : Fin k0_t1_loop.trips, (Scalar.addi (Scalar.muli 2#32 (Scf.iv 0#32 1#32 g.val)) 1#32).toNat = 2 * g.val + 1 := by decide +kernel
/-- The condition that a trip comes after the first. -/
theorem later_iff : ∀ g : Fin k0_t1_loop.trips, later (Scf.iv 0#32 1#32 g.val) ↔ g.val ≠ 0 := by decide +kernel
/-- The condition that a trip has another after it. -/
theorem more_iff : ∀ g : Fin k0_t1_loop.trips, k0_cond2 g = 1#1 ↔ g.val + 1 < 16 := by decide +kernel

/-- Starting the fetch of a block of rows. -/
theorem raw_start (d : Dev nD) (i : grid0.Coords) {m : Memref sig .scVector .hbm S8192x4104 .f32} {f : Buf (Elt F) (m.view.loc (thr d i))}
    {b : Memref sig .scVector .vmem S8x4104 .f32} {sm : DmaSem sig} {A : S8192x4104.Idx → Elt F .f32} (hA : m.view.read (Elt F) f = A) {w g p a : Nat} (hg : g < 16) (hp : p < 2)
    {off : Fin 2 → Nat} (hoff : off = ![a, 0]) (ha : a = 256 * w + 16 * g + 8 * p)
    {hin : ∀ x, off x + S8x4104.size x ≤ S8192x4104.size x} {hsrc : (m.slice (Rect.unit (s := S8192x4104) off S8x4104.size hin) (fun _ => rfl)).view.WordExact} {hdst : b.view.WordExact}
    {hsem : DmaTarget.Typed (nD := nD) (p := (thr d i).2) .hbm (.dma sm) (.here b)} {α : Type} {Q : α → sProp (MM F)} {k : PUnit → Prog (TpuEff nD τ sig (Elt F) Λ₀ (thr d i).2) α} :
    idleIn (thr d i) m (rgn 8192 4104 8 w p) f b sm
      ⊢ iprop((inb (thr d i) m (rgn 8192 4104 8 w p) f b sm (Xb A w (2 * g + p)) -∗ wp frame (wpE (defs₀ (F := F)) 𝒱₀ (thr d i) none) Set.univ (k ⟨⟩) Q)
        -∗ wp frame (wpE (defs₀ (F := F)) 𝒱₀ (thr d i) none) Set.univ (.op (.enqueueDma (m.slice (Rect.unit (s := S8192x4104) off S8x4104.size hin) (fun _ => rfl)) (.here b) (.dma sm) hsrc hdst hsem) k) Q) := by
  subst hoff hA
  unfold idleIn any
  iintro ⟨Hm, ⟨%P, %C, Hb⟩, Hs⟩ Hk
  iapply (enq_in (thr d i) (X := Xb (m.view.read (Elt F) f) w (2 * g + p)) (rows_sub (n := 8192) (m := 4104) (h := 8) (by omega) hg hp (by omega) hin) (show 0 < S8x4104.numel by decide) (fun x => rows_in _ (by omega) hin x)) $$ [Hm Hb Hs]
  · isplitl [Hm]; · iexact Hm
    isplitl [Hb]; · iexact Hb
    iexact Hs
  iexact Hk

/-- Starting the fetch of a block of noise. -/
theorem eps_start (d : Dev nD) (i : grid0.Coords) {m : Memref sig .scVector .hbm S16384x128 .f32} {f : Buf (Elt F) (m.view.loc (thr d i))}
    {b : Memref sig .scVector .vmem S16x128 .f32} {sm : DmaSem sig} {A : S16384x128.Idx → Elt F .f32} (hA : m.view.read (Elt F) f = A) {w g p a : Nat} (hg : g < 16) (hp : p < 2)
    {off : Fin 2 → Nat} (hoff : off = ![a, 0]) (ha : a = 512 * w + 32 * g + 16 * p)
    {hin : ∀ x, off x + S16x128.size x ≤ S16384x128.size x} {hsrc : (m.slice (Rect.unit (s := S16384x128) off S16x128.size hin) (fun _ => rfl)).view.WordExact} {hdst : b.view.WordExact}
    {hsem : DmaTarget.Typed (nD := nD) (p := (thr d i).2) .hbm (.dma sm) (.here b)} {α : Type} {Q : α → sProp (MM F)} {k : PUnit → Prog (TpuEff nD τ sig (Elt F) Λ₀ (thr d i).2) α} :
    idleIn (thr d i) m (rgn 16384 128 16 w p) f b sm
      ⊢ iprop((inb (thr d i) m (rgn 16384 128 16 w p) f b sm (Nb A w (2 * g + p)) -∗ wp frame (wpE (defs₀ (F := F)) 𝒱₀ (thr d i) none) Set.univ (k ⟨⟩) Q)
        -∗ wp frame (wpE (defs₀ (F := F)) 𝒱₀ (thr d i) none) Set.univ (.op (.enqueueDma (m.slice (Rect.unit (s := S16384x128) off S16x128.size hin) (fun _ => rfl)) (.here b) (.dma sm) hsrc hdst hsem) k) Q) := by
  subst hoff hA
  unfold idleIn any
  iintro ⟨Hm, ⟨%P, %C, Hb⟩, Hs⟩ Hk
  iapply (enq_in (thr d i) (X := Nb (m.view.read (Elt F) f) w (2 * g + p)) (rows_sub (n := 16384) (m := 128) (h := 16) (by omega) hg hp (by omega) hin) (show 0 < S16x128.numel by decide) (fun x => noise_in _ (by omega) hin x)) $$ [Hm Hb Hs]
  · isplitl [Hm]; · iexact Hm
    isplitl [Hb]; · iexact Hb
    iexact Hs
  iexact Hk

/-- Starting the copy out of a block of components. -/
theorem comp_start (d : Dev nD) (i : grid0.Coords) {m : Memref sig .scVector .hbm S8192x512 .f32}
    {b : Memref sig .scVector .vmem S8x512 .f32} {sm : DmaSem sig} (A : S8192x4104.Idx → Elt F .f32) {w g p a : Nat} (hw : w < 32) (hg : g < 16) (hp : p < 2)
    {off : Fin 2 → Nat} (hoff : off = ![a, 0]) (ha : a = 256 * w + 16 * g + 8 * p)
    {hin : ∀ x, off x + S8x512.size x ≤ S8192x512.size x} {hsrc : b.view.WordExact} {hdst : (m.slice (Rect.unit (s := S8192x512) off S8x512.size hin) (fun _ => rfl)).view.WordExact}
    {hsem : DmaTarget.Typed (nD := nD) (p := (thr d i).2) .vmem (.dma sm) (.here (m.slice (Rect.unit (s := S8192x512) off S8x512.size hin) (fun _ => rfl)))}
    {α : Type} {Q : α → sProp (MM F)} {k : PUnit → Prog (TpuEff nD τ sig (Elt F) Λ₀ (thr d i).2) α} :
    iprop(partOn (thr d i) m (rgn 8192 512 8 w p) (bdone g) (compG A) ∗ holdsOn (thr d i) b (doneT 8 0) (compB (Xb A w (2 * g + p)) (chb A w (2 * g + p))) ∗ semVal (thr d i, .dma sm) 0)
      ⊢ iprop((chOut (thr d i) (g + 1) m (rgn 8192 512 8 w p) (compG A) b sm (N512 m) -∗ wp frame (wpE (defs₀ (F := F)) 𝒱₀ (thr d i) none) Set.univ (k ⟨⟩) Q)
        -∗ wp frame (wpE (defs₀ (F := F)) 𝒱₀ (thr d i) none) Set.univ (.op (.enqueueDma b (.here (m.slice (Rect.unit (s := S8192x512) off S8x512.size hin) (fun _ => rfl))) (.dma sm) hsrc hdst hsem) k) Q) := by
  subst hoff
  have e := enq_out (thr d i) (m := m) (b := b) (sm := sm) (hsrc := hsrc) (hdst := hdst) (hsem := hsem) (Q := Q) (k := k) (N := N512 m) (r := Rect.unit (s := S8192x512) ![a, 0] S8x512.size hin) (hr := fun _ => rfl)
    (rows_sub (n := 8192) (m := 512) (h := 8) (by omega) hg hp (by omega) hin) (show 0 < S8x512.numel by decide) rfl (comp_out A hw hg hp ha hin)
  exact e

/-- Starting the copy out of a block of samples. -/
theorem samp_start (d : Dev nD) (i : grid0.Coords) {m : Memref sig .scVector .hbm S8192x256 .f32}
    {b : Memref sig .scVector .vmem S8x256 .f32} {sm : DmaSem sig} (A : S8192x4104.Idx → Elt F .f32) (B : S16384x128.Idx → Elt F .f32) {w g p a : Nat} (hw : w < 32) (hg : g < 16) (hp : p < 2)
    {off : Fin 2 → Nat} (hoff : off = ![a, 0]) (ha : a = 256 * w + 16 * g + 8 * p)
    {hin : ∀ x, off x + S8x256.size x ≤ S8192x256.size x} {hsrc : b.view.WordExact} {hdst : (m.slice (Rect.unit (s := S8192x256) off S8x256.size hin) (fun _ => rfl)).view.WordExact}
    {hsem : DmaTarget.Typed (nD := nD) (p := (thr d i).2) .vmem (.dma sm) (.here (m.slice (Rect.unit (s := S8192x256) off S8x256.size hin) (fun _ => rfl)))}
    {α : Type} {Q : α → sProp (MM F)} {k : PUnit → Prog (TpuEff nD τ sig (Elt F) Λ₀ (thr d i).2) α} :
    iprop(partOn (thr d i) m (rgn 8192 256 8 w p) (bdone g) (sampG A B) ∗ holdsOn (thr d i) b (doneT 8 0) (sampB (Xb A w (2 * g + p)) (Nb B w (2 * g + p)) (chb A w (2 * g + p))) ∗ semVal (thr d i, .dma sm) 0)
      ⊢ iprop((chOut (thr d i) (g + 1) m (rgn 8192 256 8 w p) (sampG A B) b sm (N256 m) -∗ wp frame (wpE (defs₀ (F := F)) 𝒱₀ (thr d i) none) Set.univ (k ⟨⟩) Q)
        -∗ wp frame (wpE (defs₀ (F := F)) 𝒱₀ (thr d i) none) Set.univ (.op (.enqueueDma b (.here (m.slice (Rect.unit (s := S8192x256) off S8x256.size hin) (fun _ => rfl))) (.dma sm) hsrc hdst hsem) k) Q) := by
  subst hoff
  have e := enq_out (thr d i) (m := m) (b := b) (sm := sm) (hsrc := hsrc) (hdst := hdst) (hsem := hsem) (Q := Q) (k := k) (N := N256 m) (r := Rect.unit (s := S8192x256) ![a, 0] S8x256.size hin) (hr := fun _ => rfl)
    (rows_sub (n := 8192) (m := 256) (h := 8) (by omega) hg hp (by omega) hin) (show 0 < S8x256.numel by decide) rfl (samp_out A B hw hg hp ha hin)
  exact e

/-- Waiting for the copies out of the trip before, if there was one. -/
theorem drain_on (d : Dev nD) (i : grid0.Coords) (g : Fin k0_t1_loop.trips) {m5 : Memref sig .scVector .hbm S8192x512 .f32} {m6 : Memref sig .scVector .hbm S8192x256 .f32}
    {cb : Memref sig .scVector .vmem S8x512 .f32} {hcb : cb.IsWhole} {sb : Memref sig .scVector .vmem S8x256 .f32} {hsb : sb.IsWhole} {cs ss : DmaSems sig S_}
    {R5 : Finset S8192x512.Idx} {R6 : Finset S8192x256.Idx} {C5 : S8192x512.Idx → Elt F .f32} {C6 : S8192x256.Idx → Elt F .f32}
    {O : CellTallies nD τ sig (HIx 1)} {W : Waits sig (HIx 1)} {Q : PUnit → sProp (MM F)} :
    iprop(chOut (thr d i) g.val m5 R5 C5 cb cs.sem (N512 m5) ∗ chOut (thr d i) g.val m6 R6 C6 sb ss.sem (N256 m6) ∗ owed (thr d i) O W ∗ Transfers.MayWaits (thr d i) none O)
      ⊢ iprop((idleOut (thr d i) m5 R5 (bdone g.val) C5 cb cs.sem ∗ idleOut (thr d i) m6 R6 (bdone g.val) C6 sb ss.sem ∗ owed (thr d i) O W -∗ Q ⟨⟩)
        -∗ wp frame (wpE (defs₀ (F := F)) 𝒱₀ (thr d i) none) Set.univ (drain i (Scf.iv 0#32 1#32 g.val) m5 m6 cb hcb sb hsb cs ss) Q) := by
  unfold drain chOut
  by_cases h : g.val = 0
  · rw [dif_neg (fun hl => (later_iff g).mp hl h), if_pos h, if_pos h]
    iintro ⟨H5, H6, HO, -⟩ Hk
    simp only [wp_pure]
    imodintro
    iapply Hk
    isplitl [H5]; · iexact H5
    isplitl [H6]; · iexact H6
    iexact HO
  · rw [dif_pos ((later_iff g).mpr h), if_neg h, if_neg h]
    simp only [wp_bind, Prog.bind_lift]
    iintro ⟨H5, H6, HO, #HM⟩ Hk
    iapply (wait_out (thr d i) rfl) $$ [H5 HO HM]
    · isplitl [H5]; · iexact H5
      isplitl [HO]; · iexact HO
      iexact HM
    iintro ⟨⟨%Y5, Hb5⟩, H5, Hs5, HO⟩
    iapply (wait_out (thr d i) rfl) $$ [H6 HO HM]
    · isplitl [H6]; · iexact H6
      isplitl [HO]; · iexact HO
      iexact HM
    iintro ⟨⟨%Y6, Hb6⟩, H6, Hs6, HO⟩
    simp only [wp_pure]
    imodintro
    iapply Hk
    unfold idleOut any
    isplitl [H5 Hb5 Hs5]
    · isplitl [H5]; · iexact H5
      isplitl [Hb5]
      · iexists _, _; iexact Hb5
      iexact Hs5
    isplitl [H6 Hb6 Hs6]
    · isplitl [H6]; · iexact H6
      isplitl [Hb6]
      · iexists _, _; iexact Hb6
      iexact Hs6
    iexact HO

/-- Starting the fetch of the next trip's even block, if there is a next trip. -/
theorem prefetch_on (d : Dev nD) (i : grid0.Coords) (g : Fin k0_t1_loop.trips) {m2 : Memref sig .scVector .hbm S8192x4104 .f32} {m3 : Memref sig .scVector .hbm S16384x128 .f32}
    {rb : Memref sig .scVector .vmem S8x4104 .f32} {hrb : rb.IsWhole} {eb : Memref sig .scVector .vmem S16x128 .f32} {heb : eb.IsWhole} {rs es : DmaSems sig S_}
    {fR : Buf (Elt F) (m2.view.loc (thr d i))} {fE : Buf (Elt F) (m3.view.loc (thr d i))} {A : S8192x4104.Idx → Elt F .f32} {B : S16384x128.Idx → Elt F .f32}
    (hA : m2.view.read (Elt F) fR = A) (hB : m3.view.read (Elt F) fE = B) {Q : PUnit → sProp (MM F)} :
    iprop(idleIn (thr d i) m2 (rgn 8192 4104 8 (wid i) 0) fR rb rs.sem ∗ idleIn (thr d i) m3 (rgn 16384 128 16 (wid i) 0) fE eb es.sem)
      ⊢ iprop((chIn (thr d i) (g.val + 1) m2 (rgn 8192 4104 8 (wid i) 0) fR rb rs.sem (Xb A (wid i) (2 * (g.val + 1)))
          ∗ chIn (thr d i) (g.val + 1) m3 (rgn 16384 128 16 (wid i) 0) fE eb es.sem (Nb B (wid i) (2 * (g.val + 1))) -∗ Q ⟨⟩)
        -∗ wp frame (wpE (defs₀ (F := F)) 𝒱₀ (thr d i) none) Set.univ (prefetch i g m2 m3 rb hrb eb heb rs es) Q) := by
  unfold prefetch chIn
  by_cases h : g.val + 1 < 16
  · rw [dif_pos ((more_iff g).mpr h), if_pos h, if_pos h]
    simp only [wp_bind, Prog.bind_lift]
    iintro ⟨H2, H3⟩ Hk
    iapply (raw_start d i hA h (by omega : (0 : Nat) < 2) (k0_off72_eq i g) (by unfold wid; omega)) $$ H2
    iintro H2
    iapply (eps_start d i hB h (by omega : (0 : Nat) < 2) (k0_off73_eq i g) (by unfold wid; omega)) $$ H3
    iintro H3
    simp only [wp_pure]
    imodintro
    iapply Hk
    isplitl [H2]; · iexact H2
    iexact H3
  · rw [dif_neg (fun hl => h ((more_iff g).mp hl)), if_neg h, if_neg h]
    iintro ⟨H2, H3⟩ Hk
    simp only [wp_pure]
    imodintro
    iapply Hk
    isplitl [H2]; · iexact H2
    iexact H3

/-- At the start no element is done. -/
theorem not_doneT {m : Nat} (y : (⟨2, ![8, m]⟩ : Shape).Idx) : ¬ doneT 0 0 y := by
  unfold doneT; omega

/-- What a tile holds before trip `g`. -/
def tripInv (d : Dev nD) (i : grid0.Coords) (arg2 : Memref sig .scVector .hbm S8192x4104 .f32) (arg3 : Memref sig .scVector .hbm S16384x128 .f32) (arg5 : Memref sig .scVector .hbm S8192x512 .f32) (arg6 : Memref sig .scVector .hbm S8192x256 .f32) (arg7 : Memref sig .scVector .vmem S16x128 .f32) (arg8 : Memref sig .scVector .vmem S272 .i32) (arg9 : Memref sig .scVector .vmem S8x4104 .f32) (arg10 : Memref sig .scVector .vmem S8x4104 .f32) (arg11 : Memref sig .scVector .vmem S8x512 .f32) (arg12 : Memref sig .scVector .vmem S8x512 .f32) (arg13 : Memref sig .scVector .vmem S8x256 .f32) (arg14 : Memref sig .scVector .vmem S8x256 .f32) (arg15 : Memref sig .scVector .vmem S16x128 .f32) (arg16 : Memref sig .scVector .vmem S16x128 .f32) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_)
    (fR : Buf (Elt F) (arg2.view.loc (thr d i))) (fE : Buf (Elt F) (arg3.view.loc (thr d i)))
    (A : S8192x4104.Idx → Elt F .f32) (B : S16384x128.Idx → Elt F .f32) (O : CellTallies nD τ sig (HIx 1)) (W : Waits sig (HIx 1)) (g : Nat) : sProp (MM F) :=
  iprop(chIn (thr d i) g arg2 (rgn 8192 4104 8 (wid i) 0) fR arg9 arg17.sem (Xb A (wid i) (2 * g))
    ∗ chIn (thr d i) g arg3 (rgn 16384 128 16 (wid i) 0) fE arg15 arg19.sem (Nb B (wid i) (2 * g))
    ∗ idleIn (thr d i) arg2 (rgn 8192 4104 8 (wid i) 1) fR arg10 arg18.sem
    ∗ idleIn (thr d i) arg3 (rgn 16384 128 16 (wid i) 1) fE arg16 arg20.sem
    ∗ chOut (thr d i) g arg5 (rgn 8192 512 8 (wid i) 0) (compG A) arg11 arg21.sem (N512 arg5)
    ∗ chOut (thr d i) g arg6 (rgn 8192 256 8 (wid i) 0) (sampG A B) arg13 arg23.sem (N256 arg6)
    ∗ chOut (thr d i) g arg5 (rgn 8192 512 8 (wid i) 1) (compG A) arg12 arg22.sem (N512 arg5)
    ∗ chOut (thr d i) g arg6 (rgn 8192 256 8 (wid i) 1) (sampG A B) arg14 arg24.sem (N256 arg6)
    ∗ holdsOn (thr d i) arg7 (pdone (2 * g) 0) (tabC (Gt A (wid i)))
    ∗ holdsOn (thr d i) arg8 (cdone (2 * g)) (chC (Gt A (wid i)))
    ∗ owed (thr d i) O W ∗ Transfers.MayWaits (thr d i) none O)

set_option maxHeartbeats 4000000 in
/-- One trip. -/
theorem trip_on (d : Dev nD) (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_)
    {fR : Buf (Elt F) (arg2.view.loc (thr d i))} {fE : Buf (Elt F) (arg3.view.loc (thr d i))}
    {A : S8192x4104.Idx → Elt F .f32} {B : S16384x128.Idx → Elt F .f32} (hA : arg2.view.read (Elt F) fR = A) (hB : arg3.view.read (Elt F) fE = B)
    {O : CellTallies nD τ sig (HIx 1)} {W : Waits sig (HIx 1)} (g : Fin k0_t1_loop.trips) {Q : BitVec 32 → sProp (MM F)} :
    tripInv d i arg2 arg3 arg5 arg6 arg7 arg8 arg9 arg10 arg11 arg12 arg13 arg14 arg15 arg16 arg17 arg18 arg19 arg20 arg21 arg22 arg23 arg24 fR fE A B O W g.val
      ⊢ iprop((∀ a, tripInv d i arg2 arg3 arg5 arg6 arg7 arg8 arg9 arg10 arg11 arg12 arg13 arg14 arg15 arg16 arg17 arg18 arg19 arg20 arg21 arg22 arg23 arg24 fR fE A B O W (g.val + 1) -∗ Q a)
        -∗ wp frame (wpE (defs₀ (F := F)) 𝒱₀ (thr d i) none) Set.univ (trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 g) Q) := by
  have hg : g.val < 16 := g.isLt
  unfold trip tripInv
  rw [show chIn (thr d i) g.val arg2 (rgn 8192 4104 8 (wid i) 0) fR arg9 arg17.sem (Xb A (wid i) (2 * g.val)) = _ from if_pos hg,
    show chIn (thr d i) g.val arg3 (rgn 16384 128 16 (wid i) 0) fE arg15 arg19.sem (Nb B (wid i) (2 * g.val)) = _ from if_pos hg]
  simp only [wp_bind, Prog.bind_lift]
  iintro ⟨E2, E3, D2, D3, H50, H60, H51, H61, HP, HC, HO, #HM⟩ Hk
  iapply (wait_in (thr d i)) $$ [E2 HO HM]
  · isplitl [E2]; · iexact E2
    isplitl [HO]; · iexact HO
    iexact HM
  iintro ⟨HX, E2, E2s, HO⟩
  simp only [wp_bind, Prog.bind_lift]
  iapply (wait_in (thr d i)) $$ [E3 HO HM]
  · isplitl [E3]; · iexact E3
    isplitl [HO]; · iexact HO
    iexact HM
  iintro ⟨HN, E3, E3s, HO⟩
  simp only [wp_bind, Prog.bind_lift]
  -- the odd block's fetch
  iapply (raw_start d i hA hg (by omega : (1 : Nat) < 2) (k0_off3_eq i g) (by unfold wid; omega)) $$ D2
  iintro D2
  simp only [wp_bind, Prog.bind_lift]
  iapply (eps_start d i hB hg (by omega : (1 : Nat) < 2) (k0_off4_eq i g) (by unfold wid; omega)) $$ D3
  iintro D3
  simp only [wp_bind, Prog.bind_lift]
  iapply (drain_on d i g) $$ [H50 H60 HO HM]
  · isplitl [H50]; · iexact H50
    isplitl [H60]; · iexact H60
    isplitl [HO]; · iexact HO
    iexact HM
  iintro ⟨H50, H60, HO⟩
  -- the block's components, chosen; its tokens
  iapply (selBlock_on (F := F) d i (rows := arg9) (probs := arg7) (cvals := arg8) (Xb A (wid i) (2 * g.val + 0)) (Gt A (wid i)) (nb := (2 * g.val + 0)) (by omega) _ (even_word g) (Xb_logit A (wid i) (2 * g.val + 0)) _ (k0_off5_inb g) ((k0_off5_eq g).trans (congrArg (fun z => ![z]) (by omega)))) $$ [HX HP HC]
  · isplitl [HX]; · iexact HX
    isplitl [HP]; · iexact HP
    iexact HC
  iintro ⟨HX, HP, HC⟩
  unfold idleOut any
  icases H50 with ⟨H50, ⟨%P5, %C5, Hb5⟩, Hs5⟩
  icases H60 with ⟨H60, ⟨%P6, %C6, Hb6⟩, Hs6⟩
  iapply (toks0_on (F := F) d i (rows := arg9) (ep := arg15) (comp := arg11) (samp := arg13) (cvals := arg8) (Xb A (wid i) (2 * g.val + 0)) (Nb B (wid i) (2 * g.val + 0)) (chb A (wid i) (2 * g.val + 0)) (cdone ((2 * g.val + 0) + 1)) (chC (Gt A (wid i)))
    (nb := (2 * g.val + 0)) (by omega) (chb_lt A _ _) _ (even_word g) (fun t ht => by show (8 * (2 * g.val + 0) + t) % 272 < 8 * ((2 * g.val + 0) + 1); omega) (chC_word A (by omega))) $$ [HX HN HC Hb5 Hb6]
  · isplitr [HC]
    · isplitl [HX]; · iexact HX
      isplitl [HN]; · iexact HN
      isplitl [Hb5]
      · iapply (holdsOn_mono (thr d i) arg11 fun y hy => ⟨absurd hy (not_doneT y), (hy.elim (fun h => absurd h (by omega)) fun h => absurd h.2 (by omega))⟩) $$ Hb5
      · iapply (holdsOn_mono (thr d i) arg13 fun y hy => ⟨absurd hy (not_doneT y), (hy.elim (fun h => absurd h (by omega)) fun h => absurd h.2 (by omega))⟩) $$ Hb6
    · iexact HC
  iintro %_a ⟨⟨HX, HN, Hb5, Hb6⟩, HC⟩
  iapply (comp_start d i A (g := g.val) (p := 0) (wid_lt i) hg (by omega) (k0_off70_eq i g) (by unfold wid; omega)) $$ [H50 Hb5 Hs5]
  · isplitl [H50]; · iexact H50
    isplitl [Hb5]; · iexact Hb5
    iexact Hs5
  iintro H50
  simp only [wp_bind, Prog.bind_lift]
  iapply (samp_start d i A B (g := g.val) (p := 0) (wid_lt i) hg (by omega) (k0_off71_eq i g) (by unfold wid; omega)) $$ [H60 Hb6 Hs6]
  · isplitl [H60]; · iexact H60
    isplitl [Hb6]; · iexact Hb6
    iexact Hs6
  iintro H60
  simp only [wp_bind, Prog.bind_lift]
  ihave E2' : idleIn (thr d i) arg2 (rgn 8192 4104 8 (wid i) 0) fR arg9 arg17.sem $$ [E2 E2s HX]
  · unfold idleIn any
    isplitl [E2]; · iexact E2
    isplitl [HX]
    · iexists _, _; iexact HX
    iexact E2s
  ihave E3' : idleIn (thr d i) arg3 (rgn 16384 128 16 (wid i) 0) fE arg15 arg19.sem $$ [E3 E3s HN]
  · unfold idleIn any
    isplitl [E3]; · iexact E3
    isplitl [HN]
    · iexists _, _; iexact HN
    iexact E3s
  iapply (wait_in (thr d i)) $$ [D2 HO HM]
  · isplitl [D2]; · iexact D2
    isplitl [HO]; · iexact HO
    iexact HM
  iintro ⟨HX, D2, D2s, HO⟩
  simp only [wp_bind, Prog.bind_lift]
  iapply (wait_in (thr d i)) $$ [D3 HO HM]
  · isplitl [D3]; · iexact D3
    isplitl [HO]; · iexact HO
    iexact HM
  iintro ⟨HN, D3, D3s, HO⟩
  simp only [wp_bind, Prog.bind_lift]
  iapply (prefetch_on d i g hA hB) $$ [E2' E3']
  · isplitl [E2']; · iexact E2'
    iexact E3'
  iintro ⟨E2, E3⟩
  iapply (drain_on d i g) $$ [H51 H61 HO HM]
  · isplitl [H51]; · iexact H51
    isplitl [H61]; · iexact H61
    isplitl [HO]; · iexact HO
    iexact HM
  iintro ⟨H51, H61, HO⟩
  -- the block's components, chosen; its tokens
  iapply (selBlock_on (F := F) d i (rows := arg10) (probs := arg7) (cvals := arg8) (Xb A (wid i) (2 * g.val + 1)) (Gt A (wid i)) (nb := (2 * g.val + 1)) (by omega) _ (odd_word g) (Xb_logit A (wid i) (2 * g.val + 1)) _ (k0_off74_inb g) ((k0_off74_eq g).trans (congrArg (fun z => ![z]) (by omega)))) $$ [HX HP HC]
  · isplitl [HX]; · iexact HX
    isplitl [HP]; · iexact HP
    iexact HC
  iintro ⟨HX, HP, HC⟩
  unfold idleOut any
  icases H51 with ⟨H51, ⟨%P5, %C5, Hb5⟩, Hs5⟩
  icases H61 with ⟨H61, ⟨%P6, %C6, Hb6⟩, Hs6⟩
  iapply (toks1_on (F := F) d i (rows := arg10) (ep := arg16) (comp := arg12) (samp := arg14) (cvals := arg8) (Xb A (wid i) (2 * g.val + 1)) (Nb B (wid i) (2 * g.val + 1)) (chb A (wid i) (2 * g.val + 1)) (cdone ((2 * g.val + 1) + 1)) (chC (Gt A (wid i)))
    (nb := (2 * g.val + 1)) (by omega) (chb_lt A _ _) _ (odd_word g) (fun t ht => by show (8 * (2 * g.val + 1) + t) % 272 < 8 * ((2 * g.val + 1) + 1); omega) (chC_word A (by omega))) $$ [HX HN HC Hb5 Hb6]
  · isplitr [HC]
    · isplitl [HX]; · iexact HX
      isplitl [HN]; · iexact HN
      isplitl [Hb5]
      · iapply (holdsOn_mono (thr d i) arg12 fun y hy => ⟨absurd hy (not_doneT y), (hy.elim (fun h => absurd h (by omega)) fun h => absurd h.2 (by omega))⟩) $$ Hb5
      · iapply (holdsOn_mono (thr d i) arg14 fun y hy => ⟨absurd hy (not_doneT y), (hy.elim (fun h => absurd h (by omega)) fun h => absurd h.2 (by omega))⟩) $$ Hb6
    · iexact HC
  iintro %_a ⟨⟨HX, HN, Hb5, Hb6⟩, HC⟩
  iapply (comp_start d i A (g := g.val) (p := 1) (wid_lt i) hg (by omega) (k0_off139_eq i g) (by unfold wid; omega)) $$ [H51 Hb5 Hs5]
  · isplitl [H51]; · iexact H51
    isplitl [Hb5]; · iexact Hb5
    iexact Hs5
  iintro H51
  simp only [wp_bind, Prog.bind_lift]
  iapply (samp_start d i A B (g := g.val) (p := 1) (wid_lt i) hg (by omega) (k0_off140_eq i g) (by unfold wid; omega)) $$ [H61 Hb6 Hs6]
  · isplitl [H61]; · iexact H61
    isplitl [Hb6]; · iexact Hb6
    iexact Hs6
  iintro H61
  simp only [wp_pure]
  imodintro
  iapply Hk
  isplitl [E2]; · iexact E2
  isplitl [E3]; · iexact E3
  isplitl [D2 D2s HX]
  · unfold idleIn any
    isplitl [D2]; · iexact D2
    isplitl [HX]
    · iexists _, _; iexact HX
    iexact D2s
  isplitl [D3 D3s HN]
  · unfold idleIn any
    isplitl [D3]; · iexact D3
    isplitl [HN]
    · iexists _, _; iexact HN
    iexact D3s
  isplitl [H50]; · iexact H50
  isplitl [H60]; · iexact H60
  isplitl [H51]; · iexact H51
  isplitl [H61]; · iexact H61
  isplitl [HP]; · iexact HP
  isplitl [HC]; · iexact HC
  isplitl [HO]; · iexact HO
  iexact HM

set_option maxHeartbeats 4000000 in
/-- The sixteen trips. -/
theorem trips_on (d : Dev nD) (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_)
    {fR : Buf (Elt F) (arg2.view.loc (thr d i))} {fE : Buf (Elt F) (arg3.view.loc (thr d i))}
    {A : S8192x4104.Idx → Elt F .f32} {B : S16384x128.Idx → Elt F .f32} (hA : arg2.view.read (Elt F) fR = A) (hB : arg3.view.read (Elt F) fE = B)
    {O : CellTallies nD τ sig (HIx 1)} {W : Waits sig (HIx 1)} {Q : BitVec 32 → sProp (MM F)} :
    tripInv d i arg2 arg3 arg5 arg6 arg7 arg8 arg9 arg10 arg11 arg12 arg13 arg14 arg15 arg16 arg17 arg18 arg19 arg20 arg21 arg22 arg23 arg24 fR fE A B O W 0
      ⊢ iprop((∀ a, tripInv d i arg2 arg3 arg5 arg6 arg7 arg8 arg9 arg10 arg11 arg12 arg13 arg14 arg15 arg16 arg17 arg18 arg19 arg20 arg21 arg22 arg23 arg24 fR fE A B O W 16 -∗ Q a)
        -∗ wp frame (wpE (defs₀ (F := F)) 𝒱₀ (thr d i) none) Set.univ (Scf.Loop.for k0_t1_loop k0_t1_ok 0#32 fun g _ => trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 g) Q) := by
  iintro H Hk
  iapply (Scf.wp_for frame (wpE (defs₀ (F := F)) 𝒱₀ (thr d i) none) Set.univ _ _ _ k0_t1_ok 0#32
    (fun g _ => trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 g)
    (fun n _ => tripInv d i arg2 arg3 arg5 arg6 arg7 arg8 arg9 arg10 arg11 arg12 arg13 arg14 arg15 arg16 arg17 arg18 arg19 arg20 arg21 arg22 arg23 arg24 fR fE A B O W n) ?_)
  · intro g _
    have step := trip_on d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 hA hB (O := O) (W := W) g (Q := fun _ => tripInv d i arg2 arg3 arg5 arg6 arg7 arg8 arg9 arg10 arg11 arg12 arg13 arg14 arg15 arg16 arg17 arg18 arg19 arg20 arg21 arg22 arg23 arg24 fR fE A B O W (g.val + 1))
    iintro H
    iapply step $$ H
    iintro %a H; iexact H
  · isplitl [H]
    · iexact H
    · iexact Hk

/-- What a tile starts from: its parts of the arrays, its buffers and its semaphores. -/
def tileIn (d : Dev nD) (i : grid0.Coords) (arg2 : Memref sig .scVector .hbm S8192x4104 .f32) (arg3 : Memref sig .scVector .hbm S16384x128 .f32) (arg4 : Memref sig .scVector .hbm S512x128 .f32) (arg5 : Memref sig .scVector .hbm S8192x512 .f32) (arg6 : Memref sig .scVector .hbm S8192x256 .f32) (arg7 : Memref sig .scVector .vmem S16x128 .f32) (arg8 : Memref sig .scVector .vmem S272 .i32) (arg9 : Memref sig .scVector .vmem S8x4104 .f32) (arg10 : Memref sig .scVector .vmem S8x4104 .f32) (arg11 : Memref sig .scVector .vmem S8x512 .f32) (arg12 : Memref sig .scVector .vmem S8x512 .f32) (arg13 : Memref sig .scVector .vmem S8x256 .f32) (arg14 : Memref sig .scVector .vmem S8x256 .f32) (arg15 : Memref sig .scVector .vmem S16x128 .f32) (arg16 : Memref sig .scVector .vmem S16x128 .f32) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_)
    (fR : Buf (Elt F) (arg2.view.loc (thr d i))) (fE : Buf (Elt F) (arg3.view.loc (thr d i)))
    (A : S8192x4104.Idx → Elt F .f32) (B : S16384x128.Idx → Elt F .f32) : sProp (MM F) :=
  iprop(idleIn (thr d i) arg2 (rgn 8192 4104 8 (wid i) 0) fR arg9 arg17.sem
    ∗ idleIn (thr d i) arg3 (rgn 16384 128 16 (wid i) 0) fE arg15 arg19.sem
    ∗ idleIn (thr d i) arg2 (rgn 8192 4104 8 (wid i) 1) fR arg10 arg18.sem
    ∗ idleIn (thr d i) arg3 (rgn 16384 128 16 (wid i) 1) fE arg16 arg20.sem
    ∗ idleOut (thr d i) arg5 (rgn 8192 512 8 (wid i) 0) (fun _ => False) (compG A) arg11 arg21.sem
    ∗ idleOut (thr d i) arg6 (rgn 8192 256 8 (wid i) 0) (fun _ => False) (sampG A B) arg13 arg23.sem
    ∗ idleOut (thr d i) arg5 (rgn 8192 512 8 (wid i) 1) (fun _ => False) (compG A) arg12 arg22.sem
    ∗ idleOut (thr d i) arg6 (rgn 8192 256 8 (wid i) 1) (fun _ => False) (sampG A B) arg14 arg24.sem
    ∗ idleOut (thr d i) arg4 (rgnP (wid i)) (fun _ => False) (tabG A) arg7 v25_r0.sem
    ∗ any (thr d i) arg8)

/-- What a tile ends with: the same, its parts of the three results written. -/
def tileOut (d : Dev nD) (i : grid0.Coords) (arg2 : Memref sig .scVector .hbm S8192x4104 .f32) (arg3 : Memref sig .scVector .hbm S16384x128 .f32) (arg4 : Memref sig .scVector .hbm S512x128 .f32) (arg5 : Memref sig .scVector .hbm S8192x512 .f32) (arg6 : Memref sig .scVector .hbm S8192x256 .f32) (arg7 : Memref sig .scVector .vmem S16x128 .f32) (arg8 : Memref sig .scVector .vmem S272 .i32) (arg9 : Memref sig .scVector .vmem S8x4104 .f32) (arg10 : Memref sig .scVector .vmem S8x4104 .f32) (arg11 : Memref sig .scVector .vmem S8x512 .f32) (arg12 : Memref sig .scVector .vmem S8x512 .f32) (arg13 : Memref sig .scVector .vmem S8x256 .f32) (arg14 : Memref sig .scVector .vmem S8x256 .f32) (arg15 : Memref sig .scVector .vmem S16x128 .f32) (arg16 : Memref sig .scVector .vmem S16x128 .f32) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_)
    (fR : Buf (Elt F) (arg2.view.loc (thr d i))) (fE : Buf (Elt F) (arg3.view.loc (thr d i)))
    (A : S8192x4104.Idx → Elt F .f32) (B : S16384x128.Idx → Elt F .f32) : sProp (MM F) :=
  iprop(idleIn (thr d i) arg2 (rgn 8192 4104 8 (wid i) 0) fR arg9 arg17.sem
    ∗ idleIn (thr d i) arg3 (rgn 16384 128 16 (wid i) 0) fE arg15 arg19.sem
    ∗ idleIn (thr d i) arg2 (rgn 8192 4104 8 (wid i) 1) fR arg10 arg18.sem
    ∗ idleIn (thr d i) arg3 (rgn 16384 128 16 (wid i) 1) fE arg16 arg20.sem
    ∗ idleOut (thr d i) arg5 (rgn 8192 512 8 (wid i) 0) (fun _ => True) (compG A) arg11 arg21.sem
    ∗ idleOut (thr d i) arg6 (rgn 8192 256 8 (wid i) 0) (fun _ => True) (sampG A B) arg13 arg23.sem
    ∗ idleOut (thr d i) arg5 (rgn 8192 512 8 (wid i) 1) (fun _ => True) (compG A) arg12 arg22.sem
    ∗ idleOut (thr d i) arg6 (rgn 8192 256 8 (wid i) 1) (fun _ => True) (sampG A B) arg14 arg24.sem
    ∗ idleOut (thr d i) arg4 (rgnP (wid i)) (fun _ => True) (tabG A) arg7 v25_r0.sem
    ∗ any (thr d i) arg8)

/-- Knowing less of a part. -/
theorem idleOut_mono (c : Thread nD τ) {s : Shape} {e : EltTy} {m : Memref sig c.2.kind .hbm s e} {R : Finset s.Idx} {P P' : s.Idx → Prop} {C : s.Idx → Elt F e} {t : Shape}
    {b : Memref sig c.2.kind .vmem t e} {sm : DmaSem sig} (h : ∀ y ∈ R, P' y → P y) : idleOut c m R P C b sm ⊢ idleOut c m R P' C b sm := by
  unfold idleOut partOn
  iintro ⟨⟨%f, %hf, Hm⟩, H⟩
  isplitl [Hm]
  · iexists f
    isplitr
    · ipureintro; exact fun y hy hp => hf y hy (h y hy hp)
    · iexact Hm
  · iexact H

/-- Before the first trip, none of a part is known. -/
theorem idleOut_zero (c : Thread nD τ) {n k : Nat} {e : EltTy} {m : Memref sig c.2.kind .hbm ⟨2, ![n, k]⟩ e} {R : Finset (⟨2, ![n, k]⟩ : Shape).Idx} {C : (⟨2, ![n, k]⟩ : Shape).Idx → Elt F e} {t : Shape}
    {b : Memref sig c.2.kind .vmem t e} {sm : DmaSem sig} : idleOut c m R (fun _ => False) C b sm ⊢ idleOut c m R (bdone 0) C b sm :=
  idleOut_mono c fun y _ hy => absurd hy (by unfold bdone; omega)

/-- An idle copy out, in parts. -/
theorem idleOut_elim (c : Thread nD τ) {s : Shape} {e : EltTy} {m : Memref sig c.2.kind .hbm s e} {R : Finset s.Idx} {P : s.Idx → Prop} {C : s.Idx → Elt F e} {t : Shape}
    {b : Memref sig c.2.kind .vmem t e} {sm : DmaSem sig} : idleOut c m R P C b sm ⊢ iprop(partOn c m R P C ∗ (∃ P C, holdsOn c b P C) ∗ semVal (c, .dma sm) 0) := Entails.refl _

/-- A buffer with some contents, in parts. -/
theorem any_elim (c : Thread nD τ) {e : EltTy} {t : Shape} {b : Memref sig c.2.kind .vmem t e} : (any c b : sProp (MM F)) ⊢ iprop(∃ P C, holdsOn c b P C) := Entails.refl _

/-- The blocks of sixteen trips are all there are. -/
theorem bdone_all {n m : Nat} (y : (⟨2, ![n, m]⟩ : Shape).Idx) : bdone 16 y := by
  unfold bdone; omega

/-- What a copy out of the table counts. -/
abbrev N128 (m : Memref sig .scVector .hbm S512x128 .f32) : Nat :=
  (m.slice (Rect.unit (s := S512x128) ![0, 0] S16x128.size (by decide)) (fun _ => rfl)).view.dmaCredit

/-- Starting the copy out of the table of probabilities. -/
theorem enq_tab (d : Dev nD) (i : grid0.Coords) {m : Memref sig .scVector .hbm S512x128 .f32}
    {b : Memref sig .scVector .vmem S16x128 .f32} {sm : DmaSem sig} (A : S8192x4104.Idx → Elt F .f32)
    {off : Fin 2 → Nat} (hoff : off = ![32 * (i 1).val + 16 * (i 0).val, 0])
    {hin : ∀ x, off x + S16x128.size x ≤ S512x128.size x} {hsrc : b.view.WordExact} {hdst : (m.slice (Rect.unit (s := S512x128) off S16x128.size hin) (fun _ => rfl)).view.WordExact}
    {hsem : DmaTarget.Typed (nD := nD) (p := (thr d i).2) .vmem (.dma sm) (.here (m.slice (Rect.unit (s := S512x128) off S16x128.size hin) (fun _ => rfl)))}
    {α : Type} {Q : α → sProp (MM F)} {k : PUnit → Prog (TpuEff nD τ sig (Elt F) Λ₀ (thr d i).2) α} :
    iprop(partOn (thr d i) m (rgnP (wid i)) (fun _ => False) (tabG A) ∗ holdsOn (thr d i) b (pdone (2 * 16) 0) (tabC (Gt A (wid i))) ∗ semVal (thr d i, .dma sm) 0)
      ⊢ iprop((outb (thr d i) m (rgnP (wid i)) (fun _ => True) (tabG A) b sm (N128 m) -∗ wp frame (wpE (defs₀ (F := F)) 𝒱₀ (thr d i) none) Set.univ (k ⟨⟩) Q)
        -∗ wp frame (wpE (defs₀ (F := F)) 𝒱₀ (thr d i) none) Set.univ (.op (.enqueueDma b (.here (m.slice (Rect.unit (s := S512x128) off S16x128.size hin) (fun _ => rfl))) (.dma sm) hsrc hdst hsem) k) Q) := by
  subst hoff
  have e := enq_out (thr d i) (m := m) (b := b) (sm := sm) (hsrc := hsrc) (hdst := hdst) (hsem := hsem) (Q := Q) (k := k) (N := N128 m) (r := Rect.unit (s := S512x128) ![32 * (i 1).val + 16 * (i 0).val, 0] S16x128.size hin) (hr := fun _ => rfl)
    (tab_sub (w := wid i) (by unfold wid; omega) hin) (show 0 < S16x128.numel by decide) rfl (tab_out A (wid_lt i) (by unfold wid; omega) hin)
  exact e

/-- One tile. -/
theorem tile_on (d : Dev nD) (i : grid0.Coords) (arg2 : Memref sig .scVector .hbm S8192x4104 .f32) (harg2 : arg2.IsWhole) (arg3 : Memref sig .scVector .hbm S16384x128 .f32) (harg3 : arg3.IsWhole) (arg4 : Memref sig .scVector .hbm S512x128 .f32) (harg4 : arg4.IsWhole) (arg5 : Memref sig .scVector .hbm S8192x512 .f32) (harg5 : arg5.IsWhole) (arg6 : Memref sig .scVector .hbm S8192x256 .f32) (harg6 : arg6.IsWhole) (arg7 : Memref sig .scVector .vmem S16x128 .f32) (harg7 : arg7.IsWhole) (arg8 : Memref sig .scVector .vmem S272 .i32) (harg8 : arg8.IsWhole) (arg9 : Memref sig .scVector .vmem S8x4104 .f32) (harg9 : arg9.IsWhole) (arg10 : Memref sig .scVector .vmem S8x4104 .f32) (harg10 : arg10.IsWhole) (arg11 : Memref sig .scVector .vmem S8x512 .f32) (harg11 : arg11.IsWhole) (arg12 : Memref sig .scVector .vmem S8x512 .f32) (harg12 : arg12.IsWhole) (arg13 : Memref sig .scVector .vmem S8x256 .f32) (harg13 : arg13.IsWhole) (arg14 : Memref sig .scVector .vmem S8x256 .f32) (harg14 : arg14.IsWhole) (arg15 : Memref sig .scVector .vmem S16x128 .f32) (harg15 : arg15.IsWhole) (arg16 : Memref sig .scVector .vmem S16x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (v25_r0 : DmaSems sig S_)
    {fR : Buf (Elt F) (arg2.view.loc (thr d i))} {fE : Buf (Elt F) (arg3.view.loc (thr d i))}
    {A : S8192x4104.Idx → Elt F .f32} {B : S16384x128.Idx → Elt F .f32} (hA : arg2.view.read (Elt F) fR = A) (hB : arg3.view.read (Elt F) fE = B)
    {O : CellTallies nD τ sig (HIx 1)} {W : Waits sig (HIx 1)} {Q : PUnit → sProp (MM F)} :
    iprop(tileIn d i arg2 arg3 arg4 arg5 arg6 arg7 arg8 arg9 arg10 arg11 arg12 arg13 arg14 arg15 arg16 arg17 arg18 arg19 arg20 arg21 arg22 arg23 arg24 v25_r0 fR fE A B ∗ owed (thr d i) O W ∗ Transfers.MayWaits (thr d i) none O)
      ⊢ iprop((tileOut d i arg2 arg3 arg4 arg5 arg6 arg7 arg8 arg9 arg10 arg11 arg12 arg13 arg14 arg15 arg16 arg17 arg18 arg19 arg20 arg21 arg22 arg23 arg24 v25_r0 fR fE A B ∗ owed (thr d i) O W -∗ Q ⟨⟩)
        -∗ wp frame (wpE (defs₀ (F := F)) 𝒱₀ (thr d i) none) Set.univ (tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0) Q) := by
  unfold tile tileIn
  simp only [wp_bind, Prog.bind_lift]
  iintro ⟨⟨E2, E3, D2, D3, H50, H60, H51, H61, H4, H8⟩, HO, #HM⟩ Hk
  iapply (raw_start d i hA (by omega : (0 : Nat) < 16) (by omega : (0 : Nat) < 2) (k0_off1_eq i) (by unfold wid; omega)) $$ E2
  iintro E2
  simp only [wp_bind, Prog.bind_lift]
  iapply (eps_start d i hB (by omega : (0 : Nat) < 16) (by omega : (0 : Nat) < 2) (k0_off2_eq i) (by unfold wid; omega)) $$ E3
  iintro E3
  simp only [wp_bind, Prog.bind_lift]
  ihave H4 := (idleOut_elim (thr d i)) $$ H4
  icases H4 with ⟨H4, ⟨%P7, %C7, H7⟩, Hs4⟩
  ihave H8 := (any_elim (thr d i)) $$ H8
  icases H8 with ⟨%P8, %C8, H8⟩
  iapply (trips_on d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 v25_r0 hA hB (O := O) (W := W)) $$ [E2 E3 D2 D3 H50 H60 H51 H61 H7 H8 HO]
  · unfold tripInv chIn chOut
    simp only [show (0 : Nat) < 16 by omega, ↓reduceIte]
    isplitl [E2]; · iexact E2
    isplitl [E3]; · iexact E3
    isplitl [D2]; · iexact D2
    isplitl [D3]; · iexact D3
    isplitl [H50]; · iapply (idleOut_zero (thr d i)) $$ H50
    isplitl [H60]; · iapply (idleOut_zero (thr d i)) $$ H60
    isplitl [H51]; · iapply (idleOut_zero (thr d i)) $$ H51
    isplitl [H61]; · iapply (idleOut_zero (thr d i)) $$ H61
    isplitl [H7]
    · iapply (holdsOn_mono (thr d i) arg7 fun y hy => absurd hy (by unfold pdone; omega)) $$ H7
    isplitl [H8]
    · iapply (holdsOn_mono (thr d i) arg8 fun y hy => absurd hy (by unfold cdone; omega)) $$ H8
    isplitl [HO]; · iexact HO
    iexact HM
  iintro %_a
  unfold tripInv chIn chOut
  simp only [show ¬ (16 : Nat) < 16 by omega, show ¬ (16 : Nat) = 0 by omega, ↓reduceIte]
  iintro ⟨E2, E3, D2, D3, H50, H60, H51, H61, H7, H8, HO, -⟩
  iapply (wait_out (thr d i) rfl) $$ [H50 HO HM]
  · isplitl [H50]; · iexact H50
    isplitl [HO]; · iexact HO
    iexact HM
  iintro ⟨⟨%YH50, H50b⟩, H50, H50s, HO⟩
  simp only [wp_bind, Prog.bind_lift]
  iapply (wait_out (thr d i) rfl) $$ [H60 HO HM]
  · isplitl [H60]; · iexact H60
    isplitl [HO]; · iexact HO
    iexact HM
  iintro ⟨⟨%YH60, H60b⟩, H60, H60s, HO⟩
  simp only [wp_bind, Prog.bind_lift]
  iapply (wait_out (thr d i) rfl) $$ [H51 HO HM]
  · isplitl [H51]; · iexact H51
    isplitl [HO]; · iexact HO
    iexact HM
  iintro ⟨⟨%YH51, H51b⟩, H51, H51s, HO⟩
  simp only [wp_bind, Prog.bind_lift]
  iapply (wait_out (thr d i) rfl) $$ [H61 HO HM]
  · isplitl [H61]; · iexact H61
    isplitl [HO]; · iexact HO
    iexact HM
  iintro ⟨⟨%YH61, H61b⟩, H61, H61s, HO⟩
  simp only [wp_bind, Prog.bind_lift]
  iapply (enq_tab d i A (k0_off141_eq i)) $$ [H4 H7 Hs4]
  · isplitl [H4]; · iexact H4
    isplitl [H7]; · iexact H7
    iexact Hs4
  iintro H4
  iapply (wait_out (thr d i) rfl) $$ [H4 HO HM]
  · isplitl [H4]; · iexact H4
    isplitl [HO]; · iexact HO
    iexact HM
  iintro ⟨⟨%Y7, H7⟩, H4, Hs4, HO⟩
  simp only [wp_pure]
  imodintro
  iapply Hk
  isplitr [HO]
  · unfold tileOut
    isplitl [E2]; · iexact E2
    isplitl [E3]; · iexact E3
    isplitl [D2]; · iexact D2
    isplitl [D3]; · iexact D3
    isplitl [H50 H50b H50s]
    · iapply (idleOut_mono (thr d i) fun y _ _ => bdone_all y)
      unfold idleOut any
      isplitl [H50]; · iexact H50
      isplitl [H50b]
      · iexists _, _; iexact H50b
      iexact H50s
    isplitl [H60 H60b H60s]
    · iapply (idleOut_mono (thr d i) fun y _ _ => bdone_all y)
      unfold idleOut any
      isplitl [H60]; · iexact H60
      isplitl [H60b]
      · iexists _, _; iexact H60b
      iexact H60s
    isplitl [H51 H51b H51s]
    · iapply (idleOut_mono (thr d i) fun y _ _ => bdone_all y)
      unfold idleOut any
      isplitl [H51]; · iexact H51
      isplitl [H51b]
      · iexists _, _; iexact H51b
      iexact H51s
    isplitl [H61 H61b H61s]
    · iapply (idleOut_mono (thr d i) fun y _ _ => bdone_all y)
      unfold idleOut any
      isplitl [H61]; · iexact H61
      isplitl [H61b]
      · iexists _, _; iexact H61b
      iexact H61s
    isplitl [H4 H7 Hs4]
    · unfold idleOut any
      isplitl [H4]; · iexact H4
      isplitl [H7]
      · iexists _, _; iexact H7
      iexact Hs4
    unfold any
    iexists _, _; iexact H8
  · iexact HO

end Cert.Proof.Mix
-- ==== Proof.Launch.lean ====
/-
  The launch: the two arguments and the three results dealt to the thirty-two tiles and gathered again, the reshape after
  it, and so the run of the whole program.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The launch's side conditions hold of the printed program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays, whole and in the tiles' parts -/

/-- Where the raw parameters lie. -/
abbrev rawLoc (d : Dev nD) : Loc nD τ sig := (SparseCore.T d).loc main_arg0
/-- Where the noise lies. -/
abbrev epsLoc (d : Dev nD) : Loc nD τ sig := (SparseCore.T d).loc main_arg1
/-- Where the table of probabilities lies, sixteen tokens a row. -/
abbrev tabLoc (d : Dev nD) : Loc nD τ sig := (SparseCore.T d).loc main_v0_0
/-- Where the chosen components lie. -/
abbrev cmpLoc (d : Dev nD) : Loc nD τ sig := (SparseCore.T d).loc main_v0_1
/-- Where the samples lie. -/
abbrev smpLoc (d : Dev nD) : Loc nD τ sig := (SparseCore.T d).loc main_v0_2
/-- Where the probabilities lie, a token a row. -/
abbrev outLoc (d : Dev nD) : Loc nD τ sig := (SparseCore.T d).loc main_v1

/-- The contents of the two arguments and the three results. -/
structure Five (F : FTy → Type) where
  raw : S8192x4104.Idx → Elt F .f32
  eps : S16384x128.Idx → Elt F .f32
  cmp : S8192x512.Idx → Elt F .f32
  smp : S8192x256.Idx → Elt F .f32
  tab : S512x128.Idx → Elt F .f32

/-- The five arrays, whole. -/
def allP (d : Dev nD) (x : Five F) : sProp (MM F) :=
  iprop((rawLoc d ↦{fullShare} x.raw) ∗ (epsLoc d ↦{fullShare} x.eps) ∗ (cmpLoc d ↦{fullShare} x.cmp) ∗ (smpLoc d ↦{fullShare} x.smp) ∗ (tabLoc d ↦{fullShare} x.tab))

/-- Tile `w`'s parts of them. -/
def pieceP (d : Dev nD) (w : Nat) (x : Five F) : sProp (MM F) :=
  iprop(((rawLoc d ↦[rgn 8192 4104 8 w 0]{fullShare} x.raw) ∗ (rawLoc d ↦[rgn 8192 4104 8 w 1]{fullShare} x.raw))
    ∗ ((epsLoc d ↦[rgn 16384 128 16 w 0]{fullShare} x.eps) ∗ (epsLoc d ↦[rgn 16384 128 16 w 1]{fullShare} x.eps))
    ∗ ((cmpLoc d ↦[rgn 8192 512 8 w 0]{fullShare} x.cmp) ∗ (cmpLoc d ↦[rgn 8192 512 8 w 1]{fullShare} x.cmp))
    ∗ ((smpLoc d ↦[rgn 8192 256 8 w 0]{fullShare} x.smp) ∗ (smpLoc d ↦[rgn 8192 256 8 w 1]{fullShare} x.smp))
    ∗ (tabLoc d ↦[rgnP w]{fullShare} x.tab))

/-- A tile's part may be carried by a handshake. -/
instance pieceP_storable (d : Dev nD) (w : Nat) (x : Five F) : BI.Storable (upEmb : UEmb _ (MM F)) (pieceP d w x) := by
  unfold pieceP; infer_instance

/-- Two parts of the tiles' blocks by parity have no element in common. -/
theorem rgn_disj {n m h : Nat} : ∀ a ∈ (Finset.univ : Finset (Fin 2 × Fin 16 × Fin 2)), ∀ b ∈ (Finset.univ : Finset (Fin 2 × Fin 16 × Fin 2)), a ≠ b →
    Disjoint (rgn n m h (2 * a.2.1.val + a.1.val) a.2.2.val) (rgn n m h (2 * b.2.1.val + b.1.val) b.2.2.val) := by
  rintro ⟨a, b, c⟩ - ⟨a', b', c'⟩ - hne
  refine Finset.disjoint_left.mpr fun y h1 h2 => hne ?_
  rw [mem_rgn] at h1 h2
  have e1 : 2 * b.val + a.val = 2 * b'.val + a'.val := h1.1.symm.trans h2.1
  have e2 : c.val = c'.val := h1.2.symm.trans h2.2
  have l1 := a.isLt
  have l2 := a'.isLt
  exact Prod.ext (Fin.ext (by show a.val = a'.val; omega)) (Prod.ext (Fin.ext (by show b.val = b'.val; omega)) (Fin.ext e2))

/-- Together they are everything. -/
theorem rgn_cover {n m h : Nat} (hh : h = 8 ∨ h = 16) (hn : n = 1024 * h) :
    (Finset.univ : Finset (Fin 2 × Fin 16 × Fin 2)).biUnion (fun a => rgn n m h (2 * a.2.1.val + a.1.val) a.2.2.val) = Finset.univ := by
  refine Finset.eq_univ_iff_forall.mpr fun y => Finset.mem_biUnion.mpr ?_
  have b0 : (y 0).val < n := (y 0).isLt
  have hw : (y 0).val / (32 * h) < 32 := by rcases hh with rfl | rfl <;> omega
  refine ⟨(⟨(y 0).val / (32 * h) % 2, by omega⟩, ⟨(y 0).val / (32 * h) / 2, by omega⟩, ⟨(y 0).val / h % 2, by omega⟩), Finset.mem_univ _, ?_⟩
  rw [mem_rgn]
  refine ⟨?_, rfl⟩
  show _ = 2 * ((y 0).val / (32 * h) / 2) + (y 0).val / (32 * h) % 2
  omega

/-- Two tiles' rows of the table have no element in common. -/
theorem rgnP_disj : ∀ a ∈ (Finset.univ : Finset (Fin 2 × Fin 16)), ∀ b ∈ (Finset.univ : Finset (Fin 2 × Fin 16)), a ≠ b →
    Disjoint (rgnP (2 * a.2.val + a.1.val)) (rgnP (2 * b.2.val + b.1.val)) := by
  rintro ⟨a, b⟩ - ⟨a', b'⟩ - hne
  refine Finset.disjoint_left.mpr fun y h1 h2 => hne ?_
  rw [mem_rgnP] at h1 h2
  have e1 : 2 * b.val + a.val = 2 * b'.val + a'.val := h1.symm.trans h2
  have l1 := a.isLt
  have l2 := a'.isLt
  exact Prod.ext (Fin.ext (by show a.val = a'.val; omega)) (Fin.ext (by show b.val = b'.val; omega))

/-- Together they are the whole table. -/
theorem rgnP_cover : (Finset.univ : Finset (Fin 2 × Fin 16)).biUnion (fun a => rgnP (2 * a.2.val + a.1.val)) = Finset.univ := by
  refine Finset.eq_univ_iff_forall.mpr fun y => Finset.mem_biUnion.mpr ?_
  have b0 : (y 0).val < 512 := (y 0).isLt
  refine ⟨(⟨(y 0).val / 16 % 2, by omega⟩, ⟨(y 0).val / 16 / 2, by omega⟩), Finset.mem_univ _, ?_⟩
  rw [mem_rgnP]
  show _ = 2 * ((y 0).val / 16 / 2) + (y 0).val / 16 % 2
  omega

/-- An array in sixty-four parts. -/
theorem deal (ℓ : Loc nD τ sig) (R : Fin 2 × Fin 16 × Fin 2 → Finset ℓ.ty.shape.Idx) (f : Buf (Elt F) ℓ)
    (hd : ∀ a ∈ (Finset.univ : Finset (Fin 2 × Fin 16 × Fin 2)), ∀ b ∈ (Finset.univ : Finset (Fin 2 × Fin 16 × Fin 2)), a ≠ b → Disjoint (R a) (R b))
    (hc : Finset.univ.biUnion R = Finset.univ) :
    (ℓ ↦{fullShare} f : sProp (MM F)) = bigSep Finset.univ fun c : Fin 2 => bigSep Finset.univ fun j : Fin 16 =>
      iprop((ℓ ↦[R (c, j, 0)]{fullShare} f) ∗ (ℓ ↦[R (c, j, 1)]{fullShare} f)) := by
  have e : (ℓ ↦{fullShare} f : sProp (MM F)) = bigSep Finset.univ fun a => ℓ ↦[R a]{fullShare} f := by
    rw [← pointsTo_biUnion Finset.univ (ℓ := ℓ) R hd, hc]
  rw [e, ← Finset.univ_product_univ, SparseCore.bigSep_product]
  refine bigSep_congr fun c _ => ?_
  rw [← Finset.univ_product_univ, SparseCore.bigSep_product]
  refine bigSep_congr fun j _ => ?_
  rw [show (Finset.univ : Finset (Fin 2)) = {0, 1} by decide, SparseCore.bigSep_insert' (by decide), bigSep_singleton]

/-- The table in thirty-two parts. -/
theorem dealP (ℓ : Loc nD τ sig) (R : Fin 2 × Fin 16 → Finset ℓ.ty.shape.Idx) (f : Buf (Elt F) ℓ)
    (hd : ∀ a ∈ (Finset.univ : Finset (Fin 2 × Fin 16)), ∀ b ∈ (Finset.univ : Finset (Fin 2 × Fin 16)), a ≠ b → Disjoint (R a) (R b))
    (hc : Finset.univ.biUnion R = Finset.univ) :
    (ℓ ↦{fullShare} f : sProp (MM F)) = bigSep Finset.univ fun c : Fin 2 => bigSep Finset.univ fun j : Fin 16 => (ℓ ↦[R (c, j)]{fullShare} f) := by
  have e : (ℓ ↦{fullShare} f : sProp (MM F)) = bigSep Finset.univ fun a => ℓ ↦[R a]{fullShare} f := by
    rw [← pointsTo_biUnion Finset.univ (ℓ := ℓ) R hd, hc]
  rw [e, ← Finset.univ_product_univ, SparseCore.bigSep_product]

/-- The five arrays whole are the tiles' parts of them. -/
theorem all_pieces (d : Dev nD) (x : Five F) :
    allP d x = bigSep Finset.univ fun c : Fin 2 => bigSep Finset.univ fun j : Fin 16 => pieceP d (2 * j.val + c.val) x := by
  unfold allP pieceP
  rw [deal (rawLoc d) (fun a => rgn 8192 4104 8 (2 * a.2.1.val + a.1.val) a.2.2.val) x.raw rgn_disj (rgn_cover (by omega) (by omega)),
    deal (epsLoc d) (fun a => rgn 16384 128 16 (2 * a.2.1.val + a.1.val) a.2.2.val) x.eps rgn_disj (rgn_cover (by omega) (by omega)),
    deal (cmpLoc d) (fun a => rgn 8192 512 8 (2 * a.2.1.val + a.1.val) a.2.2.val) x.cmp rgn_disj (rgn_cover (by omega) (by omega)),
    deal (smpLoc d) (fun a => rgn 8192 256 8 (2 * a.2.1.val + a.1.val) a.2.2.val) x.smp rgn_disj (rgn_cover (by omega) (by omega)),
    dealP (tabLoc d) (fun a => rgnP (2 * a.2.val + a.1.val)) x.tab rgnP_disj rgnP_cover,
    ← bigSep_sep', ← bigSep_sep', ← bigSep_sep', ← bigSep_sep']
  refine bigSep_congr fun c _ => ?_
  rw [← bigSep_sep', ← bigSep_sep', ← bigSep_sep', ← bigSep_sep']
  rfl

/-! ## What the launch carries -/

variable (m : (ℓ : Loc nD τ sig) → Buf (Elt F) ℓ) (ρ : Dev nD → PrngReg)

/-- The arrays before the call. -/
def pre (d : Dev nD) : Five F := ⟨m (rawLoc d), m (epsLoc d), m (cmpLoc d), m (smpLoc d), m (tabLoc d)⟩

/-- The arrays after it. -/
def post (d : Dev nD) : Five F :=
  ⟨m (rawLoc d), m (epsLoc d), compG (F := F) (m (rawLoc d)), sampG (F := F) (m (rawLoc d)) (m (epsLoc d)), tabG (F := F) (m (rawLoc d))⟩

/-- A SparseCore's tiles' parts. -/
def coreP (d : Dev nD) (c : Nat) (x : Five F) : sProp (MM F) := bigSep Finset.univ fun j : Fin 16 => pieceP d (2 * j.val + c) x

/-- A SparseCore's part may be carried by a handshake. -/
instance coreP_storable (d : Dev nD) (c : Nat) (x : Five F) : BI.Storable (upEmb : UEmb _ (MM F)) (coreP d c x) := by
  unfold coreP; infer_instance

/-- Sixteen tiles a SparseCore. -/
theorem nSub_zero : (K (F := F)).nSub 0 = 16 := rfl

/-- Each tile is handed its parts of the five arrays and hands them back, the results written. -/
def P : (K (F := F)).Pay (nD := nD) (Val := Elt F) (Name := ℕ) (U := UU) where
  st := fun q d c => match q with | 0 => coreP d c.val (pre m d)
  dn := fun q d c => match q with | 0 => coreP d c.val (post m d)
  go := fun q d c i => match q with | 0 => pieceP d (2 * i.val + c.val) (pre m d)
  td := fun q d c i => match q with | 0 => pieceP d (2 * i.val + c.val) (post m d)
  x := fun _ _ => iprop(emp)

/-- All that the handshakes carry may be. -/
instance P_storable : (P (F := F) m).IsStorable where
  st q d c := match q with | 0 => coreP_storable d c.val (pre m d)
  dn q d c := match q with | 0 => coreP_storable d c.val (post m d)
  go q d c i := match q with | 0 => pieceP_storable d (2 * i.val + c.val) (pre m d)
  td q d c i := match q with | 0 => pieceP_storable d (2 * i.val + c.val) (post m d)

/-! ## A tile's own buffers and semaphores -/

/-- The tile's buffers. -/
def bufs10 : Finset (Ref sig .scVector) :=
  {cc0_scratch0, cc0_scratch1, cc0_scratch2, cc0_scratch3, cc0_scratch4, cc0_scratch5, cc0_scratch6, cc0_scratch7, cc0_scratch8, cc0_scratch9}

/-- The tile's semaphores. -/
def sems9 : Finset (DmaSem sig) :=
  {cc0_scratch10.sem, cc0_scratch11.sem, cc0_scratch12.sem, cc0_scratch13.sem, cc0_scratch14.sem, cc0_scratch15.sem, cc0_scratch16.sem, cc0_scratch17.sem, cc0_scoped0.sem}

/-- Over the ten buffers. -/
theorem over_bufs (Φ : Ref sig .scVector → sProp (MM F)) : bigSep bufs10 Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8 ∗ Φ cc0_scratch9) := by
  unfold bufs10
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- Over the nine semaphores. -/
theorem over_sems (Φ : DmaSem sig → sProp (MM F)) : bigSep sems9 Φ = iprop(Φ cc0_scratch10.sem ∗ Φ cc0_scratch11.sem ∗ Φ cc0_scratch12.sem ∗ Φ cc0_scratch13.sem ∗ Φ cc0_scratch14.sem ∗ Φ cc0_scratch15.sem ∗ Φ cc0_scratch16.sem ∗ Φ cc0_scratch17.sem ∗ Φ cc0_scoped0.sem) := by
  unfold sems9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The tile's nine copy semaphores are its own. -/
theorem sems9_scoped : ∀ s ∈ sems9, (SemLoc.dma s : SemLoc sig).isScoped .scVector = true := by decide

section Own

variable (d : Dev nD) (c : Fin τ.nSC) (j : Fin τ.nSub)

/-- The tile's ten buffers are among its own. -/
theorem ownBufs_V :
    (ownBufs (V d c j) : sProp (MM F))
      = iprop(((∃ f, (V d c j).loc cc0_scratch0 ↦{fullShare} f) ∗ (∃ f, (V d c j).loc cc0_scratch1 ↦{fullShare} f) ∗ (∃ f, (V d c j).loc cc0_scratch2 ↦{fullShare} f) ∗ (∃ f, (V d c j).loc cc0_scratch3 ↦{fullShare} f) ∗ (∃ f, (V d c j).loc cc0_scratch4 ↦{fullShare} f) ∗ (∃ f, (V d c j).loc cc0_scratch5 ↦{fullShare} f) ∗ (∃ f, (V d c j).loc cc0_scratch6 ↦{fullShare} f) ∗ (∃ f, (V d c j).loc cc0_scratch7 ↦{fullShare} f) ∗ (∃ f, (V d c j).loc cc0_scratch8 ↦{fullShare} f) ∗ (∃ f, (V d c j).loc cc0_scratch9 ↦{fullShare} f))
          ∗ bigSep (ownRefs (τ := τ) (.scVector c j) \ bufs10.image (Proc.scVector c j).devRef) fun b => iprop(∃ f, ((d, b) : Loc nD τ sig) ↦{fullShare} f)) := by
  unfold SparseCore.Cfg.ownBufs
  have hsub : bufs10.image (Proc.scVector c j).devRef ⊆ ownRefs (τ := τ) (.scVector c j) := by
    intro b hb
    obtain ⟨r, hr, rfl⟩ := Finset.mem_image.mp hb
    refine SparseCore.Cfg.mem_ownRefs_of_owner ?_
    simp only [bufs10, Finset.mem_insert, Finset.mem_singleton] at hr
    rcases hr with rfl | rfl | rfl | rfl | rfl | rfl | rfl | rfl | rfl | rfl <;> rfl
  refine (SparseCore.bigSep_sdiff_split' hsub).trans ?_
  rw [SparseCore.bigSep_image_of_injOn (fun a _ b _ e => Proc.devRef_injective _ e)]
  exact congrArg (fun X => iprop(X ∗ _)) (over_bufs _)

/-- The tile's nine semaphores are among its own. -/
theorem ownSems0_V :
    (ownSems0 (V d c j) : sProp (MM F))
      = iprop((semVal (V d c j, .dma cc0_scratch10.sem) 0 ∗ semVal (V d c j, .dma cc0_scratch11.sem) 0 ∗ semVal (V d c j, .dma cc0_scratch12.sem) 0 ∗ semVal (V d c j, .dma cc0_scratch13.sem) 0 ∗ semVal (V d c j, .dma cc0_scratch14.sem) 0 ∗ semVal (V d c j, .dma cc0_scratch15.sem) 0 ∗ semVal (V d c j, .dma cc0_scratch16.sem) 0 ∗ semVal (V d c j, .dma cc0_scratch17.sem) 0 ∗ semVal (V d c j, .dma cc0_scoped0.sem) 0)
          ∗ bigSep (ownCells (V d c j) \ sems9.image fun s => ((V d c j, .dma s) : GSem nD τ sig)) fun g => semVal g 0) := by
  unfold SparseCore.Cfg.ownSems0
  have hsub : (sems9.image fun s => ((V d c j, .dma s) : GSem nD τ sig)) ⊆ ownCells (V d c j) := by
    intro g hg
    obtain ⟨s, hs, rfl⟩ := Finset.mem_image.mp hg
    refine mem_ownCells.mpr ⟨rfl, ?_⟩
    exact sems9_scoped s hs
  refine (SparseCore.bigSep_sdiff_split' hsub).trans ?_
  rw [SparseCore.bigSep_image_of_injOn (fun a _ b _ e => SemLoc.dma.inj (Prod.mk.inj e).2)]
  exact congrArg (fun X => iprop(X ∗ _)) (over_sems _)

end Own

/-! ## The task -/

section Task

variable (d : Dev nD) (i : grid0.Coords)

/-- A whole buffer at some contents is a buffer of which nothing is known. -/
theorem any_in (c : Thread nD τ) {t : Shape} {e : EltTy} {b : Memref sig c.2.kind .vmem t e} (h : b.view.set = Finset.univ) :
    (iprop(∃ f, b.view.loc c ↦{fullShare} f) : sProp (MM F)) ⊢ any c b := by
  unfold any holdsOn
  iintro ⟨%f, H⟩
  iexists (fun _ => False), (b.view.read (Elt F) f), f
  isplitr
  · ipureintro; exact fun y hy => hy.elim
  · rw [h]; iexact H

/-- And the other way. -/
theorem any_out (c : Thread nD τ) {t : Shape} {e : EltTy} {b : Memref sig c.2.kind .vmem t e} (h : b.view.set = Finset.univ) :
    any c b ⊢ (iprop(∃ f, b.view.loc c ↦{fullShare} f) : sProp (MM F)) := by
  unfold any holdsOn
  rw [h]
  iintro ⟨%P, %C, %f, -, H⟩
  iexists f
  iexact H

/-- A part of an array, nothing known of it. -/
theorem partOn_in (c : Thread nD τ) {s : Shape} {e : EltTy} {a : Memref sig c.2.kind .hbm s e} {R : Finset s.Idx} {C : s.Idx → Elt F e} {f : Buf (Elt F) (a.view.loc c)} :
    part c a R f ⊢ partOn c a R (fun _ => False) C := by
  unfold partOn
  iintro H
  iexists f
  isplitr
  · ipureintro; exact fun y _ hy => hy.elim
  · iexact H

/-- A part of a whole array, all of it known. -/
theorem partOn_out (c : Thread nD τ) {s : Shape} {e : EltTy} {a : Memref sig c.2.kind .hbm s e} {R : Finset s.Idx} {C : s.Idx → Elt F e} (g : Buf (Elt F) (a.view.loc c))
    (h : a.view.read (Elt F) g = C) (hinj : ∀ f f' : Buf (Elt F) (a.view.loc c), (∀ y ∈ R, a.view.read (Elt F) f y = a.view.read (Elt F) f' y) → ∀ z ∈ a.view.setOn R, f z = f' z) :
    partOn c a R (fun _ => True) C ⊢ part c a R g := by
  unfold partOn
  iintro ⟨%f, %hf, H⟩
  unfold part
  rw [pointsTo_congr (hinj f g fun y hy => by rw [h]; exact hf y hy trivial)]
  exact Entails.refl _

/-- Two contents of a whole array read alike on a part only if they agree there. -/
theorem whole_inj (c : Thread nD τ) (r : Ref sig c.2.kind) {R : Finset r.ty.shape.Idx} (f f' : Buf (Elt F) ((Memref.whole r).view.loc c))
    (h : ∀ y ∈ R, (Memref.whole r).view.read (Elt F) f y = (Memref.whole r).view.read (Elt F) f' y) : ∀ z ∈ (Memref.whole r).view.setOn R, f z = f' z := by
  intro z hz
  obtain ⟨y, hy, rfl⟩ := Finset.mem_map.mp hz
  exact h y hy

/-- A whole array's view of a part is the part. -/
theorem whole_setOn (c : Thread nD τ) (r : Ref sig c.2.kind) (R : Finset r.ty.shape.Idx) : (Memref.whole r).view.setOn R = R := Finset.map_refl

/-- What a tile is given, at the arrays of the launch. -/
abbrev tl_in (x : Five F) : sProp (MM F) := tileIn d i (Memref.whole main_arg0_scv) (Memref.whole main_arg1_scv) (Memref.whole main_v0_0_scv) (Memref.whole main_v0_1_scv) (Memref.whole main_v0_2_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 cc0_scratch14 cc0_scratch15 cc0_scratch16 cc0_scratch17 cc0_scoped0 (x.raw) (x.eps) x.raw x.eps
/-- What a tile hands back, at the arrays of the launch. -/
abbrev tl_out (x : Five F) : sProp (MM F) := tileOut d i (Memref.whole main_arg0_scv) (Memref.whole main_arg1_scv) (Memref.whole main_v0_0_scv) (Memref.whole main_v0_1_scv) (Memref.whole main_v0_2_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 cc0_scratch14 cc0_scratch15 cc0_scratch16 cc0_scratch17 cc0_scoped0 (x.raw) (x.eps) x.raw x.eps

/-- A tile starts from its parts, its buffers and its semaphores. -/
theorem tile_enter (x : Five F) :
    iprop(pieceP d (wid i) x ∗ ((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f)) ∗ (semVal (thr d i, .dma cc0_scratch10.sem) 0 ∗ semVal (thr d i, .dma cc0_scratch11.sem) 0 ∗ semVal (thr d i, .dma cc0_scratch12.sem) 0 ∗ semVal (thr d i, .dma cc0_scratch13.sem) 0 ∗ semVal (thr d i, .dma cc0_scratch14.sem) 0 ∗ semVal (thr d i, .dma cc0_scratch15.sem) 0 ∗ semVal (thr d i, .dma cc0_scratch16.sem) 0 ∗ semVal (thr d i, .dma cc0_scratch17.sem) 0 ∗ semVal (thr d i, .dma cc0_scoped0.sem) 0)) ⊢ tl_in d i x := by
  unfold pieceP tl_in tileIn idleIn idleOut
  iintro ⟨⟨⟨R0, R1⟩, ⟨E0, E1⟩, ⟨C0, C1⟩, ⟨S0, S1⟩, T0⟩, ⟨B0, B1, B2, B3, B4, B5, B6, B7, B8, B9⟩, ⟨M0, M1, M2, M3, M4, M5, M6, M7, M8⟩⟩
  isplitl [R0 B2 M0]
  · isplitl [R0]
    · unfold part; rw [whole_setOn (thr d i)]; iexact R0
    isplitl [B2]
    · iapply (any_in (thr d i) (View.set_whole _)); iexact B2
    · iexact M0
  isplitl [E0 B8 M2]
  · isplitl [E0]
    · unfold part; rw [whole_setOn (thr d i)]; iexact E0
    isplitl [B8]
    · iapply (any_in (thr d i) (View.set_whole _)); iexact B8
    · iexact M2
  isplitl [R1 B3 M1]
  · isplitl [R1]
    · unfold part; rw [whole_setOn (thr d i)]; iexact R1
    isplitl [B3]
    · iapply (any_in (thr d i) (View.set_whole _)); iexact B3
    · iexact M1
  isplitl [E1 B9 M3]
  · isplitl [E1]
    · unfold part; rw [whole_setOn (thr d i)]; iexact E1
    isplitl [B9]
    · iapply (any_in (thr d i) (View.set_whole _)); iexact B9
    · iexact M3
  isplitl [C0 B4 M4]
  · isplitl [C0]
    · iapply (partOn_in (thr d i)); unfold part; rw [whole_setOn (thr d i)]; iexact C0
    isplitl [B4]
    · iapply (any_in (thr d i) (View.set_whole _)); iexact B4
    · iexact M4
  isplitl [S0 B6 M6]
  · isplitl [S0]
    · iapply (partOn_in (thr d i)); unfold part; rw [whole_setOn (thr d i)]; iexact S0
    isplitl [B6]
    · iapply (any_in (thr d i) (View.set_whole _)); iexact B6
    · iexact M6
  isplitl [C1 B5 M5]
  · isplitl [C1]
    · iapply (partOn_in (thr d i)); unfold part; rw [whole_setOn (thr d i)]; iexact C1
    isplitl [B5]
    · iapply (any_in (thr d i) (View.set_whole _)); iexact B5
    · iexact M5
  isplitl [S1 B7 M7]
  · isplitl [S1]
    · iapply (partOn_in (thr d i)); unfold part; rw [whole_setOn (thr d i)]; iexact S1
    isplitl [B7]
    · iapply (any_in (thr d i) (View.set_whole _)); iexact B7
    · iexact M7
  isplitl [T0 B0 M8]
  · isplitl [T0]
    · iapply (partOn_in (thr d i)); unfold part; rw [whole_setOn (thr d i)]; iexact T0
    isplitl [B0]
    · iapply (any_in (thr d i) (View.set_whole _)); iexact B0
    · iexact M8
  iapply (any_in (thr d i) (View.set_whole _)); iexact B1

/-- A tile ends with its parts, the results written, its buffers and its semaphores. -/
theorem tile_leave (x : Five F) :
    tl_out d i x ⊢ iprop(pieceP d (wid i) ⟨x.raw, x.eps, compG x.raw, sampG x.raw x.eps, tabG x.raw⟩ ∗ ((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f)) ∗ (semVal (thr d i, .dma cc0_scratch10.sem) 0 ∗ semVal (thr d i, .dma cc0_scratch11.sem) 0 ∗ semVal (thr d i, .dma cc0_scratch12.sem) 0 ∗ semVal (thr d i, .dma cc0_scratch13.sem) 0 ∗ semVal (thr d i, .dma cc0_scratch14.sem) 0 ∗ semVal (thr d i, .dma cc0_scratch15.sem) 0 ∗ semVal (thr d i, .dma cc0_scratch16.sem) 0 ∗ semVal (thr d i, .dma cc0_scratch17.sem) 0 ∗ semVal (thr d i, .dma cc0_scoped0.sem) 0)) := by
  unfold pieceP tl_out tileOut idleIn idleOut
  iintro ⟨⟨R0, B2, M0⟩, ⟨E0, B8, M2⟩, ⟨R1, B3, M1⟩, ⟨E1, B9, M3⟩, ⟨C0, B4, M4⟩, ⟨S0, B6, M6⟩, ⟨C1, B5, M5⟩, ⟨S1, B7, M7⟩, ⟨T0, B0, M8⟩, B1⟩
  isplitl [R0 R1 E0 E1 C0 C1 S0 S1 T0]
  · isplitl [R0 R1]
    · isplitl [R0]
      · unfold part; rw [whole_setOn (thr d i)]; iexact R0
      · unfold part; rw [whole_setOn (thr d i)]; iexact R1
    isplitl [E0 E1]
    · isplitl [E0]
      · unfold part; rw [whole_setOn (thr d i)]; iexact E0
      · unfold part; rw [whole_setOn (thr d i)]; iexact E1
    isplitl [C0 C1]
    · isplitl [C0]
      · ihave H := (partOn_out (thr d i) (C := (compG x.raw)) (compG x.raw) rfl (fun f f' h => whole_inj (thr d i) main_v0_1_scv f f' h)) $$ C0
        unfold part; rw [whole_setOn (thr d i)]; iexact H
      · ihave H := (partOn_out (thr d i) (C := (compG x.raw)) (compG x.raw) rfl (fun f f' h => whole_inj (thr d i) main_v0_1_scv f f' h)) $$ C1
        unfold part; rw [whole_setOn (thr d i)]; iexact H
    isplitl [S0 S1]
    · isplitl [S0]
      · ihave H := (partOn_out (thr d i) (C := (sampG x.raw x.eps)) (sampG x.raw x.eps) rfl (fun f f' h => whole_inj (thr d i) main_v0_2_scv f f' h)) $$ S0
        unfold part; rw [whole_setOn (thr d i)]; iexact H
      · ihave H := (partOn_out (thr d i) (C := (sampG x.raw x.eps)) (sampG x.raw x.eps) rfl (fun f f' h => whole_inj (thr d i) main_v0_2_scv f f' h)) $$ S1
        unfold part; rw [whole_setOn (thr d i)]; iexact H
    · ihave H := (partOn_out (thr d i) (C := (tabG x.raw)) (tabG x.raw) rfl (fun f f' h => whole_inj (thr d i) main_v0_0_scv f f' h)) $$ T0
      unfold part; rw [whole_setOn (thr d i)]; iexact H
  isplitl [B0 B1 B2 B3 B4 B5 B6 B7 B8 B9]
  · isplitl [B0]
    · iapply (any_out (thr d i) (b := Memref.whole cc0_scratch0) (View.set_whole _)); iexact B0
    isplitl [B1]
    · iapply (any_out (thr d i) (b := Memref.whole cc0_scratch1) (View.set_whole _)); iexact B1
    isplitl [B2]
    · iapply (any_out (thr d i) (b := Memref.whole cc0_scratch2) (View.set_whole _)); iexact B2
    isplitl [B3]
    · iapply (any_out (thr d i) (b := Memref.whole cc0_scratch3) (View.set_whole _)); iexact B3
    isplitl [B4]
    · iapply (any_out (thr d i) (b := Memref.whole cc0_scratch4) (View.set_whole _)); iexact B4
    isplitl [B5]
    · iapply (any_out (thr d i) (b := Memref.whole cc0_scratch5) (View.set_whole _)); iexact B5
    isplitl [B6]
    · iapply (any_out (thr d i) (b := Memref.whole cc0_scratch6) (View.set_whole _)); iexact B6
    isplitl [B7]
    · iapply (any_out (thr d i) (b := Memref.whole cc0_scratch7) (View.set_whole _)); iexact B7
    isplitl [B8]
    · iapply (any_out (thr d i) (b := Memref.whole cc0_scratch8) (View.set_whole _)); iexact B8
    · iapply (any_out (thr d i) (b := Memref.whole cc0_scratch9) (View.set_whole _)); iexact B9
  isplitl [M0]
  · iexact M0
  isplitl [M1]
  · iexact M1
  isplitl [M2]
  · iexact M2
  isplitl [M3]
  · iexact M3
  isplitl [M4]
  · iexact M4
  isplitl [M5]
  · iexact M5
  isplitl [M6]
  · iexact M6
  isplitl [M7]
  · iexact M7
  iexact M8

end Task

end Cert.Proof.Mix
-- ==== Proof.Run.lean ====
/-
  The whole program's run: the call, the reshape, and what the five arrays hold at the end.
-/
module

public import proofs.«01_k».proof.Proof.Launch

@[expose] public section

noncomputable section

namespace Cert.Proof.Mix

open Cert.KernelIdeal Cert.KernelIdeal.Gen

open Idealize.ShloMosaic
open Idealize.ShloMosaic.SparseCore (S V T vectorLoadIdx vectorStoreIdx)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## A tile's task -/

set_option maxHeartbeats 1000000 in
/-- The task at coordinates `i` of device `d`. -/
theorem tile_body (d : Dev nD) (i : grid0.Coords) (hF : (K (F := F)).Facts) (O : CellTallies nD τ sig (HIx 1)) (W : Waits sig (HIx 1)) (hO : ∀ g, O g none = 0) :
    iprop(levAts (K (F := F)).L (K (F := F)).lev ∗ emp ∗ pieceP d (wid i) (pre m d)
        ∗ scopedBufs (thr d i) ∗ scopedSems0 (thr d i) ∗ owes (thr d i) O W)
      ⊢ wp frame (wpE (defs₀ (F := F)) 𝒱₀ (thr d i) none) Set.univ
          (cc0__sc_mixture i (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scoped0)
          fun _ => iprop(pieceP d (wid i) (post m d) ∗ scopedBufs (thr d i) ∗ scopedSems0 (thr d i)
            ∗ ∃ W', ⌜∀ p ∈ W', p ∈ W ∨ p.2 = none⌝ ∗ owes (thr d i) O W') := by
  rw [tile_eq, (K (F := F)).scopedBufs_V hF d _ _, SparseCore.Cfg.scopedSems0_V (Val := Elt F) d _ _, ownSems0_V, ownBufs_V]
  iintro ⟨#Hlv, -, Hp, ⟨Hb, Hbr⟩, ⟨Hs, Hsr⟩, HO⟩
  ihave Hin := (tile_enter d i (pre m d)) $$ [Hp Hb Hs]
  · isplitl [Hp]; · iexact Hp
    isplitl [Hb]; · iexact Hb
    iexact Hs
  ihave #HM := ((K (F := F)).mayWaits_none (thr := thr d i) hO) $$ Hlv
  iapply (tile_on d i (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scoped0 (fR := (pre m d).raw) (fE := (pre m d).eps) (A := (pre m d).raw) (B := (pre m d).eps) rfl rfl) $$ [Hin HO]
  · isplitl [Hin]; · iexact Hin
    isplitl [HO]
    · unfold owed
      iexists W
      isplitr
      · ipureintro; exact fun p hp => .inl hp
      · iexact HO
    · iexact HM
  iintro ⟨Hout, HO⟩
  ihave Hx := (tile_leave d i (pre m d)) $$ Hout
  icases Hx with ⟨Hp, Hb, Hs⟩
  isplitl [Hp]; · iexact Hp
  isplitl [Hb Hbr]
  · isplitl [Hb]; · iexact Hb
    iexact Hbr
  isplitl [Hs Hsr]
  · isplitl [Hs]; · iexact Hs
    iexact Hsr
  unfold owed
  iexact HO

/-! ## The launch theorem's obligations -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- A tile's program is the kernel's body at its coordinates. -/
theorem defs₀_vector (c : Fin τ.nSC) (s : Fin τ.nSub) :
    defs₀ (F := F) (.scVector c s) 0 ()
      = SparseCore.onTile hcore0 hsub0 (fun c s => cc0__sc_mixture (coordsV c s) (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scoped0) ⟨⟩ c s := rfl

/-- What a tile waited for, in the launch theorem's terms. -/
theorem obl_post {c : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes c O W')
      ⊢ iprop(A ∗ B ∗ C ∗ ∃ W', ⌜∀ p ∈ W', p ∈ W ∨ p.2 = none ∨ p.2 = some q⌝ ∗ owes c O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets its obligation. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's part is its tiles' parts. -/
theorem vecSplit : (K (F := F)).VecSplit' (P m) 0 := by
  intro d c
  show coreP d c.val (pre m d) ⊢ |={Set.univ}=> iprop(
      (bigSep Finset.univ fun i : Fin 16 => pieceP d (2 * i.val + c.val) (pre m d))
      ∗ ((bigSep Finset.univ fun i : Fin 16 => pieceP d (2 * i.val + c.val) (post m d)) -∗ coreP d c.val (post m d)))
  unfold coreP
  iintro H; imodintro
  isplitl [H]; · iexact H
  iintro H
  iexact H

/-! ## The launch's ghost state -/

/-- The ghost state at the start. -/
def u₀ : UU := (initOf (K (F := F)).hsCells (K (F := F)).hsToks, 1)

/-- Many nothings are nothing. -/
theorem bigSep_emp' {I : Type} (s : Finset I) : (bigSep s fun _ => iprop(emp)) = (iprop(emp) : sProp (MM F)) := bigSep_emp_const s

/-- The ghost state at the start gives the handshakes' tokens. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The program on the TensorCore -/

/-- The table, as the host sees it. -/
abbrev t' : DevRef τ sig := Proc.devRef .tc (main_v0_0 : Ref sig .tc)
/-- The first result, as the host sees it. -/
abbrev r' : DevRef τ sig := Proc.devRef .tc (main_v1 : Ref sig .tc)
/-- The host reshapes the table into the first result. -/
abbrev opR : HloOp τ sig (Elt F) := StableHlo.reshape main_v0_0 main_v1 (rfl : (.f32 : EltTy) = .f32) shapeCasts_S512x128_S8192x8

/-- What the reshape holds: the table and the result. -/
theorem held_two (d : Dev nD) (W : Valuation τ sig (Elt F)) :
    (held (T d) {t', r'} W : sProp (MM F)) = iprop((tabLoc d ↦{fullShare} W t') ∗ (outLoc d ↦{fullShare} W r')) := by
  unfold held
  rw [SparseCore.bigSep_insert' (by decide), bigSep_singleton]

/-- The host's arrays, one by one. -/
theorem unscopedBufs_eq (d : Dev nD) (W : (b : Ref sig .tc) → Buf (Elt F) ((d.tc : Thread nD τ).loc b)) :
    (unscopedBufs d W : sProp (MM F)) = iprop((rawLoc d ↦{fullShare} W main_arg0) ∗ (epsLoc d ↦{fullShare} W main_arg1) ∗ (tabLoc d ↦{fullShare} W main_v0_0)
      ∗ (cmpLoc d ↦{fullShare} W main_v0_1) ∗ (smpLoc d ↦{fullShare} W main_v0_2) ∗ (outLoc d ↦{fullShare} W main_v1)) := by
  unfold unscopedBufs
  rw [show (Finset.univ.filter fun b : Ref sig .tc => ¬ b.isScoped) = {main_arg0, main_arg1, main_v0_0, main_v0_1, main_v0_2, main_v1} by decide,
    SparseCore.bigSep_insert' (by decide), SparseCore.bigSep_insert' (by decide), SparseCore.bigSep_insert' (by decide), SparseCore.bigSep_insert' (by decide),
    SparseCore.bigSep_insert' (by decide), bigSep_singleton]

/-- After the call, the table is written. -/
def V1 (d : Dev nD) : Valuation τ sig (Elt F) := Function.update (fun b => m (d, b)) t' (tabG (F := F) (m (rawLoc d)))

/-- The table is then the table of probabilities. -/
theorem V1_t (d : Dev nD) : V1 m d t' = tabG (F := F) (m (rawLoc d)) := Function.update_self _ _ _
/-- The first result is as it was. -/
theorem V1_r (d : Dev nD) : V1 m d r' = m (outLoc d) := Function.update_of_ne (show r' ≠ t' by decide) _ _

/-- The probabilities, a token a row. -/
def probG (A : S8192x4104.Idx → Elt F .f32) : S8192x8.Idx → Elt F .f32 := shapeCast S8192x8 (tabG A) shapeCasts_S512x128_S8192x8

/-- After the reshape it holds the probabilities. -/
theorem V2_r (d : Dev nD) : (opR (F := F)).result (V1 m d) r' = probG (F := F) (m (rawLoc d)) := by
  refine (StableHlo.reshape_result' (τ := τ) (Val := Elt F) (x := main_v0_0) (y := main_v1) _ _ _ _ (V1 m d)).trans ?_
  rw [show V1 m d (Proc.devRef .tc main_v0_0) = tabG (F := F) (m (rawLoc d)) from V1_t m d]
  rfl

/-- What is left at the end. -/
def FIN (d : Dev nD) : sProp (MM F) :=
  iprop((rawLoc d ↦{fullShare} m (rawLoc d)) ∗ (epsLoc d ↦{fullShare} m (epsLoc d)) ∗ (cmpLoc d ↦{fullShare} compG (F := F) (m (rawLoc d)))
    ∗ (smpLoc d ↦{fullShare} sampG (F := F) (m (rawLoc d)) (m (epsLoc d))) ∗ (outLoc d ↦{fullShare} probG (F := F) (m (rawLoc d))))

/-- What the call hands to the SparseCores is all the tiles' parts. -/
theorem st0_eq (d : Dev nD) : (bigSep Finset.univ fun c : Fin ((K (F := F)).nCore 0) => (P m).st 0 d c) = allP d (pre m d) := by
  rw [all_pieces]; rfl
/-- What it gets back is all of them, written. -/
theorem dn0_eq (d : Dev nD) : (bigSep Finset.univ fun c : Fin ((K (F := F)).nCore 0) => (P m).dn 0 d c) = allP d (post m d) := by
  rw [all_pieces]; rfl

/-- The program on device `d`'s TensorCore: the call, then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, He, Ht, Hc, Hs, Hr⟩, Hts, -⟩, -⟩
  iapply ((K (F := F)).wp_run (D (F := F)) 𝒱 (EH := EH) (P := P m) κ d 0) $$ [Hst Hx He Ht Hc Hs Hb Hr Hts]
  isplitr; · iexact Hctx
  isplitl [Hst]; · iexact Hst
  isplitl [Hx He Ht Hc Hs]
  · rw [st0_eq]
    unfold allP pre
    isplitl [Hx]; · iexact Hx
    isplitl [He]; · iexact He
    isplitl [Hc]; · iexact Hc
    isplitl [Hs]; · iexact Hs
    iexact Ht
  iintro ⟨Hst, Hdn⟩
  ihave Hdn' := (Entails.of_eq ((dn0_eq m d).trans (by unfold allP post; rfl))) $$ Hdn
  icases Hdn' with ⟨Hx, He, Hc, Hs, Ht⟩
  iapply (wp_hlo_within 𝒱 (SparseCore.T d) none Set.univ (op := opR) (S := {t', r'}) (Finset.Subset.refl _) (V := V1 m d)) $$ [Hb Ht Hr]
  · isplitl [Hb]; · iexact Hb
    rw [held_two, V1_t, V1_r]
    isplitl [Ht]; · iexact Ht
    iexact Hr
  iintro ⟨Hb, Hheld⟩
  ihave Hh := (Entails.of_eq (held_two (F := F) d _)) $$ Hheld
  icases Hh with ⟨-, Hr⟩
  rw [V2_r]
  rw [wp_ret]; imodintro; imodintro
  isplitl [Hst]; · iexact Hst
  isplitr [Hb Hts]
  · unfold FIN
    isplitl [Hx]; · iexact Hx
    isplitl [He]; · iexact He
    isplitl [Hc]; · iexact Hc
    isplitl [Hs]; · iexact Hs
    iexact Hr
  isplitl [Hb] <;> iassumption

/-- The end state of device `d`. -/
def fq (d : Dev nD) (s' : Phys nD τ sig (Elt F)) : Prop :=
  s'.mem.mem (rawLoc d) = m (rawLoc d) ∧ s'.mem.mem (epsLoc d) = m (epsLoc d) ∧ s'.mem.mem (cmpLoc d) = compG (F := F) (m (rawLoc d))
    ∧ s'.mem.mem (smpLoc d) = sampG (F := F) (m (rawLoc d)) (m (epsLoc d)) ∧ s'.mem.mem (outLoc d) = probG (F := F) (m (rawLoc d))

/-- An array held whole is what the memory holds. -/
theorem held_mem (ℓ : Loc nD τ sig) (f : Buf (Elt F) ℓ) (s' : Phys nD τ sig (Elt F)) :
    iprop((ℓ ↦{fullShare} f) ∗ SI s') ⊢ (iprop(⌜s'.mem.mem ℓ = f⌝) : sProp (MM F)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- Five facts entailed at once. -/
theorem pure_and5 {H : sProp (MM F)} {a b c d e : Prop} (ha : H ⊢ (⌜a⌝ : sProp (MM F))) (hb : H ⊢ (⌜b⌝ : sProp (MM F))) (hc : H ⊢ (⌜c⌝ : sProp (MM F)))
    (hd : H ⊢ (⌜d⌝ : sProp (MM F))) (he : H ⊢ (⌜e⌝ : sProp (MM F))) : H ⊢ (⌜a ∧ b ∧ c ∧ d ∧ e⌝ : sProp (MM F)) :=
  Laws.pure_elim a ha fun a' => Laws.pure_elim b hb fun b' => Laws.pure_elim c hc fun c' => Laws.pure_elim d hd fun d' => Laws.pure_elim e he fun e' =>
    Laws.pure_intro ⟨a', b', c', d', e'⟩

/-- What is held at the end fixes the final memory. -/
theorem hfin (d : Dev nD) (s' : Phys nD τ sig (Elt F)) : iprop(FIN m d ∗ SI s') ⊢ (⌜fq m d s'⌝ : sProp (MM F)) := by
  have part1 : iprop(FIN m d ∗ SI s') ⊢ (⌜s'.mem.mem (rawLoc d) = m (rawLoc d)⌝ : sProp (MM F)) := by
    unfold FIN
    iintro ⟨⟨H, -⟩, HSI⟩
    iapply (held_mem (rawLoc d) _ s')
    isplitl [H] <;> iassumption
  have part2 : iprop(FIN m d ∗ SI s') ⊢ (⌜s'.mem.mem (epsLoc d) = m (epsLoc d)⌝ : sProp (MM F)) := by
    unfold FIN
    iintro ⟨⟨-, H, -⟩, HSI⟩
    iapply (held_mem (epsLoc d) _ s')
    isplitl [H] <;> iassumption
  have part3 : iprop(FIN m d ∗ SI s') ⊢ (⌜s'.mem.mem (cmpLoc d) = compG (F := F) (m (rawLoc d))⌝ : sProp (MM F)) := by
    unfold FIN
    iintro ⟨⟨-, -, H, -⟩, HSI⟩
    iapply (held_mem (cmpLoc d) _ s')
    isplitl [H] <;> iassumption
  have part4 : iprop(FIN m d ∗ SI s') ⊢ (⌜s'.mem.mem (smpLoc d) = sampG (F := F) (m (rawLoc d)) (m (epsLoc d))⌝ : sProp (MM F)) := by
    unfold FIN
    iintro ⟨⟨-, -, -, H, -⟩, HSI⟩
    iapply (held_mem (smpLoc d) _ s')
    isplitl [H] <;> iassumption
  have part5 : iprop(FIN m d ∗ SI s') ⊢ (⌜s'.mem.mem (outLoc d) = probG (F := F) (m (rawLoc d))⌝ : sProp (MM F)) := by
    unfold FIN
    iintro ⟨⟨-, -, -, -, H⟩, HSI⟩
    iapply (held_mem (outLoc d) _ s')
    isplitl [H] <;> iassumption
  exact pure_and5 part1 part2 part3 part4 part5

/-! ## The program's run -/

/-- What the run ends in: the arguments unchanged, the three results written, every semaphore at zero. -/
def QC : PUnit × MemSt nD τ sig (Elt F) → Prop := fun r => (∀ d : Dev nD,
  r.2.mem (rawLoc d) = m (rawLoc d) ∧ r.2.mem (epsLoc d) = m (epsLoc d) ∧ r.2.mem (cmpLoc d) = compG (F := F) (m (rawLoc d))
    ∧ r.2.mem (smpLoc d) = sampG (F := F) (m (rawLoc d)) (m (epsLoc d)) ∧ r.2.mem (outLoc d) = probG (F := F) (m (rawLoc d))) ∧ r.2.sem = fun _ => 0

/-- The kernel ends with its three results as functions of its arguments, the arguments unchanged and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Mix
-- ==== Proof.Frames.lean ====
/-
  The frames of the two printed kernels, from the one run.
-/
module

public import proofs.«01_k».proof.Defs
public import proofs.«01_k».proof.Proof.Gen.Kernel
public import proofs.«01_k».proof.Proof.Run

@[expose] public section

noncomputable section

namespace Cert.Proof.Mix

open Idealize.ShloMosaic Idealize.SL.Sem

/-- The kernel read over extended reals ends, its arguments unchanged and every semaphore at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

/-- The kernel as printed, at the words the machine computes with, does too: the same program. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (run_main (F := Bits) m ρ)

end Cert.Proof.Mix

end
-- ==== Proof.Ref.lean ====
/-
  The reference's run: its operations in order, and what its three results hold at the end.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The eight blocks of component parameters, stacked. -/
def stackB (u0 : FVec F S1x8192x512 .f32) (u1 : FVec F S1x8192x512 .f32) (u2 : FVec F S1x8192x512 .f32) (u3 : FVec F S1x8192x512 .f32) (u4 : FVec F S1x8192x512 .f32) (u5 : FVec F S1x8192x512 .f32) (u6 : FVec F S1x8192x512 .f32) (u7 : FVec F S1x8192x512 .f32) : FVec F S8x8192x512 .f32 :=
  concatenate S8x8192x512 0 [⟨S1x8192x512, u0⟩, ⟨S1x8192x512, u1⟩, ⟨S1x8192x512, u2⟩, ⟨S1x8192x512, u3⟩, ⟨S1x8192x512, u4⟩, ⟨S1x8192x512, u5⟩, ⟨S1x8192x512, u6⟩, ⟨S1x8192x512, u7⟩] concatenates_S1x8192x512_S1x8192x512_S1x8192x512_S1x8192x512_S1x8192x512_S1x8192x512_S1x8192x512_S1x8192x512_S8x8192x512_d0

/-- The means and the log-variances, side by side. -/
def joinB (a b : FVec F S8192x256 .f32) : FVec F S8192x512 .f32 :=
  concatenate S8192x512 1 [⟨S8192x256, a⟩, ⟨S8192x256, b⟩] concatenates_S8192x256_S8192x256_S8192x512_d1

/-- The selector logits. -/
def logits (A : FVec F S8192x4104 .f32) : FVec F S8192x8 .f32 := extractStridedSlice S8192x8 ![0, 0] A slices_S8192x4104_S8192x8_0_0

/-- Each token's largest logit. -/
def topR (A : FVec F S8192x4104 .f32) : FVec F S8192 .f32 :=
  maximumf (broadcastInDim S8192 ![] bcast_S_S8192 (constant S_ .f32 0xFF800000#32))
    (Host.reduce FloatOps.maximumf (logits A) (constant S_ .f32 0xFF800000#32) reducesTo_S8192x8_S8192_d1 h_S_)

/-- The exponentials of the logits less the largest. -/
def expR (A : FVec F S8192x4104 .f32) : FVec F S8192x8 .f32 :=
  Host.exp (subf (logits A) (broadcastInDim S8192x8 ![0, 1] bcast_S8192x1_S8192x8_0_1 (broadcastInDim S8192x1 ![0] bcast_S8192_S8192x1_0 (topR A))))

/-- The first result: the probabilities. -/
def probR (A : FVec F S8192x4104 .f32) : FVec F S8192x8 .f32 :=
  Host.divf (expR A) (broadcastInDim S8192x8 ![0, 1] bcast_S8192x1_S8192x8_0_1 (broadcastInDim S8192x1 ![0] bcast_S8192_S8192x1_0
    (Host.reduceAdd (expR A) (constant S_ .f32 0x00000000#32) reducesTo_S8192x8_S8192_d1 h_S_)))

/-- The chosen component of each token: the number of its largest logit. -/
def chosenR (A : FVec F S8192x4104 .f32) : IVec S8192 32 :=
  fun j => (Host.argReduce reducer_argmax_f32_i32 (logits A) (iotaInDim S8192x8 32 1) (constant S_ .f32 0xFF800000#32) (constantI S_ 32 0#32) reducesTo_S8192x8_S8192_d1 h_S_ j).2

/-- All the component parameters: what stands after the logits. -/
def paramsR (A : FVec F S8192x4104 .f32) : FVec F S8192x4096 .f32 := extractStridedSlice S8192x4096 ![0, 8] A slices_S8192x4104_S8192x4096_0_8

/-- The stacked blocks of the parameters. -/
def blocksR (A : FVec F S8192x4104 .f32) : FVec F S8x8192x512 .f32 :=
  stackB
    (broadcastInDim S1x8192x512 ![1, 2] bcast_S8192x512_S1x8192x512_1_2 (extractStridedSlice S8192x512 ![0, 0] (paramsR A) slices_S8192x4096_S8192x512_0_0))
    (broadcastInDim S1x8192x512 ![1, 2] bcast_S8192x512_S1x8192x512_1_2 (extractStridedSlice S8192x512 ![0, 512] (paramsR A) slices_S8192x4096_S8192x512_0_512))
    (broadcastInDim S1x8192x512 ![1, 2] bcast_S8192x512_S1x8192x512_1_2 (extractStridedSlice S8192x512 ![0, 1024] (paramsR A) slices_S8192x4096_S8192x512_0_1024))
    (broadcastInDim S1x8192x512 ![1, 2] bcast_S8192x512_S1x8192x512_1_2 (extractStridedSlice S8192x512 ![0, 1536] (paramsR A) slices_S8192x4096_S8192x512_0_1536))
    (broadcastInDim S1x8192x512 ![1, 2] bcast_S8192x512_S1x8192x512_1_2 (extractStridedSlice S8192x512 ![0, 2048] (paramsR A) slices_S8192x4096_S8192x512_0_2048))
    (broadcastInDim S1x8192x512 ![1, 2] bcast_S8192x512_S1x8192x512_1_2 (extractStridedSlice S8192x512 ![0, 2560] (paramsR A) slices_S8192x4096_S8192x512_0_2560))
    (broadcastInDim S1x8192x512 ![1, 2] bcast_S8192x512_S1x8192x512_1_2 (extractStridedSlice S8192x512 ![0, 3072] (paramsR A) slices_S8192x4096_S8192x512_0_3072))
    (broadcastInDim S1x8192x512 ![1, 2] bcast_S8192x512_S1x8192x512_1_2 (extractStridedSlice S8192x512 ![0, 3584] (paramsR A) slices_S8192x4096_S8192x512_0_3584))

/-- The numbers by which a block is taken: a negative one counts from the end. -/
def wrapR (i : IVec S1x8192x1 32) : IVec S1x8192x1 32 :=
  select (cmpi .slt i (broadcastInDim S1x8192x1 ![] bcast_S_S1x8192x1 (constantI S_ 32 0#32)))
    (addi i (broadcastInDim S1x8192x1 ![] bcast_S_S1x8192x1 (constantI S_ 32 8#32))) i

/-- Which of the numbers name a block. -/
def insideR (i : IVec S1x8192x1 32) : IVec S1x8192 1 :=
  Host.reduce IntOp.andi (andi (cmpi .sge i (broadcastInDim S1x8192x1 ![] bcast_S_S1x8192x1 (constantI S_ 32 0#32)))
    (cmpi .sle i (broadcastInDim S1x8192x1 ![0, 1, 2] bcast_S1x1x1_S1x8192x1_0_1_2 (broadcastInDim S1x1x1 ![2] bcast_S1_S1x1x1_2 (constantI S1 32 7#32)))))
    (constantI S_ 1 1#1) reducesTo_S1x8192x1_S1x8192_d2 h_S_

/-- The block of each token, by its number. -/
def takeR (x : FVec F S8x8192x512 .f32) (i : IVec S1x8192x1 32) : FVec F S1x8192x512 .f32 :=
  select (broadcastInDim S1x8192x512 ![0, 1] bcast_S1x8192_S1x8192x512_0_1 (insideR (wrapR i)))
    (Host.gather gather_S8x8192x512_S1x8192x1_S1x8192x512_2_0_1_1_0_2_11512 x (wrapR i))
    (broadcastInDim S1x8192x512 ![] bcast_S_S1x8192x512 (constant S_ .f32 0x7FC00000#32))

/-- The chosen component's parameters of each token. -/
def selR (A : FVec F S8192x4104 .f32) : FVec F S8192x512 .f32 :=
  shapeCast S8192x512 (takeR (blocksR A) (broadcastInDim S1x8192x1 ![1] bcast_S8192_S1x8192x1_1 (chosenR A))) shapeCasts_S1x8192x512_S8192x512

/-- The means. -/
def meanR (A : FVec F S8192x4104 .f32) : FVec F S8192x256 .f32 := extractStridedSlice S8192x256 ![0, 0] (selR A) slices_S8192x512_S8192x256_0_0

/-- The log-variances. -/
def lvarR (A : FVec F S8192x4104 .f32) : FVec F S8192x256 .f32 := extractStridedSlice S8192x256 ![0, 256] (selR A) slices_S8192x512_S8192x256_0_256

/-- The second result: the chosen parameters. -/
def compR (A : FVec F S8192x4104 .f32) : FVec F S8192x512 .f32 := joinB (meanR A) (lvarR A)

/-- The third result: the samples. -/
def sampR (A : FVec F S8192x4104 .f32) (B : FVec F S16384x128 .f32) : FVec F S8192x256 .f32 :=
  addf (meanR A) (mulf (Host.exp (mulf (broadcastInDim S8192x256 ![] bcast_S_S8192x256 (constant S_ .f32 0x3F000000#32)) (lvarR A)))
    (shapeCast S8192x256 B shapeCasts_S16384x128_S8192x256))

/-- The reference's operations, in order. -/
abbrev ops : List (HloOp τ sig (Elt F)) :=
  [ unary main_arg0 main_v0 ((extractStridedSlice S8192x8 ![0, 0] · slices_S8192x4104_S8192x8_0_0) : (⟨S8192x4104, .f32⟩ : BufTy).Contents (Elt F) → (⟨S8192x8, .f32⟩ : BufTy).Contents (Elt F)),
    nullary main_cst (constant S_ .f32 0xFF800000#32),
    binary main_v0 main_cst main_v1 ((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)),
    nullary main_cst_0 (constant S_ .f32 0xFF800000#32),
    unary main_cst_0 main_v2 (broadcastInDim S8192 ![] bcast_S_S8192 : (⟨S_, .f32⟩ : BufTy).Contents (Elt F) → (⟨S8192, .f32⟩ : BufTy).Contents (Elt F)),
    binary main_v2 main_v1 main_v3 (maximumf : (⟨S8192, .f32⟩ : BufTy).Contents (Elt F) → (⟨S8192, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    unary main_v4 main_v5 (broadcastInDim S8192x8 ![0, 1] bcast_S8192x1_S8192x8_0_1 : (⟨S8192x1, .f32⟩ : BufTy).Contents (Elt F) → (⟨S8192x8, .f32⟩ : BufTy).Contents (Elt F)),
    binary main_v0 main_v5 main_v6 (subf : (⟨S8192x8, .f32⟩ : BufTy).Contents (Elt F) → (⟨S8192x8, .f32⟩ : BufTy).Contents (Elt F) → (⟨S8192x8, .f32⟩ : BufTy).Contents (Elt F)),
    unary main_v6 main_v7 (Host.exp : (⟨S8192x8, .f32⟩ : BufTy).Contents (Elt F) → (⟨S8192x8, .f32⟩ : BufTy).Contents (Elt F)),
    nullary main_cst_1 (constant S_ .f32 0x00000000#32),
    binary main_v7 main_cst_1 main_v8 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x8 ![0, 1] bcast_S8192x1_S8192x8_0_1 : (⟨S8192x1, .f32⟩ : BufTy).Contents (Elt F) → (⟨S8192x8, .f32⟩ : BufTy).Contents (Elt F)),
    binary main_v7 main_v10 main_v11 (Host.divf : (⟨S8192x8, .f32⟩ : BufTy).Contents (Elt F) → (⟨S8192x8, .f32⟩ : BufTy).Contents (Elt F) → (⟨S8192x8, .f32⟩ : BufTy).Contents (Elt F)),
    TRef.nullary (TRef.of (T := ⟨S8192x8, .i32⟩) main_call0_v0) (iotaInDim S8192x8 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8192x8, .f32⟩) main_v0) (TRef.of (T := ⟨S8192x8, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmax_f32_i32 x y u v reducesTo_S8192x8_S8192_d1 h_S_ j).1),
    TRef.quaternary (TRef.of (T := ⟨S8192x8, .f32⟩) main_v0) (TRef.of (T := ⟨S8192x8, .i32⟩) main_call0_v0) (TRef.of (T := ⟨S_, .f32⟩) main_call0_cst) (TRef.of (T := ⟨S_, .i32⟩) main_call0_c) (TRef.of (T := ⟨S8192, .i32⟩) main_v12) (fun x y u v j => (Host.argReduce reducer_argmax_f32_i32 x y u v reducesTo_S8192x8_S8192_d1 h_S_ j).2),
    unary main_arg0 main_v13 ((extractStridedSlice S8192x4096 ![0, 8] · slices_S8192x4104_S8192x4096_0_8) : (⟨S8192x4104, .f32⟩ : BufTy).Contents (Elt F) → (⟨S8192x4096, .f32⟩ : BufTy).Contents (Elt F)),
    unary main_v13 main_v14 ((extractStridedSlice S8192x512 ![0, 0] · slices_S8192x4096_S8192x512_0_0) : (⟨S8192x4096, .f32⟩ : BufTy).Contents (Elt F) → (⟨S8192x512, .f32⟩ : BufTy).Contents (Elt F)),
    unary main_v13 main_v15 ((extractStridedSlice S8192x512 ![0, 512] · slices_S8192x4096_S8192x512_0_512) : (⟨S8192x4096, .f32⟩ : BufTy).Contents (Elt F) → (⟨S8192x512, .f32⟩ : BufTy).Contents (Elt F)),
    unary main_v13 main_v16 ((extractStridedSlice S8192x512 ![0, 1024] · slices_S8192x4096_S8192x512_0_1024) : (⟨S8192x4096, .f32⟩ : BufTy).Contents (Elt F) → (⟨S8192x512, .f32⟩ : BufTy).Contents (Elt F)),
    unary main_v13 main_v17 ((extractStridedSlice S8192x512 ![0, 1536] · slices_S8192x4096_S8192x512_0_1536) : (⟨S8192x4096, .f32⟩ : BufTy).Contents (Elt F) → (⟨S8192x512, .f32⟩ : BufTy).Contents (Elt F)),
    unary main_v13 main_v18 ((extractStridedSlice S8192x512 ![0, 2048] · slices_S8192x4096_S8192x512_0_2048) : (⟨S8192x4096, .f32⟩ : BufTy).Contents (Elt F) → (⟨S8192x512, .f32⟩ : BufTy).Contents (Elt F)),
    unary main_v13 main_v19 ((extractStridedSlice S8192x512 ![0, 2560] · slices_S8192x4096_S8192x512_0_2560) : (⟨S8192x4096, .f32⟩ : BufTy).Contents (Elt F) → (⟨S8192x512, .f32⟩ : BufTy).Contents (Elt F)),
    unary main_v13 main_v20 ((extractStridedSlice S8192x512 ![0, 3072] · slices_S8192x4096_S8192x512_0_3072) : (⟨S8192x4096, .f32⟩ : BufTy).Contents (Elt F) → (⟨S8192x512, .f32⟩ : BufTy).Contents (Elt F)),
    unary main_v13 main_v21 ((extractStridedSlice S8192x512 ![0, 3584] · slices_S8192x4096_S8192x512_0_3584) : (⟨S8192x4096, .f32⟩ : BufTy).Contents (Elt F) → (⟨S8192x512, .f32⟩ : BufTy).Contents (Elt F)),
    unary main_v14 main_v22 (broadcastInDim S1x8192x512 ![1, 2] bcast_S8192x512_S1x8192x512_1_2 : (⟨S8192x512, .f32⟩ : BufTy).Contents (Elt F) → (⟨S1x8192x512, .f32⟩ : BufTy).Contents (Elt F)),
    unary main_v15 main_v23 (broadcastInDim S1x8192x512 ![1, 2] bcast_S8192x512_S1x8192x512_1_2 : (⟨S8192x512, .f32⟩ : BufTy).Contents (Elt F) → (⟨S1x8192x512, .f32⟩ : BufTy).Contents (Elt F)),
    unary main_v16 main_v24 (broadcastInDim S1x8192x512 ![1, 2] bcast_S8192x512_S1x8192x512_1_2 : (⟨S8192x512, .f32⟩ : BufTy).Contents (Elt F) → (⟨S1x8192x512, .f32⟩ : BufTy).Contents (Elt F)),
    unary main_v17 main_v25 (broadcastInDim S1x8192x512 ![1, 2] bcast_S8192x512_S1x8192x512_1_2 : (⟨S8192x512, .f32⟩ : BufTy).Contents (Elt F) → (⟨S1x8192x512, .f32⟩ : BufTy).Contents (Elt F)),
    unary main_v18 main_v26 (broadcastInDim S1x8192x512 ![1, 2] bcast_S8192x512_S1x8192x512_1_2 : (⟨S8192x512, .f32⟩ : BufTy).Contents (Elt F) → (⟨S1x8192x512, .f32⟩ : BufTy).Contents (Elt F)),
    unary main_v19 main_v27 (broadcastInDim S1x8192x512 ![1, 2] bcast_S8192x512_S1x8192x512_1_2 : (⟨S8192x512, .f32⟩ : BufTy).Contents (Elt F) → (⟨S1x8192x512, .f32⟩ : BufTy).Contents (Elt F)),
    unary main_v20 main_v28 (broadcastInDim S1x8192x512 ![1, 2] bcast_S8192x512_S1x8192x512_1_2 : (⟨S8192x512, .f32⟩ : BufTy).Contents (Elt F) → (⟨S1x8192x512, .f32⟩ : BufTy).Contents (Elt F)),
    unary main_v21 main_v29 (broadcastInDim S1x8192x512 ![1, 2] bcast_S8192x512_S1x8192x512_1_2 : (⟨S8192x512, .f32⟩ : BufTy).Contents (Elt F) → (⟨S1x8192x512, .f32⟩ : BufTy).Contents (Elt F)),
    nary ![main_v22, main_v23, main_v24, main_v25, main_v26, main_v27, main_v28, main_v29] main_v30 (fun u => stackB (F := F) (u 0) (u 1) (u 2) (u 3) (u 4) (u 5) (u 6) (u 7)),
    unary main_v12 main_v31 (broadcastInDim S1x8192x1 ![1] bcast_S8192_S1x8192x1_1 : (⟨S8192, .i32⟩ : BufTy).Contents (Elt F) → (⟨S1x8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1x8192x1, .i32⟩) main_call1_v0) (broadcastInDim S1x8192x1 ![] bcast_S_S1x8192x1),
    TRef.binary (TRef.of (T := ⟨S1x8192x1, .i32⟩) main_v31) (TRef.of (T := ⟨S1x8192x1, .i32⟩) main_call1_v0) (TRef.of (T := ⟨S1x8192x1, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S1x8192x1, .i32⟩) main_call1_v2) (broadcastInDim S1x8192x1 ![] bcast_S_S1x8192x1),
    TRef.binary (TRef.of (T := ⟨S1x8192x1, .i32⟩) main_v31) (TRef.of (T := ⟨S1x8192x1, .i32⟩) main_call1_v2) (TRef.of (T := ⟨S1x8192x1, .i32⟩) main_call1_v3) addi,
    TRef.ternary (TRef.of (T := ⟨S1x8192x1, .i1⟩) main_call1_v1) (TRef.of (T := ⟨S1x8192x1, .i32⟩) main_call1_v3) (TRef.of (T := ⟨S1x8192x1, .i32⟩) main_v31) (TRef.of (T := ⟨S1x8192x1, .i32⟩) main_call1_v4) select,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S1x8192x1, .i32⟩) main_call1_v5) (broadcastInDim S1x8192x1 ![] bcast_S_S1x8192x1),
    TRef.binary (TRef.of (T := ⟨S1x8192x1, .i32⟩) main_call1_v4) (TRef.of (T := ⟨S1x8192x1, .i32⟩) main_call1_v5) (TRef.of (T := ⟨S1x8192x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S1x8192x1, .i32⟩) main_call1_v8) (broadcastInDim S1x8192x1 ![0, 1, 2] bcast_S1x1x1_S1x8192x1_0_1_2),
    TRef.binary (TRef.of (T := ⟨S1x8192x1, .i32⟩) main_call1_v4) (TRef.of (T := ⟨S1x8192x1, .i32⟩) main_call1_v8) (TRef.of (T := ⟨S1x8192x1, .i1⟩) main_call1_v9) (cmpi .sle),
    TRef.binary (TRef.of (T := ⟨S1x8192x1, .i1⟩) main_call1_v6) (TRef.of (T := ⟨S1x8192x1, .i1⟩) main_call1_v9) (TRef.of (T := ⟨S1x8192x1, .i1⟩) main_call1_v10) andi,
    TRef.nullary (TRef.of (T := ⟨S_, .i1⟩) main_call1_c_3) (constantI S_ 1 1#1),
    TRef.binary (TRef.of (T := ⟨S1x8192x1, .i1⟩) main_call1_v10) (TRef.of (T := ⟨S_, .i1⟩) main_call1_c_3) (TRef.of (T := ⟨S1x8192, .i1⟩) main_call1_v11) (fun x v => Host.reduce IntOp.andi x v reducesTo_S1x8192x1_S1x8192_d2 h_S_),
    TRef.binary (TRef.of (T := ⟨S8x8192x512, .f32⟩) main_v30) (TRef.of (T := ⟨S1x8192x1, .i32⟩) main_call1_v4) (TRef.of (T := ⟨S1x8192x512, .f32⟩) main_call1_v12) (fun x i => Host.gather gather_S8x8192x512_S1x8192x1_S1x8192x512_2_0_1_1_0_2_11512 x i),
    TRef.unary (TRef.of (T := ⟨S1x8192, .i1⟩) main_call1_v11) (TRef.of (T := ⟨S1x8192x512, .i1⟩) main_call1_v13) (broadcastInDim S1x8192x512 ![0, 1] bcast_S1x8192_S1x8192x512_0_1),
    TRef.nullary (TRef.of (T := ⟨S_, .f32⟩) main_call1_cst) (constant S_ .f32 0x7FC00000#32),
    TRef.unary (TRef.of (T := ⟨S_, .f32⟩) main_call1_cst) (TRef.of (T := ⟨S1x8192x512, .f32⟩) main_call1_v14) (broadcastInDim S1x8192x512 ![] bcast_S_S1x8192x512),
    TRef.ternary (TRef.of (T := ⟨S1x8192x512, .i1⟩) main_call1_v13) (TRef.of (T := ⟨S1x8192x512, .f32⟩) main_call1_v12) (TRef.of (T := ⟨S1x8192x512, .f32⟩) main_call1_v14) (TRef.of (T := ⟨S1x8192x512, .f32⟩) main_v32) select,
    reshape main_v32 main_v33 (rfl : (.f32 : EltTy) = .f32) shapeCasts_S1x8192x512_S8192x512,
    unary main_v33 main_v34 ((extractStridedSlice S8192x256 ![0, 0] · slices_S8192x512_S8192x256_0_0) : (⟨S8192x512, .f32⟩ : BufTy).Contents (Elt F) → (⟨S8192x256, .f32⟩ : BufTy).Contents (Elt F)),
    unary main_v33 main_v35 ((extractStridedSlice S8192x256 ![0, 256] · slices_S8192x512_S8192x256_0_256) : (⟨S8192x512, .f32⟩ : BufTy).Contents (Elt F) → (⟨S8192x256, .f32⟩ : BufTy).Contents (Elt F)),
    nullary main_cst_2 (constant S_ .f32 0x3F000000#32),
    unary main_cst_2 main_v36 (broadcastInDim S8192x256 ![] bcast_S_S8192x256 : (⟨S_, .f32⟩ : BufTy).Contents (Elt F) → (⟨S8192x256, .f32⟩ : BufTy).Contents (Elt F)),
    binary main_v36 main_v35 main_v37 (mulf : (⟨S8192x256, .f32⟩ : BufTy).Contents (Elt F) → (⟨S8192x256, .f32⟩ : BufTy).Contents (Elt F) → (⟨S8192x256, .f32⟩ : BufTy).Contents (Elt F)),
    unary main_v37 main_v38 (Host.exp : (⟨S8192x256, .f32⟩ : BufTy).Contents (Elt F) → (⟨S8192x256, .f32⟩ : BufTy).Contents (Elt F)),
    reshape main_arg1 main_v39 (rfl : (.f32 : EltTy) = .f32) shapeCasts_S16384x128_S8192x256,
    binary main_v38 main_v39 main_v40 (mulf : (⟨S8192x256, .f32⟩ : BufTy).Contents (Elt F) → (⟨S8192x256, .f32⟩ : BufTy).Contents (Elt F) → (⟨S8192x256, .f32⟩ : BufTy).Contents (Elt F)),
    binary main_v34 main_v40 main_v41 (addf : (⟨S8192x256, .f32⟩ : BufTy).Contents (Elt F) → (⟨S8192x256, .f32⟩ : BufTy).Contents (Elt F) → (⟨S8192x256, .f32⟩ : BufTy).Contents (Elt F)),
    binary main_v34 main_v35 main_v42 (joinB (F := F)) ]

set_option maxRecDepth 8192 in
set_option maxHeartbeats 4000000 in
/-- The reference is its operations in order. -/
theorem main_ops (c : Dev nD) : main (F := F) c = seq ops := rfl

/-- The reference scopes no buffer. -/
theorem no_scoped_refs : (Finset.univ.filter fun b : Ref sig .tc => b.isScoped) = ∅ := by decide

/-- The reference scopes no semaphore. -/
theorem no_scoped_sems : (Finset.univ.filter fun sm : SemLoc sig => sm.isScoped .tc) = ∅ := by decide

set_option maxRecDepth 8192 in
/-- Every operation stays within the buffers of the program. -/
theorem ops_within : (ops : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., nullary_bufs_sub .., unary_bufs_sub .., binary_bufs_sub .., unary_bufs_sub .., reshape_bufs_sub .., binary_bufs_sub .., binary_bufs_sub .., binary_bufs_sub ..⟩

set_option maxRecDepth 8192 in
set_option maxHeartbeats 28000000 in
/-- From any memory the reference ends with its three results as named above, and its arguments as they were. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = probR (F := F) (m ((c.tc : Thread nD τ).loc main_arg0))
      ∧ r.2.mem ((c.tc : Thread nD τ).loc main_v42) = compR (F := F) (m ((c.tc : Thread nD τ).loc main_arg0))
      ∧ r.2.mem ((c.tc : Thread nD τ).loc main_v41) = sampR (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      (h c main_v11).trans (by simp only [ops, TRef.binary, TRef.nullary, TRef.ternary, TRef.quaternary, TRef.unary, TRef.toBuf, TRef.ofBuf, cast_eq]; after_results_simp <;> (try dsimp only [Matrix.cons_val]) <;> (try after_results_simp) <;> rfl),
      (h c main_v42).trans (by simp only [ops, TRef.binary, TRef.nullary, TRef.ternary, TRef.quaternary, TRef.unary, TRef.toBuf, TRef.ofBuf, cast_eq]; after_results_simp <;> (try dsimp only [Matrix.cons_val]) <;> (try after_results_simp) <;> rfl),
      (h c main_v41).trans (by simp only [ops, TRef.binary, TRef.nullary, TRef.ternary, TRef.quaternary, TRef.unary, TRef.toBuf, TRef.ofBuf, cast_eq]; after_results_simp <;> (try dsimp only [Matrix.cons_val]) <;> (try after_results_simp) <;> rfl),
      (h c main_arg0).trans (by simp only [ops, TRef.binary, TRef.nullary, TRef.ternary, TRef.quaternary, TRef.unary, TRef.toBuf, TRef.ofBuf, cast_eq]; after_results_simp <;> (try dsimp only [Matrix.cons_val]) <;> (try after_results_simp) <;> rfl),
      (h c main_arg1).trans (by simp only [ops, TRef.binary, TRef.nullary, TRef.ternary, TRef.quaternary, TRef.unary, TRef.toBuf, TRef.ofBuf, cast_eq]; after_results_simp <;> (try dsimp only [Matrix.cons_val]) <;> (try after_results_simp) <;> rfl)⟩)
    (run_seq no_scoped_refs no_scoped_sems defs main (fun _ => ops) main_ops (fun _ => ops_within) m ρ)

end Cert.Proof.Ref

end
-- ==== Proof.Pick.lean ====
/-
  The selector over the extended reals: the reference's reductions of eight logits are the kernel's left-to-right ones, and
  dividing by the sum of the exponentials is multiplying by one over it.
-/
module

public import proofs.«01_k».proof.Proof.Select
public import proofs.«01_k».proof.Proof.Ref
public import Idealize.ShloMosaic.PureOps.Ideal.Laws

@[expose] public section

noncomputable section

namespace Cert.Proof.Val

open Idealize.ShloMosaic
open Cert.Proof.Mix (bst chn exq invq prq chn_lt)
open Cert.ReferenceIdeal (reducer_argmax_f32_i32)

/-! ## Folds over eight -/

/-- A fold over the eight numbers in any order is the one from left to right. -/
theorem fold8 {α : Type} (op : α → α → α) [Std.Commutative op] [Std.Associative op] (b : α) (g : Fin 8 → α) :
    (Finset.univ : Finset (Fin 8)).fold op b g
      = op (op (op (op (op (op (op (op b (g 0)) (g 1)) (g 2)) (g 3)) (g 4)) (g 5)) (g 6)) (g 7) := by
  have h : (Finset.univ : Finset (Fin 8)).val.map g = ((List.map g [0, 1, 2, 3, 4, 5, 6, 7] : List α) : Multiset α) := rfl
  rw [Finset.fold, h, Multiset.coe_fold_l]
  rfl

/-! ## The largest logit, and its number -/

/-- The kernel's running best is the larger of the two. -/
theorem bst_step (x : Nat → Ideal .f32) (n : Nat) : bst x (n + 1) = (max (bst x n) (x (n + 1)) : EReal) := by
  show (Scalar.select (Ideal.cmp .ogt (x (n + 1)) (bst x n)) (x (n + 1)) (bst x n) : EReal) = _
  unfold Scalar.select Ideal.cmp
  by_cases h : (bst x n : EReal) < x (n + 1)
  · simp [h, max_eq_right h.le]
  · simp [h, max_eq_left (not_lt.mp h)]

/-- The running best is one of the logits. -/
theorem bst_mem (x : Nat → Ideal .f32) : ∀ n : Nat, ∃ k ≤ n, (bst x n : EReal) = x k
  | 0 => ⟨0, Nat.le_refl _, rfl⟩
  | n + 1 => by
    obtain ⟨k, hk, e⟩ := bst_mem x n
    rw [bst_step]
    rcases max_cases (bst x n : EReal) (x (n + 1)) with ⟨h, _⟩ | ⟨h, _⟩
    · exact ⟨k, by omega, h.trans e⟩
    · exact ⟨n + 1, Nat.le_refl _, h⟩

/-- The reference's largest logit is the kernel's. -/
theorem max_fold (x : Nat → Ideal .f32) :
    (Finset.univ : Finset (Fin 8)).fold (FloatOps.maximumf (F := Ideal) (φ := .f32)) (⊥ : EReal) (fun k => x k.val) = bst x 7 := by
  rw [fold8]
  have h : ∀ n, (FloatOps.maximumf (F := Ideal) (φ := .f32) (bst x n) (x (n + 1)) : EReal) = bst x (n + 1) :=
    fun n => (bst_step x n).symm
  have h0 : (FloatOps.maximumf (F := Ideal) (φ := .f32) (⊥ : EReal) (x 0) : EReal) = bst x 0 := max_bot_left _
  show FloatOps.maximumf (F := Ideal) (φ := .f32) (FloatOps.maximumf (F := Ideal) (φ := .f32) (FloatOps.maximumf (F := Ideal) (φ := .f32)
    (FloatOps.maximumf (F := Ideal) (φ := .f32) (FloatOps.maximumf (F := Ideal) (φ := .f32) (FloatOps.maximumf (F := Ideal) (φ := .f32)
    (FloatOps.maximumf (F := Ideal) (φ := .f32) (FloatOps.maximumf (F := Ideal) (φ := .f32) (⊥ : EReal) (x 0)) (x 1)) (x 2)) (x 3)) (x 4)) (x 5)) (x 6)) (x 7) = _
  rw [h0, h 0, h 1, h 2, h 3, h 4, h 5, h 6]

/-- A pair goes before another: its value is larger, or the same and its number smaller. -/
def before (a b : EReal × BitVec 32) : Prop := b.1 < a.1 ∨ (a.1 = b.1 ∧ a.2.toInt < b.2.toInt)

/-- Of two pairs the reference's reducer keeps the one that goes before. -/
theorem red_eq (a b : EReal × BitVec 32) [Decidable (before a b)] :
    reducer_argmax_f32_i32 (F := Ideal) a b = if before a b then a else b := by
  obtain ⟨a1, a2⟩ := a
  obtain ⟨b1, b2⟩ := b
  have e : reducer_argmax_f32_i32 (F := Ideal) (a1, a2) (b1, b2)
      = ((if b1 < a1 then a1 else b1), (if b1 < a1 ∨ (a1 = b1 ∧ a2.toInt < b2.toInt) then a2 else b2)) := by
    show ((Scalar.select (IntOp.ori (Ideal.cmp .ogt a1 b1) (Ideal.cmp .une a1 a1)) a1 b1 : EReal),
      Scalar.select (IntOp.ori (IntOp.ori (Ideal.cmp .ogt a1 b1) (Ideal.cmp .une a1 a1))
        (IntOp.andi (Ideal.cmp .oeq a1 b1) (IntOp.cmpi .slt a2 b2))) a2 b2) = _
    unfold Scalar.select Ideal.cmp IntOp.ori IntOp.andi IntOp.cmpi
    by_cases h : b1 < a1 <;> by_cases h' : a1 = b1 <;> by_cases h'' : a2.toInt < b2.toInt <;>
      simp [h, h', h'', BitVec.slt]
  rw [e]
  by_cases h : b1 < a1
  · have : before (a1, a2) (b1, b2) := Or.inl h
    simp [h, this]
  · by_cases h' : a1 = b1 ∧ a2.toInt < b2.toInt
    · have : before (a1, a2) (b1, b2) := Or.inr h'
      rw [if_neg h, if_pos this, if_pos (Or.inr h'), h'.1]
    · have : ¬before (a1, a2) (b1, b2) := fun q => q.elim h h'
      rw [if_neg h, if_neg this, if_neg (fun q => q.elim h h')]

open Classical in
/-- One of two different pairs goes before the other, and only one. -/
theorem before_total (a b : EReal × BitVec 32) (h : ¬before a b) (h' : ¬before b a) : a = b := by
  unfold before at h h'
  push Not at h h'
  have e : a.1 = b.1 := le_antisymm h.1 h'.1
  have i : a.2.toInt = b.2.toInt := by
    have := h.2 e
    have := h'.2 e.symm
    omega
  exact Prod.ext e (BitVec.eq_of_toInt_eq i)

/-- Going before is asymmetric. -/
theorem before_asymm {a b : EReal × BitVec 32} (h : before a b) (h' : before b a) : False := by
  unfold before at h h'
  rcases h with h | ⟨e, h⟩ <;> rcases h' with h' | ⟨e', h'⟩
  · exact lt_asymm h h'
  · exact absurd e' h.ne
  · exact absurd e h'.ne
  · omega

/-- Going before is transitive. -/
theorem before_trans {a b c : EReal × BitVec 32} (h : before a b) (h' : before b c) : before a c := by
  unfold before at h h' ⊢
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

open Classical in
/-- The reducer does not look at the order of its pairs. -/
instance red_comm : Std.Commutative (reducer_argmax_f32_i32 (F := Ideal)) where
  comm a b := by
    rw [red_eq, red_eq]
    by_cases h : before a b <;> by_cases h' : before b a
    · exact (before_asymm h h').elim
    · rw [if_pos h, if_neg h']
    · rw [if_neg h, if_pos h']
    · rw [if_neg h, if_neg h']; exact (before_total a b h h').symm

open Classical in
/-- Nor at how they are grouped. -/
instance red_assoc : Std.Associative (reducer_argmax_f32_i32 (F := Ideal)) where
  assoc a b c := by
    simp only [red_eq]
    by_cases h : before a b <;> by_cases h' : before b c <;> by_cases h'' : before a c <;> simp only [h, h', h'', if_true, if_false]
    · exact absurd (before_trans h h') h''
    · -- neither goes before the next: were the first before the last, the middle one would equal one of them
      by_cases g : before b a
      · exact absurd (before_trans g h'') h'
      · have := before_total a b h g
        exact absurd (this ▸ h'') h'

/-- The number of a logit, as a word, read back. -/
theorem toInt_small {w : BitVec 32} {n : Nat} (h : w.toNat ≤ n) (hn : n ≤ 7) : w.toInt = w.toNat := by
  rw [BitVec.toInt_eq_toNat_cond]
  rw [if_pos (by omega)]

open Classical in
/-- The reference's argmax takes the kernel's step. -/
theorem red_step (x : Nat → Ideal .f32) (n : Nat) (hn : n + 1 ≤ 7) :
    reducer_argmax_f32_i32 (F := Ideal) (bst x n, chn x n) (x (n + 1), BitVec.ofNat 32 (n + 1)) = (bst x (n + 1), chn x (n + 1)) := by
  have hc : (chn x n).toInt < (BitVec.ofNat 32 (n + 1)).toInt := by
    have h1 := chn_lt x n (by omega)
    have e2 : (BitVec.ofNat 32 (n + 1)).toNat = n + 1 := by rw [BitVec.toNat_ofNat]; omega
    rw [toInt_small h1 (by omega), toInt_small (n := n + 1) (by omega) hn, e2]
    omega
  rw [red_eq]
  show _ = ((Scalar.select (Ideal.cmp .ogt (x (n + 1)) (bst x n)) (x (n + 1)) (bst x n) : EReal),
    Scalar.select (Ideal.cmp .ogt (x (n + 1)) (bst x n)) (BitVec.ofNat 32 (n + 1)) (chn x n))
  unfold Scalar.select Ideal.cmp
  by_cases h : (bst x n : EReal) < x (n + 1)
  · have hb : ¬before (bst x n, chn x n) (x (n + 1), BitVec.ofNat 32 (n + 1)) := fun q =>
      q.elim (fun q => lt_asymm h q) (fun q => absurd q.1 h.ne)
    rw [if_neg hb]
    simp [h]
  · have hb : before (bst x n, chn x n) (x (n + 1), BitVec.ofNat 32 (n + 1)) := by
      rcases (not_lt.mp h).lt_or_eq with q | q
      · exact Or.inl q
      · exact Or.inr ⟨q.symm, hc⟩
    rw [if_pos hb]
    simp [h]

open Classical in
/-- Its first step takes the first logit. -/
theorem red_first (x : Nat → Ideal .f32) :
    reducer_argmax_f32_i32 (F := Ideal) ((⊥ : EReal), 0#32) (x 0, BitVec.ofNat 32 0) = (bst x 0, chn x 0) := by
  have hb : ¬before ((⊥ : EReal), 0#32) (x 0, BitVec.ofNat 32 0) := fun q =>
    q.elim (fun q => not_lt_bot q) (fun q => lt_irrefl _ q.2)
  rw [red_eq, if_neg hb]
  rfl

/-- The reference's argmax of the eight logits: the kernel's best and its number. -/
theorem arg_fold (x : Nat → Ideal .f32) :
    (Finset.univ : Finset (Fin 8)).fold (reducer_argmax_f32_i32 (F := Ideal)) ((⊥ : EReal), 0#32)
      (fun k => ((x k.val, BitVec.ofNat 32 k.val) : EReal × BitVec 32)) = (bst x 7, chn x 7) := by
  rw [fold8]
  have h := red_step x
  have h0 := red_first x
  refine Eq.trans ?_ (h 6 (by omega))
  refine congrArg (fun q => reducer_argmax_f32_i32 (F := Ideal) q (x 7, BitVec.ofNat 32 7)) ?_
  refine Eq.trans ?_ (h 5 (by omega))
  refine congrArg (fun q => reducer_argmax_f32_i32 (F := Ideal) q (x 6, BitVec.ofNat 32 6)) ?_
  refine Eq.trans ?_ (h 4 (by omega))
  refine congrArg (fun q => reducer_argmax_f32_i32 (F := Ideal) q (x 5, BitVec.ofNat 32 5)) ?_
  refine Eq.trans ?_ (h 3 (by omega))
  refine congrArg (fun q => reducer_argmax_f32_i32 (F := Ideal) q (x 4, BitVec.ofNat 32 4)) ?_
  refine Eq.trans ?_ (h 2 (by omega))
  refine congrArg (fun q => reducer_argmax_f32_i32 (F := Ideal) q (x 3, BitVec.ofNat 32 3)) ?_
  refine Eq.trans ?_ (h 1 (by omega))
  refine congrArg (fun q => reducer_argmax_f32_i32 (F := Ideal) q (x 2, BitVec.ofNat 32 2)) ?_
  refine Eq.trans ?_ (h 0 (by omega))
  refine congrArg (fun q => reducer_argmax_f32_i32 (F := Ideal) q (x 1, BitVec.ofNat 32 1)) ?_
  exact h0

/-! ## The probabilities -/

/-- An exponential is not negative. -/
theorem exp_nonneg (x : EReal) : 0 ≤ Ideal.exp x := by
  induction x with
  | bot => exact le_refl _
  | top => exact le_top
  | coe r => exact EReal.coe_nonneg.mpr (Real.exp_pos r).le

/-- The exponentials' sum. -/
def sumq (x : Nat → Ideal .f32) : EReal := ∑ k : Fin 8, (exq x k.val : EReal)

/-- With a finite largest logit it is not zero. -/
theorem sumq_pos (x : Nat → Ideal .f32) (hb : (bst x 7 : EReal) ≠ ⊥) (ht : (bst x 7 : EReal) ≠ ⊤) : 0 < sumq x := by
  obtain ⟨k, hk, e⟩ := bst_mem x 7
  have h1 : (exq x k : EReal) = 1 := by
    show Ideal.exp ((x k : EReal) - bst x 7) = 1
    rw [← e, EReal.sub_self ht hb]
    show ((Real.exp 0 : ℝ) : EReal) = 1
    rw [Real.exp_zero]; rfl
  have h2 : (exq x k : EReal) ≤ sumq x :=
    Finset.single_le_sum (f := fun k : Fin 8 => (exq x k.val : EReal)) (fun i _ => exp_nonneg _) (Finset.mem_univ (⟨k, by omega⟩ : Fin 8))
  exact lt_of_lt_of_le (by rw [h1]; exact zero_lt_one) h2

/-- The word of the number one. -/
theorem one_word : (Ideal.ofBits .f32 0x3F800000#32 : EReal) = 1 := by
  simp [Ideal.ofBits, Ideal.ieee]
  rw [← EReal.coe_mul, ← EReal.coe_one]
  norm_num

/-- The kernel's `1 / sum`. -/
theorem invq_eq (x : Nat → Ideal .f32) : (invq x : EReal) = Ideal.div 1 (sumq x) := by
  show Ideal.div (Ideal.ofBits .f32 0x3F800000#32)
    ((((exq x 0 : EReal) + exq x 1) + (exq x 2 + exq x 3)) + ((exq x 4 + exq x 5) + (exq x 6 + exq x 7))) = _
  rw [one_word]
  congr 1
  unfold sumq
  rw [Fin.sum_univ_eight]
  show _ = (exq x 0 : EReal) + exq x 1 + exq x 2 + exq x 3 + exq x 4 + exq x 5 + exq x 6 + exq x 7
  ac_rfl

/-- With a finite largest logit a probability is the exponential over the sum. -/
theorem prq_eq (x : Nat → Ideal .f32) (k : Nat) (hb : (bst x 7 : EReal) ≠ ⊥) (ht : (bst x 7 : EReal) ≠ ⊤) :
    (prq x k : EReal) = Ideal.div (exq x k) (sumq x) := by
  show (exq x k : EReal) * invq x = _
  have h := (sumq_pos x hb ht).ne'
  rw [invq_eq]
  unfold Ideal.div
  rw [if_neg h, if_neg h, one_mul]

end Cert.Proof.Val

end
-- ==== Proof.Value.lean ====
/-
  Over the extended reals the reference's three results are the kernel's: the probabilities where every largest logit is finite,
  the chosen components and the samples always.
-/
module

public import proofs.«01_k».proof.Proof.Run
public import proofs.«01_k».proof.Proof.Pick
public import proofs.«01_k».proof.Proof.Gen.Pre_top_logit_finite
public import Idealize.ShloMosaic.Lib.Pipeline.Value
public import Idealize.ShloMosaic.Lib.Pipeline.ValueKit.Tiles
public import Idealize.ShloMosaic.Lib.Affine

@[expose] public section

noncomputable section

namespace Cert.Proof.Val

open Idealize.ShloMosaic
open Cert.Proof.Mix (at1 at2 eq_at2 lgt chT chT_lt compG sampG tabG probG smp bst chn exq invq prq chn_lt)
open Cert.Proof.Ref
open Cert.ReferenceIdeal Cert.ReferenceIdeal.Gen

/-- The raw parameters, over the extended reals. -/
abbrev Raw := FVec Ideal S8192x4104 .f32
/-- The noise, over the extended reals. -/
abbrev Noise := FVec Ideal S16384x128 .f32

/-- A token's logits. -/
abbrev lg (A : Raw) (T : Nat) : Nat → Ideal .f32 := lgt (F := Ideal) A T

/-- The number of a token's chosen component. -/
abbrev ct (A : Raw) (T : Nat) : Nat := chT (F := Ideal) A T

/-- The token of an element of the logits' table. -/
def row (y : S8192x8.Idx) : S8192.Idx := fun a => match a with | ⟨0, _⟩ => ⟨(y 0).val, (y 0).isLt⟩

/-! ## Words of one bit, and a conjunction of many -/

/-- A running conjunction ends true exactly when every word of it is. -/
theorem and_all {α : Type} (g : α → BitVec 1) : ∀ (l : List α) (b : BitVec 1),
    l.foldl (fun r n => IntOp.andi r (g n)) b = 1#1 ↔ b = 1#1 ∧ ∀ n ∈ l, g n = 1#1
  | [], b => by simp
  | n :: l, b => by
    have e : ∀ x y : BitVec 1, IntOp.andi x y = 1#1 ↔ x = 1#1 ∧ y = 1#1 := by decide
    rw [List.foldl_cons, and_all g l, e]
    simp [and_assoc]

/-! ## The probabilities -/

/-- A logit. -/
theorem logits_at (A : Raw) (y : S8192x8.Idx) : logits A y = lg A (y 0).val (y 1).val := by
  refine extractStridedSlice_apply _ _ _ _ _ ?_
  have h0 : (y 0).val < 8192 := (y 0).isLt
  have h1 : (y 1).val < 8 := (y 1).isLt
  intro a
  match a with
  | ⟨0, _⟩ => show (y 0).val % 8192 = 0 + (y 0).val; omega
  | ⟨1, _⟩ => show (y 1).val % 4104 = 0 + (y 1).val; omega

/-- The word of minus infinity. -/
theorem bot_word : (Ideal.ofBits .f32 0xFF800000#32 : EReal) = ⊥ := by
  simp [Ideal.ofBits, Ideal.ieee]

/-- The word of plus infinity. -/
theorem top_word : (Ideal.ofBits .f32 0x7F800000#32 : EReal) = ⊤ := by
  simp [Ideal.ofBits, Ideal.ieee]

/-- The eight logits of a row lie along the second axis. -/
theorem red8 : S8192x8.Reduces [1] S8192 := by decide

/-- The largest logit, as a reduction. -/
theorem reduce_max (A : Raw) (h' : S8192x8.ReducesTo [1] S8192) (hu : 0 < S_.numel) (j : S8192.Idx) :
    Host.reduce (FloatOps.maximumf (F := Ideal) (φ := .f32)) (logits A) (constant S_ .f32 0xFF800000#32) h' hu j = bst (lg A (j 0).val) 7 := by
  rw [Host.reduce_eq_fold_single _ _ _ h' red8 hu j, ← max_fold]
  show (Finset.univ : Finset (Fin 8)).fold (FloatOps.maximumf (F := Ideal) (φ := .f32)) (Ideal.ofBits .f32 0xFF800000#32) (logits A ∘ red8.lift j) = _
  rw [bot_word]
  exact congrArg (fun g => (Finset.univ : Finset (Fin 8)).fold (FloatOps.maximumf (F := Ideal) (φ := .f32)) (⊥ : EReal) g)
    (funext fun k => logits_at A (red8.lift j k))

/-- The reference's largest logit. -/
theorem topR_at (A : Raw) (j : S8192.Idx) : topR A j = bst (lg A (j 0).val) 7 := by
  unfold topR
  have e : ∀ u v : FVec Ideal S8192 .f32, maximumf u v j = (max (u j) (v j) : EReal) := fun _ _ => rfl
  have b : broadcastInDim S8192 ![] bcast_S_S8192 (constant S_ .f32 0xFF800000#32 : FVec Ideal S_ .f32) j = (⊥ : EReal) := bot_word
  rw [e, b, reduce_max, max_bot_left]

/-- A row's value spread over its eight columns. -/
theorem spread_at {α : Type} (v : S8192.Idx → α) (y : S8192x8.Idx) :
    broadcastInDim S8192x8 ![0, 1] bcast_S8192x1_S8192x8_0_1 (broadcastInDim S8192x1 ![0] bcast_S8192_S8192x1_0 v) y = v (row y) :=
  congrArg v (funext fun a => match a with | ⟨0, _⟩ => rfl)

/-- The reference's exponentials. -/
theorem expR_at (A : Raw) (y : S8192x8.Idx) : expR A y = exq (lg A (y 0).val) (y 1).val := by
  show Ideal.exp ((logits A y : EReal) - broadcastInDim S8192x8 ![0, 1] bcast_S8192x1_S8192x8_0_1 (broadcastInDim S8192x1 ![0] bcast_S8192_S8192x1_0 (topR A)) y) = _
  rw [spread_at, topR_at, logits_at]
  rfl

/-- The reference's sum of them. -/
theorem sumR_at (A : Raw) (j : S8192.Idx) :
    Host.reduceAdd (expR A) (constant S_ .f32 0x00000000#32) reducesTo_S8192x8_S8192_d1 h_S_ j = sumq (lg A (j 0).val) := by
  show Ideal.hostReduceAdd reducesTo_S8192x8_S8192_d1 (expR A) (Ideal.ofBits .f32 0x00000000#32) j = _
  rw [Ideal.hostReduceAdd_single _ red8, Ideal.ofBits_zero_f32, zero_add]
  exact Finset.sum_congr rfl fun k _ => expR_at A (red8.lift j k)

/-- Every largest logit is finite, row by row. -/
theorem pre_rows (A : Raw) (B : Noise) (h : Cert.Pre_top_logit_finite.fn (F := Ideal) A B = fun _ => 1#1) (T : S8192.Idx) :
    (bst (lg A (T 0).val) 7 : EReal) ≠ ⊥ ∧ (bst (lg A (T 0).val) 7 : EReal) ≠ ⊤ := by
  have h1 := congrFun h (fun a => a.elim0)
  have h2 := ((and_all _ _ _).mp h1).2 (S8192.rowMajor T) (List.mem_filter.mpr ⟨List.mem_finRange _, decide_eq_true (funext fun a => a.elim0)⟩)
  rw [Equiv.symm_apply_apply] at h2
  have e : ∀ v : FVec Ideal S8192 .f32, cmpf .olt (Host.absf v) (broadcastInDim S8192 ![] Cert.Pre_top_logit_finite.Gen.bcast_S_S8192
      (constant S_ .f32 0x7F800000#32 : FVec Ideal S_ .f32)) T = Ideal.cmp .olt (max (v T : EReal) (-(v T : EReal))) (Ideal.ofBits .f32 0x7F800000#32) :=
    fun _ => rfl
  have h2' := (e _).symm.trans h2
  rw [top_word] at h2'
  have h3 : Ideal.cmp .olt (max (bst (lg A (T 0).val) 7 : EReal) (-(bst (lg A (T 0).val) 7 : EReal))) ⊤ = 1#1 := by
    rw [← reduce_max A reducesTo_S8192x8_S8192_d1 h_S_ T]
    exact h2'
  generalize (bst (lg A (T 0).val) 7 : EReal) = b at h3
  unfold Ideal.cmp at h3
  constructor
  · rintro rfl
    simp at h3
  · rintro rfl
    simp at h3

/-- The reference's probabilities are the kernel's. -/
theorem prob_eq (A : Raw) (B : Noise) (h : Cert.Pre_top_logit_finite.fn (F := Ideal) A B = fun _ => 1#1) : probR A = probG (F := Ideal) A := by
  funext y
  have h0 : (y 0).val < 8192 := (y 0).isLt
  have h1 : (y 1).val < 8 := (y 1).isLt
  have l : probR A y = Ideal.div (exq (lg A (y 0).val) (y 1).val) (sumq (lg A (y 0).val)) := by
    unfold probR
    have e : ∀ u v : FVec Ideal S8192x8 .f32, Host.divf u v y = Ideal.div (u y) (v y) := fun _ _ => rfl
    rw [e, spread_at, sumR_at, expR_at]
    rfl
  have r : probG (F := Ideal) A y = tabG (F := Ideal) A (at2 512 128 ((8 * (y 0).val + (y 1).val) / 128) ((8 * (y 0).val + (y 1).val) % 128)) := by
    refine shapeCast_apply _ _ _ _ ?_
    rw [Shape.rowMajor_val_two, Shape.rowMajor_val_two]
    show (8 * (y 0).val + (y 1).val) / 128 % 512 * 128 + (8 * (y 0).val + (y 1).val) % 128 % 128 = (y 0).val * 8 + (y 1).val
    omega
  rw [l, r]
  show _ = prq (lg A ((128 * ((8 * (y 0).val + (y 1).val) / 128 % 512) + (8 * (y 0).val + (y 1).val) % 128 % 128) / 8))
    ((8 * (y 0).val + (y 1).val) % 128 % 128 % 8)
  rw [show (128 * ((8 * (y 0).val + (y 1).val) / 128 % 512) + (8 * (y 0).val + (y 1).val) % 128 % 128) / 8 = (y 0).val by omega,
    show (8 * (y 0).val + (y 1).val) % 128 % 128 % 8 = (y 1).val by omega]
  have p := pre_rows A B h (row y)
  exact (prq_eq _ _ p.1 p.2).symm

/-! ## The chosen components -/

/-- The reference's argmax is the kernel's choice. -/
theorem chosenR_at (A : Raw) (j : S8192.Idx) : chosenR A j = chn (lg A (j 0).val) 7 := by
  unfold chosenR
  rw [Ideal.argReduce_eq_reduce2]
  have e : Host.reduce2 (reducer_argmax_f32_i32 (F := Ideal)) (logits A) (iotaInDim S8192x8 32 1) (constant S_ .f32 0xFF800000#32) (constantI S_ 32 0#32)
      reducesTo_S8192x8_S8192_d1 h_S_ j
      = Host.reduce (reducer_argmax_f32_i32 (F := Ideal)) (fun i => (logits A i, iotaInDim S8192x8 32 1 i))
        (fun u : S_.Idx => ((constant S_ .f32 0xFF800000#32 : FVec Ideal S_ .f32) u, constantI S_ 32 0#32 u)) reducesTo_S8192x8_S8192_d1 h_S_ j := rfl
  rw [e, Host.reduce_eq_fold_single _ _ _ _ red8 _ j]
  refine congrArg Prod.snd (Eq.trans ?_ (arg_fold (lg A (j 0).val)))
  show (Finset.univ : Finset (Fin 8)).fold (reducer_argmax_f32_i32 (F := Ideal)) (Ideal.ofBits .f32 0xFF800000#32, 0#32) _ = _
  rw [bot_word]
  exact congrArg (fun g => (Finset.univ : Finset (Fin 8)).fold (reducer_argmax_f32_i32 (F := Ideal)) ((⊥ : EReal), 0#32) g)
    (funext fun k => Prod.ext (logits_at A (red8.lift j k)) rfl)

/-- The element at three coordinates, each taken round its axis. -/
def at3 (n m l : Nat) [NeZero n] [NeZero m] [NeZero l] (a b c : Nat) : (⟨3, ![n, m, l]⟩ : Shape).Idx :=
  fun x => match x with
    | ⟨0, _⟩ => Fin.ofNat n a
    | ⟨1, _⟩ => Fin.ofNat m b
    | ⟨2, _⟩ => Fin.ofNat l c

/-- One block of the parameters, under its unit axis. -/
theorem piece_at (A : Raw) (o : Nat) (h : S8192x4096.Slices ![0, o] S8192x512) (ho : o + 512 ≤ 4096) (i : S1x8192x512.Idx) :
    broadcastInDim S1x8192x512 ![1, 2] bcast_S8192x512_S1x8192x512_1_2 (extractStridedSlice S8192x512 ![0, o] (paramsR A) h) i
      = A (at2 8192 4104 (i 1).val (8 + o + (i 2).val)) := by
  have h1 : (i 1).val < 8192 := (i 1).isLt
  have h2 : (i 2).val < 512 := (i 2).isLt
  refine congrArg A (funext fun a => ?_)
  match a with
  | ⟨0, _⟩ => exact Fin.ext (show 0 + (0 + (i 1).val) = (i 1).val % 8192 by omega)
  | ⟨1, _⟩ => exact Fin.ext (show 8 + (o + (i 2).val) = (8 + o + (i 2).val) % 4104 by omega)

/-- A piece of the stack is read at its number. -/
theorem piece_ok (A : Raw) (j : S8x8192x512.Idx) (n : Nat) (h : S8192x4096.Slices ![0, 512 * n] S8192x512) (hn : n < 8) :
    PieceAt (t := S8x8192x512) 0 j (A (at2 8192 4104 (j 1).val (8 + 512 * (j 0).val + (j 2).val))) S1x8192x512
      (broadcastInDim S1x8192x512 ![1, 2] bcast_S8192x512_S1x8192x512_1_2 (extractStridedSlice S8192x512 ![0, 512 * n] (paramsR A) h)) n := by
  intro hj hr i _ hb
  have e1 : (i 1).val = (j 1).val := hb 1 (by decide)
  have e2 : (i 2).val = (j 2).val := hb 2 (by decide)
  rw [piece_at A _ h (by omega) i, e1, e2]
  have hj' : (j 0).val = n := hj
  rw [hj']

/-- The stacked blocks: block `c` of a token begins at its column `8 + 512 c`. -/
theorem blocksR_at (A : Raw) (j : S8x8192x512.Idx) : blocksR A j = A (at2 8192 4104 (j 1).val (8 + 512 * (j 0).val + (j 2).val)) := by
  unfold blocksR stackB
  refine concatenate_unit_eq _ _ _ _ _ rfl ?_
  exact ⟨piece_ok A j 0 slices_S8192x4096_S8192x512_0_0 (by omega), piece_ok A j 1 slices_S8192x4096_S8192x512_0_512 (by omega), piece_ok A j 2 slices_S8192x4096_S8192x512_0_1024 (by omega), piece_ok A j 3 slices_S8192x4096_S8192x512_0_1536 (by omega),
    piece_ok A j 4 slices_S8192x4096_S8192x512_0_2048 (by omega), piece_ok A j 5 slices_S8192x4096_S8192x512_0_2560 (by omega), piece_ok A j 6 slices_S8192x4096_S8192x512_0_3072 (by omega), piece_ok A j 7 slices_S8192x4096_S8192x512_0_3584 (by omega), trivial⟩

/-- A word below eight is one of eight. -/
theorem word8 (w : BitVec 32) (h : w.toNat < 8) :
    w = 0#32 ∨ w = 1#32 ∨ w = 2#32 ∨ w = 3#32 ∨ w = 4#32 ∨ w = 5#32 ∨ w = 6#32 ∨ w = 7#32 := by
  have e : w = BitVec.ofNat 32 w.toNat := (BitVec.ofNat_toNat _ _).symm ▸ (by simp)
  rw [e]
  generalize w.toNat = n at h
  interval_cases n <;> simp

/-- A number below eight is left as it is. -/
theorem wrap_word (w : BitVec 32) (h : w.toNat < 8) : Scalar.select (IntOp.cmpi .slt w 0#32) (IntOp.addi w 8#32) w = w := by
  rcases word8 w h with rfl | rfl | rfl | rfl | rfl | rfl | rfl | rfl <;> decide

/-- It names a block. -/
theorem inside_word (w : BitVec 32) (h : w.toNat < 8) : IntOp.andi (IntOp.cmpi .sge w 0#32) (IntOp.cmpi .sle w 7#32) = 1#1 := by
  rcases word8 w h with rfl | rfl | rfl | rfl | rfl | rfl | rfl | rfl <;> decide

/-- Read as a signed number it is itself. -/
theorem int_word (w : BitVec 32) (h : w.toNat < 8) : min w.toInt.toNat 7 = w.toNat := by
  rcases word8 w h with rfl | rfl | rfl | rfl | rfl | rfl | rfl | rfl <;> decide

/-- Numbers below eight are left as they are. -/
theorem wrapR_eq (i : IVec S1x8192x1 32) (h : ∀ p, (i p).toNat < 8) : wrapR i = i :=
  funext fun p => wrap_word (i p) (h p)

/-- They all name a block. -/
theorem insideR_eq (i : IVec S1x8192x1 32) (h : ∀ p, (i p).toNat < 8) (q : S1x8192.Idx) : insideR i q = 1#1 :=
  (and_all _ _ _).mpr ⟨rfl, fun n _ => inside_word (i (S1x8192x1.rowMajor.symm n)) (h _)⟩

/-- The gather reads, for each token, its row of the block of its number. -/
theorem gather_at {α : Type} (x : S8x8192x512.Idx → α) (i : IVec S1x8192x1 32) (h : ∀ p, (i p).toNat < 8) (j : S1x8192x512.Idx) :
    Host.gather gather_S8x8192x512_S1x8192x1_S1x8192x512_2_0_1_1_0_2_11512 x i j
      = x (at3 8 8192 512 (i (at3 1 8192 1 0 (j 1).val 0)).toNat (j 1).val (j 2).val) := by
  have h0 : (j 0).val < 1 := (j 0).isLt
  have h1 : (j 1).val < 8192 := (j 1).isLt
  have h2 : (j 2).val < 512 := (j 2).isLt
  refine congrArg x (funext fun a => Fin.ext ?_)
  match a with
  | ⟨0, _⟩ =>
    show min (i (gather_S8x8192x512_S1x8192x1_S1x8192x512_2_0_1_1_0_2_11512.siIdx j ⟨0, by decide⟩)).toInt.toNat 7 + 0 + 0
      = (i (at3 1 8192 1 0 (j 1).val 0)).toNat % 8
    have e : gather_S8x8192x512_S1x8192x1_S1x8192x512_2_0_1_1_0_2_11512.siIdx j ⟨0, by decide⟩ = at3 1 8192 1 0 (j 1).val 0 := by
      funext b
      match b with
      | ⟨0, _⟩ => exact Fin.ext (show (j 0).val = 0 by omega)
      | ⟨1, _⟩ => exact Fin.ext (show (j 1).val = (j 1).val % 8192 by omega)
      | ⟨2, _⟩ => rfl
    have hw := h (at3 1 8192 1 0 (j 1).val 0)
    rw [e, int_word _ hw]
    omega
  | ⟨1, _⟩ => show 0 + (j 1).val + 0 = (j 1).val % 8192; omega
  | ⟨2, _⟩ => show 0 + 0 + (j 2).val = (j 2).val % 512; omega

/-- The taken blocks. -/
theorem takeR_at (x : FVec Ideal S8x8192x512 .f32) (i : IVec S1x8192x1 32) (h : ∀ p, (i p).toNat < 8) (j : S1x8192x512.Idx) :
    takeR x i j = x (at3 8 8192 512 (i (at3 1 8192 1 0 (j 1).val 0)).toNat (j 1).val (j 2).val) := by
  unfold takeR
  rw [wrapR_eq i h]
  show Scalar.select (insideR i _) (Host.gather gather_S8x8192x512_S1x8192x1_S1x8192x512_2_0_1_1_0_2_11512 x i j) _ = _
  rw [insideR_eq i h, gather_at x i h]
  rfl

/-- The reference's chosen parameters are the kernel's. -/
theorem selR_eq (A : Raw) : selR A = compG (F := Ideal) A := by
  funext y
  have h0 : (y 0).val < 8192 := (y 0).isLt
  have h1 : (y 1).val < 512 := (y 1).isLt
  have hi : ∀ p : S1x8192x1.Idx, broadcastInDim S1x8192x1 ![1] bcast_S8192_S1x8192x1_1 (chosenR A) p = chn (lg A (p 1).val) 7 := fun p =>
    chosenR_at A _
  have hs : ∀ p : S1x8192x1.Idx, (broadcastInDim S1x8192x1 ![1] bcast_S8192_S1x8192x1_1 (chosenR A) p).toNat < 8 := fun p => by
    rw [hi p]; exact chT_lt (F := Ideal) A _
  unfold selR
  rw [shapeCast_apply _ _ y (at3 1 8192 512 0 (y 0).val (y 1).val) (by
    rw [Shape.rowMajor_val_two, Shape.rowMajor_val_three]
    show (0 % 1 * 8192 + (y 0).val % 8192) * 512 + (y 1).val % 512 = (y 0).val * 512 + (y 1).val
    omega), takeR_at _ _ hs, hi, blocksR_at]
  have hc := chT_lt (F := Ideal) A (y 0).val
  show A (at2 8192 4104 ((y 0).val % 8192 % 8192) (8 + 512 * (ct A ((y 0).val % 8192 % 8192) % 8) + (y 1).val % 512 % 512)) = _
  rw [show (y 0).val % 8192 % 8192 = (y 0).val by omega, show (y 1).val % 512 % 512 = (y 1).val by omega, Nat.mod_eq_of_lt hc]
  rfl

/-- The means of the chosen components. -/
theorem meanR_at (A : Raw) (y : S8192x256.Idx) : meanR A y = compG (F := Ideal) A (at2 8192 512 (y 0).val (y 1).val) := by
  have h0 : (y 0).val < 8192 := (y 0).isLt
  have h1 : (y 1).val < 256 := (y 1).isLt
  unfold meanR
  rw [selR_eq]
  refine extractStridedSlice_apply _ _ _ _ _ fun a => ?_
  match a with
  | ⟨0, _⟩ => show (y 0).val % 8192 = 0 + (y 0).val; omega
  | ⟨1, _⟩ => show (y 1).val % 512 = 0 + (y 1).val; omega

/-- Their log-variances. -/
theorem lvarR_at (A : Raw) (y : S8192x256.Idx) : lvarR A y = compG (F := Ideal) A (at2 8192 512 (y 0).val (256 + (y 1).val)) := by
  have h0 : (y 0).val < 8192 := (y 0).isLt
  have h1 : (y 1).val < 256 := (y 1).isLt
  unfold lvarR
  rw [selR_eq]
  refine extractStridedSlice_apply _ _ _ _ _ fun a => ?_
  match a with
  | ⟨0, _⟩ => show (y 0).val % 8192 = 0 + (y 0).val; omega
  | ⟨1, _⟩ => show (256 + (y 1).val) % 512 = 256 + (y 1).val; omega

/-- The second result. -/
theorem comp_eq (A : Raw) : compR A = compG (F := Ideal) A := by
  funext y
  have h0 : (y 0).val < 8192 := (y 0).isLt
  have h1 : (y 1).val < 512 := (y 1).isLt
  unfold compR joinB
  by_cases hy : (y 1).val < 256
  · rw [concatenate_pair_apply_left (s₁ := S8192x256) (s₂ := S8192x256) _ _ _ _ y rfl (at2 8192 256 (y 0).val (y 1).val) (fun b => match b with
      | ⟨0, _⟩ => show (y 0).val % 8192 = (y 0).val by omega
      | ⟨1, _⟩ => show (y 1).val % 256 = (y 1).val by omega), meanR_at]
    refine congrArg _ (eq_at2 y ?_ ?_).symm
    · show (y 0).val = (y 0).val % 8192; omega
    · show (y 1).val = (y 1).val % 256; omega
  · rw [concatenate_pair_apply_right (t := S8192x512) (s₁ := S8192x256) (s₂ := S8192x256) 1 _ _ _ y rfl rfl (at2 8192 256 (y 0).val ((y 1).val - 256)) (fun b hb => match b with
      | ⟨0, _⟩ => show (y 0).val % 8192 = (y 0).val by omega
      | ⟨1, _⟩ => absurd rfl hb) (show ((y 1).val - 256) % 256 + 256 = (y 1).val by omega), lvarR_at]
    refine congrArg _ (eq_at2 y ?_ ?_).symm
    · show (y 0).val = (y 0).val % 8192; omega
    · show (y 1).val = 256 + ((y 1).val - 256) % 256; omega

/-- The third result. -/
theorem samp_eq (A : Raw) (B : Noise) : sampR A B = sampG (F := Ideal) A B := by
  funext y
  have h0 : (y 0).val < 8192 := (y 0).isLt
  have h1 : (y 1).val < 256 := (y 1).isLt
  have e : shapeCast S8192x256 B shapeCasts_S16384x128_S8192x256 y = B (at2 16384 128 (2 * (y 0).val + (y 1).val / 128) ((y 1).val % 128)) := by
    refine shapeCast_apply _ _ _ _ ?_
    rw [Shape.rowMajor_val_two, Shape.rowMajor_val_two]
    show (2 * (y 0).val + (y 1).val / 128) % 16384 * 128 + (y 1).val % 128 % 128 = (y 0).val * 256 + (y 1).val
    omega
  unfold sampR
  have a1 : ∀ u v : FVec Ideal S8192x256 .f32, addf u v y = (u y + v y : EReal) := fun _ _ => rfl
  have a2 : ∀ u v : FVec Ideal S8192x256 .f32, mulf u v y = (u y * v y : EReal) := fun _ _ => rfl
  have a3 : ∀ u : FVec Ideal S8192x256 .f32, Host.exp u y = Ideal.exp (u y) := fun _ => rfl
  have a4 : broadcastInDim S8192x256 ![] bcast_S_S8192x256 (constant S_ .f32 0x3F000000#32 : FVec Ideal S_ .f32) y = Ideal.ofBits .f32 0x3F000000#32 := rfl
  rw [a1, a2, a3, a2, a4, meanR_at, lvarR_at, e, mul_comm (Ideal.ofBits .f32 0x3F000000#32)]
  have c1 : compG (F := Ideal) A (at2 8192 512 (y 0).val (y 1).val) = A (at2 8192 4104 (y 0).val (8 + 512 * ct A (y 0).val + (y 1).val)) := by
    show A (at2 8192 4104 ((y 0).val % 8192) (8 + 512 * ct A ((y 0).val % 8192) + (y 1).val % 512)) = _
    rw [show (y 0).val % 8192 = (y 0).val by omega, show (y 1).val % 512 = (y 1).val by omega]
  have c2 : compG (F := Ideal) A (at2 8192 512 (y 0).val (256 + (y 1).val)) = A (at2 8192 4104 (y 0).val (8 + 512 * ct A (y 0).val + (y 1).val + 256)) := by
    show A (at2 8192 4104 ((y 0).val % 8192) (8 + 512 * ct A ((y 0).val % 8192) + (256 + (y 1).val) % 512)) = _
    rw [show (y 0).val % 8192 = (y 0).val by omega, show 8 + 512 * ct A (y 0).val + (256 + (y 1).val) % 512 = 8 + 512 * ct A (y 0).val + (y 1).val + 256 by omega]
  rw [c1, c2]
  rfl

end Cert.Proof.Val

end
-- ==== Proof.lean ====
/-
  The proof of this certificate's claims.
-/
module

public import proofs.«01_k».proof.Defs
public import proofs.«01_k».proof.Proof.Frames
public import proofs.«01_k».proof.Proof.Value
public import Idealize.ShloMosaic.Lib.StableHlo.Run

@[expose] public section

noncomputable section

namespace Cert.Proof

open Idealize.ShloMosaic Idealize.SL.Sem

/-- The reference ends, its arguments unchanged and every semaphore at zero. -/
theorem frame_reference : Cert.quiescent_ReferenceIdeal (hReferenceIdeal := Cert.ReferenceIdeal.Gen.facts) := fun m g _ =>
  (θ_run Cert.ReferenceIdeal.defs _ _).mono (fun r h => ⟨fun c => ⟨(h c).2.2.2.1, (h c).2.2.2.2⟩, sem_eq_zero_of_no_sems (by decide) r.2⟩)
    (Ref.run_ref (F := Ideal) m g)

/-- From the same arguments, every token's largest logit finite, the kernel's three results are the reference's. -/
theorem values : Cert.algebraic_KernelIdeal_ReferenceIdeal_pre_top_logit_finite (hKernelIdeal := Cert.KernelIdeal.Gen.facts)
    (hReferenceIdeal := Cert.ReferenceIdeal.Gen.facts) (hPre_top_logit_finite := Cert.Pre_top_logit_finite.Gen.facts) := by
  intro m g m' g' hp he
  refine ⟨fun c => Mix.probG (F := Ideal) (m ((c.tc : Thread Cert.KernelIdeal.nD Cert.KernelIdeal.τ).loc Cert.KernelIdeal.main_arg0)),
    fun c => Mix.compG (F := Ideal) (m ((c.tc : Thread Cert.KernelIdeal.nD Cert.KernelIdeal.τ).loc Cert.KernelIdeal.main_arg0)),
    fun c => Mix.sampG (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Mix.run_main (F := Ideal) m g)
    obtain ⟨a0, a1, hc, hs, ho⟩ := h.1 c
    exact ⟨ho, hc, hs, a0, a1⟩
  · refine (θ_run Cert.ReferenceIdeal.defs _ _).mono (fun r h c => ?_) (Ref.run_ref (F := Ideal) m' g')
    obtain ⟨hq, hc, hs, a0, a1⟩ := h c
    obtain ⟨e0, e1⟩ := he c
    rw [e0] at hq hc hs
    rw [e1] at hs
    exact ⟨hq.trans (Val.prob_eq _ _ (hp c)), hc.trans (Val.comp_eq _), hs.trans (Val.samp_eq _ _), a0, a1⟩

/-- The claims. -/
theorem claim : Cert.Claim :=
  ⟨Cert.Kernel.Gen.facts, Cert.KernelIdeal.Gen.facts, Cert.ReferenceIdeal.Gen.facts, Cert.Pre_top_logit_finite.Gen.facts,
    Mix.frame_kernel, Mix.frame_ideal, fun m g _ => Mix.frame_ideal m g trivial, frame_reference,
    fun m g _ => frame_reference m g trivial, trivial, values⟩

end Cert.Proof

end
